-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![4096, 2048]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = Layout.block ⟨2, ![128, 2048]⟩ ⟨2, ![4096, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x2048 : Shape := ⟨2, ![128, 2048]⟩
abbrev S1 : Shape := ⟨1, ![1]⟩
abbrev S32 : Shape := ⟨1, ![32]⟩
abbrev S_ : Shape := ⟨0, ![]⟩
abbrev S32x1 : Shape := ⟨2, ![32, 1]⟩
abbrev S2 : Shape := ⟨1, ![2]⟩
abbrev S2x128x1024 : Shape := ⟨3, ![2, 128, 1024]⟩
abbrev S2x2 : Shape := ⟨2, ![2, 2]⟩
abbrev S128x128 : Shape := ⟨2, ![128, 128]⟩
abbrev S128x1024 : Shape := ⟨2, ![128, 1024]⟩
abbrev S1x128x1024 : Shape := ⟨3, ![1, 128, 1024]⟩
abbrev S1x1 : Shape := ⟨2, ![1, 1]⟩
abbrev S1x128x512 : Shape := ⟨3, ![1, 128, 512]⟩
abbrev S128x512 : Shape := ⟨2, ![128, 512]⟩

abbrev nBuf : Space → Nat
  | .hbm => 146
  | .vmem => 7
  | .smem => 5
  | _ => 0

abbrev hbmTy0_0 (i : Nat) : BufTy := match i % 128 with
  | 0 => ⟨S4096x128, .i8⟩
  | 1 => ⟨S128x2048, .i8⟩
  | 2 => ⟨S1, .f32⟩
  | 3 => ⟨S1, .f32⟩
  | 4 => ⟨S32, .i32⟩
  | 5 => ⟨S32, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i1⟩
  | 14 => ⟨S_, .i32⟩
  | 15 => ⟨S_, .i32⟩
  | 16 => ⟨S_, .i32⟩
  | 17 => ⟨S1, .i32⟩
  | 18 => ⟨S_, .i32⟩
  | 19 => ⟨S32, .i32⟩
  | 20 => ⟨S_, .i32⟩
  | 21 => ⟨S_, .i32⟩
  | 22 => ⟨S32, .i32⟩
  | 23 => ⟨S32, .i32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S32, .i32⟩
  | 31 => ⟨S32, .i32⟩
  | 32 => ⟨S_, .i32⟩
  | 33 => ⟨S32, .i32⟩
  | 34 => ⟨S32, .i1⟩
  | 35 => ⟨S_, .i32⟩
  | 36 => ⟨S32, .i32⟩
  | 37 => ⟨S32, .i1⟩
  | 38 => ⟨S_, .i32⟩
  | 39 => ⟨S_, .i1⟩
  | 40 => ⟨S32, .i1⟩
  | 41 => ⟨S32, .i1⟩
  | 42 => ⟨S32, .i1⟩
  | 43 => ⟨S32, .i32⟩
  | 44 => ⟨S32, .i32⟩
  | 45 => ⟨S32, .i32⟩
  | 46 => ⟨S_, .i32⟩
  | 47 => ⟨S32, .i32⟩
  | 48 => ⟨S32, .i1⟩
  | 49 => ⟨S_, .i32⟩
  | 50 => ⟨S32, .i32⟩
  | 51 => ⟨S32, .i32⟩
  | 52 => ⟨S32, .i32⟩
  | 53 => ⟨S32x1, .i32⟩
  | 54 => ⟨S32, .i32⟩
  | 55 => ⟨S_, .i32⟩
  | 56 => ⟨S_, .i32⟩
  | 57 => ⟨S32, .i32⟩
  | 58 => ⟨S32, .i32⟩
  | 59 => ⟨S_, .i32⟩
  | 60 => ⟨S_, .i32⟩
  | 61 => ⟨S_, .i32⟩
  | 62 => ⟨S_, .i1⟩
  | 63 => ⟨S_, .i32⟩
  | 64 => ⟨S_, .i32⟩
  | 65 => ⟨S32, .i32⟩
  | 66 => ⟨S32, .i32⟩
  | 67 => ⟨S_, .i32⟩
  | 68 => ⟨S32, .i32⟩
  | 69 => ⟨S32, .i1⟩
  | 70 => ⟨S_, .i32⟩
  | 71 => ⟨S32, .i32⟩
  | 72 => ⟨S32, .i1⟩
  | 73 => ⟨S_, .i32⟩
  | 74 => ⟨S_, .i1⟩
  | 75 => ⟨S32, .i1⟩
  | 76 => ⟨S32, .i1⟩
  | 77 => ⟨S32, .i1⟩
  | 78 => ⟨S32, .i32⟩
  | 79 => ⟨S32, .i32⟩
  | 80 => ⟨S32, .i32⟩
  | 81 => ⟨S_, .i32⟩
  | 82 => ⟨S32, .i32⟩
  | 83 => ⟨S32, .i1⟩
  | 84 => ⟨S_, .i32⟩
  | 85 => ⟨S32, .i32⟩
  | 86 => ⟨S32, .i32⟩
  | 87 => ⟨S32, .i32⟩
  | 88 => ⟨S32x1, .i32⟩
  | 89 => ⟨S32, .i32⟩
  | 90 => ⟨S_, .i32⟩
  | 91 => ⟨S_, .i32⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S_, .i32⟩
  | 99 => ⟨S_, .i32⟩
  | 100 => ⟨S_, .i1⟩
  | 101 => ⟨S_, .i32⟩
  | 102 => ⟨S_, .i1⟩
  | 103 => ⟨S_, .i32⟩
  | 104 => ⟨S_, .i1⟩
  | 105 => ⟨S_, .i1⟩
  | 106 => ⟨S_, .i1⟩
  | 107 => ⟨S_, .i32⟩
  | 108 => ⟨S_, .i32⟩
  | 109 => ⟨S_, .i32⟩
  | 110 => ⟨S_, .i1⟩
  | 111 => ⟨S_, .i32⟩
  | 112 => ⟨S_, .i32⟩
  | 113 => ⟨S_, .i32⟩
  | 114 => ⟨S1, .i32⟩
  | 115 => ⟨S_, .i32⟩
  | 116 => ⟨S_, .i32⟩
  | 117 => ⟨S_, .i32⟩
  | 118 => ⟨S_, .i32⟩
  | 119 => ⟨S_, .i32⟩
  | 120 => ⟨S_, .i32⟩
  | 121 => ⟨S_, .i1⟩
  | 122 => ⟨S_, .i32⟩
  | 123 => ⟨S_, .i32⟩
  | 124 => ⟨S_, .i32⟩
  | 125 => ⟨S_, .i32⟩
  | 126 => ⟨S_, .i1⟩
  | 127 => ⟨S_, .i32⟩
  | _ => ⟨S4096x128, .i8⟩

abbrev hbmTy0_1 (i : Nat) : BufTy := match i % 128 with
  | 0 => ⟨S_, .i1⟩
  | 1 => ⟨S_, .i32⟩
  | 2 => ⟨S_, .i1⟩
  | 3 => ⟨S_, .i1⟩
  | 4 => ⟨S_, .i1⟩
  | 5 => ⟨S_, .i32⟩
  | 6 => ⟨S_, .i32⟩
  | 7 => ⟨S_, .i32⟩
  | 8 => ⟨S_, .i1⟩
  | 9 => ⟨S_, .i32⟩
  | 10 => ⟨S_, .i32⟩
  | 11 => ⟨S_, .i32⟩
  | 12 => ⟨S1, .i32⟩
  | 13 => ⟨S_, .i32⟩
  | 14 => ⟨S1, .i32⟩
  | 15 => ⟨S1, .i32⟩
  | 16 => ⟨S2, .i32⟩
  | 17 => ⟨S128x2048, .f32⟩
  | _ => ⟨S4096x128, .i8⟩

abbrev hbmTy (i : Nat) : BufTy := match i / 128 with
  | 0 => hbmTy0_0 i
  | 1 => hbmTy0_1 i
  | _ => ⟨S4096x128, .i8⟩

abbrev bufTy : (tb : Table) → Fin (tcTables nBuf tb) → BufTy
  | .hbm, ⟨i, _⟩ => hbmTy i
  | .local _ .vmem, ⟨0, _⟩ => ⟨S4096x128, .i8⟩
  | .local _ .vmem, ⟨1, _⟩ => ⟨S128x2048, .i8⟩
  | .local _ .vmem, ⟨2, _⟩ => ⟨S128x2048, .f32⟩
  | .local _ .vmem, ⟨3, _⟩ => ⟨S2x128x1024, .i32⟩
  | .local _ .vmem, ⟨4, _⟩ => ⟨S2x128x1024, .i32⟩
  | .local _ .vmem, ⟨5, _⟩ => ⟨S2x128x1024, .i32⟩
  | .local _ .vmem, ⟨6, _⟩ => ⟨S2x128x1024, .i32⟩
  | .local _ .smem, ⟨0, _⟩ => ⟨S2, .i32⟩
  | .local _ .smem, ⟨1, _⟩ => ⟨S32, .i32⟩
  | .local _ .smem, ⟨2, _⟩ => ⟨S32, .i32⟩
  | .local _ .smem, ⟨3, _⟩ => ⟨S1, .f32⟩
  | .local _ .smem, ⟨4, _⟩ => ⟨S1, .f32⟩
  | _, _ => ⟨S4096x128, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 3 → Bool
  | ⟨0, _⟩ => true
  | ⟨1, _⟩ => true
  | ⟨2, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 3 24 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_3 : Ref sig .tc := ⟨.hbm, 12, rfl⟩
abbrev main_v5 : Ref sig .tc := ⟨.hbm, 13, rfl⟩
abbrev main_c_4 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_5 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_6 : Ref sig .tc := ⟨.hbm, 24, rfl⟩
abbrev main_call0_v0 : Ref sig .tc := ⟨.hbm, 25, rfl⟩
abbrev main_call0_c : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_c_1 : Ref sig .tc := ⟨.hbm, 32, rfl⟩
abbrev main_call0_v5 : Ref sig .tc := ⟨.hbm, 33, rfl⟩
abbrev main_call0_v6 : Ref sig .tc := ⟨.hbm, 34, rfl⟩
abbrev main_call0_c_2 : Ref sig .tc := ⟨.hbm, 35, rfl⟩
abbrev main_call0_v7 : Ref sig .tc := ⟨.hbm, 36, rfl⟩
abbrev main_call0_v8 : Ref sig .tc := ⟨.hbm, 37, rfl⟩
abbrev main_call0_c_3 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_v14 : Ref sig .tc := ⟨.hbm, 45, rfl⟩
abbrev main_c_7 : Ref sig .tc := ⟨.hbm, 46, rfl⟩
abbrev main_v15 : Ref sig .tc := ⟨.hbm, 47, rfl⟩
abbrev main_v16 : Ref sig .tc := ⟨.hbm, 48, rfl⟩
abbrev main_c_8 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_c_9 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_c_10 : Ref sig .tc := ⟨.hbm, 59, rfl⟩
abbrev main_call1_v0 : Ref sig .tc := ⟨.hbm, 60, rfl⟩
abbrev main_call1_c : Ref sig .tc := ⟨.hbm, 61, rfl⟩
abbrev main_call1_v1 : Ref sig .tc := ⟨.hbm, 62, rfl⟩
abbrev main_call1_c_0 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_c_1 : Ref sig .tc := ⟨.hbm, 67, rfl⟩
abbrev main_call1_v5 : Ref sig .tc := ⟨.hbm, 68, rfl⟩
abbrev main_call1_v6 : Ref sig .tc := ⟨.hbm, 69, rfl⟩
abbrev main_call1_c_2 : Ref sig .tc := ⟨.hbm, 70, rfl⟩
abbrev main_call1_v7 : Ref sig .tc := ⟨.hbm, 71, rfl⟩
abbrev main_call1_v8 : Ref sig .tc := ⟨.hbm, 72, rfl⟩
abbrev main_call1_c_3 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_call1_v12 : Ref sig .tc := ⟨.hbm, 77, rfl⟩
abbrev main_call1_v13 : Ref sig .tc := ⟨.hbm, 78, rfl⟩
abbrev main_call1_v14 : Ref sig .tc := ⟨.hbm, 79, rfl⟩
abbrev main_v25 : Ref sig .tc := ⟨.hbm, 80, rfl⟩
abbrev main_c_11 : Ref sig .tc := ⟨.hbm, 81, rfl⟩
abbrev main_v26 : Ref sig .tc := ⟨.hbm, 82, rfl⟩
abbrev main_v27 : Ref sig .tc := ⟨.hbm, 83, rfl⟩
abbrev main_c_12 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_c_13 : Ref sig .tc := ⟨.hbm, 90, rfl⟩
abbrev main_v33 : Ref sig .tc := ⟨.hbm, 91, rfl⟩
abbrev main_c_14 : Ref sig .tc := ⟨.hbm, 92, rfl⟩
abbrev main_call2_v0 : Ref sig .tc := ⟨.hbm, 93, rfl⟩
abbrev main_call2_c : Ref sig .tc := ⟨.hbm, 94, rfl⟩
abbrev main_call2_v1 : Ref sig .tc := ⟨.hbm, 95, rfl⟩
abbrev main_call2_c_0 : Ref sig .tc := ⟨.hbm, 96, rfl⟩
abbrev main_call2_v2 : Ref sig .tc := ⟨.hbm, 97, rfl⟩
abbrev main_call2_v3 : Ref sig .tc := ⟨.hbm, 98, rfl⟩
abbrev main_call2_c_1 : Ref sig .tc := ⟨.hbm, 99, rfl⟩
abbrev main_call2_v4 : Ref sig .tc := ⟨.hbm, 100, rfl⟩
abbrev main_call2_c_2 : Ref sig .tc := ⟨.hbm, 101, rfl⟩
abbrev main_call2_v5 : Ref sig .tc := ⟨.hbm, 102, rfl⟩
abbrev main_call2_c_3 : Ref sig .tc := ⟨.hbm, 103, rfl⟩
abbrev main_call2_v6 : Ref sig .tc := ⟨.hbm, 104, rfl⟩
abbrev main_call2_v7 : Ref sig .tc := ⟨.hbm, 105, rfl⟩
abbrev main_call2_v8 : Ref sig .tc := ⟨.hbm, 106, rfl⟩
abbrev main_call2_v9 : Ref sig .tc := ⟨.hbm, 107, rfl⟩
abbrev main_v34 : Ref sig .tc := ⟨.hbm, 108, rfl⟩
abbrev main_c_15 : Ref sig .tc := ⟨.hbm, 109, rfl⟩
abbrev main_v35 : Ref sig .tc := ⟨.hbm, 110, rfl⟩
abbrev main_c_16 : Ref sig .tc := ⟨.hbm, 111, rfl⟩
abbrev main_v36 : Ref sig .tc := ⟨.hbm, 112, rfl⟩
abbrev main_v37 : Ref sig .tc := ⟨.hbm, 113, rfl⟩
abbrev main_v38 : Ref sig .tc := ⟨.hbm, 114, rfl⟩
abbrev main_v39 : Ref sig .tc := ⟨.hbm, 115, rfl⟩
abbrev main_c_17 : Ref sig .tc := ⟨.hbm, 116, rfl⟩
abbrev main_v40 : Ref sig .tc := ⟨.hbm, 117, rfl⟩
abbrev main_c_18 : Ref sig .tc := ⟨.hbm, 118, rfl⟩
abbrev main_call3_v0 : Ref sig .tc := ⟨.hbm, 119, rfl⟩
abbrev main_call3_c : Ref sig .tc := ⟨.hbm, 120, rfl⟩
abbrev main_call3_v1 : Ref sig .tc := ⟨.hbm, 121, rfl⟩
abbrev main_call3_c_0 : Ref sig .tc := ⟨.hbm, 122, rfl⟩
abbrev main_call3_v2 : Ref sig .tc := ⟨.hbm, 123, rfl⟩
abbrev main_call3_v3 : Ref sig .tc := ⟨.hbm, 124, rfl⟩
abbrev main_call3_c_1 : Ref sig .tc := ⟨.hbm, 125, rfl⟩
abbrev main_call3_v4 : Ref sig .tc := ⟨.hbm, 126, rfl⟩
abbrev main_call3_c_2 : Ref sig .tc := ⟨.hbm, 127, rfl⟩
abbrev main_call3_v5 : Ref sig .tc := ⟨.hbm, 128, rfl⟩
abbrev main_call3_c_3 : Ref sig .tc := ⟨.hbm, 129, rfl⟩
abbrev main_call3_v6 : Ref sig .tc := ⟨.hbm, 130, rfl⟩
abbrev main_call3_v7 : Ref sig .tc := ⟨.hbm, 131, rfl⟩
abbrev main_call3_v8 : Ref sig .tc := ⟨.hbm, 132, rfl⟩
abbrev main_call3_v9 : Ref sig .tc := ⟨.hbm, 133, rfl⟩
abbrev main_v41 : Ref sig .tc := ⟨.hbm, 134, rfl⟩
abbrev main_c_19 : Ref sig .tc := ⟨.hbm, 135, rfl⟩
abbrev main_v42 : Ref sig .tc := ⟨.hbm, 136, rfl⟩
abbrev main_c_20 : Ref sig .tc := ⟨.hbm, 137, rfl⟩
abbrev main_v43 : Ref sig .tc := ⟨.hbm, 138, rfl⟩
abbrev main_v44 : Ref sig .tc := ⟨.hbm, 139, rfl⟩
abbrev main_v45 : Ref sig .tc := ⟨.hbm, 140, rfl⟩
abbrev main_v46 : Ref sig .tc := ⟨.hbm, 141, rfl⟩
abbrev main_v47 : Ref sig .tc := ⟨.hbm, 142, rfl⟩
abbrev main_v48 : Ref sig .tc := ⟨.hbm, 143, rfl⟩
abbrev main_v49 : Ref sig .tc := ⟨.hbm, 144, rfl⟩
abbrev main_v50 : Ref sig .tc := ⟨.hbm, 145, rfl⟩
abbrev cc0_stg3_0 : Ref sig .tc := ⟨.vmem, 0, rfl⟩
abbrev cc0_stg4_0 : Ref sig .tc := ⟨.vmem, 1, rfl⟩
abbrev cc0_stg7_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg5_0 : Ref sig .tc := ⟨.smem, 3, rfl⟩
abbrev cc0_stg6_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 2

abbrev nD : Nat := 32
abbrev τ : Topo := Topo.v7x

variable {F : FTy → Type} [FloatOps F]

abbrev grid0 : Pipeline.Grid := .none

def k0_dev1 (v0 : BitVec 32) : Nat :=
  let c0_i32 : BitVec 32 := 0#32
  let c1_i32_0 : BitVec 32 := 1#32
  let v3 : BitVec 32 := Scalar.muli v0 c1_i32_0
  let v4 : BitVec 32 := Scalar.addi c0_i32 v3
  v4.toNat

def k0_dev2 (v1 : BitVec 32) : Nat :=
  let c0_i32_3 : BitVec 32 := 0#32
  let c1_i32_2 : BitVec 32 := 1#32
  let v5 : BitVec 32 := Scalar.muli v1 c1_i32_2
  let v6 : BitVec 32 := Scalar.addi c0_i32_3 v5
  v6.toNat

def k0_off1 (v10 : BitVec 32) : Fin 2 → Nat :=
  let c128_i32 : BitVec 32 := 128#32
  let v11 : BitVec 32 := Scalar.muli v10 c128_i32
  let v12 : Index := Scalar.indexCast v11
  let c0_7 : Index := 0#32
  ![v12.toNat, 0]

def k0_chk3 (v10 : BitVec 32) : Prop :=
  (∀ a, (k0_off1 v10) a + S128x128.size a ≤ S4096x128.size a)
theorem k0_off1_inb : ∀ (v10 : BitVec 32) (k0_hw3 : k0_chk3 v10), ∀ a, (k0_off1 v10) a + S128x128.size a ≤ S4096x128.size a := fun v10 k0_hw3 => k0_hw3

def k0_off2 (v21 : BitVec 32) : Fin 2 → Nat :=
  let c128_i32_14 : BitVec 32 := 128#32
  let v22 : BitVec 32 := Scalar.muli v21 c128_i32_14
  let v23 : Index := Scalar.indexCast v22
  let c0_15 : Index := 0#32
  ![v23.toNat, 0]

def k0_chk4 (v21 : BitVec 32) : Prop :=
  (∀ a, (k0_off2 v21) a + S128x128.size a ≤ S4096x128.size a)
theorem k0_off2_inb : ∀ (v21 : BitVec 32) (k0_hw4 : k0_chk4 v21), ∀ a, (k0_off2 v21) a + S128x128.size a ≤ S4096x128.size a := fun v21 k0_hw4 => k0_hw4

def k0_dev3 (v1 : BitVec 32) : Nat :=
  let c0_i32_28 : BitVec 32 := 0#32
  let c1_i32_27 : BitVec 32 := 1#32
  let v32 : BitVec 32 := Scalar.muli v1 c1_i32_27
  let v33 : BitVec 32 := Scalar.addi c0_i32_28 v32
  v33.toNat
def k0_dev4 (v0 : BitVec 32) : Nat :=
  let c0_i32_40 : BitVec 32 := 0#32
  let c1_i32_39 : BitVec 32 := 1#32
  let v42 : BitVec 32 := Scalar.muli v0 c1_i32_39
  let v43 : BitVec 32 := Scalar.addi c0_i32_40 v42
  v43.toNat
def k0_dev5 (v1 : BitVec 32) : Nat :=
  let c0_i32_52 : BitVec 32 := 0#32
  let c1_i32_51 : BitVec 32 := 1#32
  let v52 : BitVec 32 := Scalar.muli v1 c1_i32_51
  let v53 : BitVec 32 := Scalar.addi c0_i32_52 v52
  v53.toNat
def k0_dev6 (v0 : BitVec 32) : Nat :=
  let c0_i32_63 : BitVec 32 := 0#32
  let c1_i32_62 : BitVec 32 := 1#32
  let v62 : BitVec 32 := Scalar.muli v0 c1_i32_62
  let v63 : BitVec 32 := Scalar.addi c0_i32_63 v62
  v63.toNat
def k0_off3 (v72 : BitVec 32) : Fin 2 → Nat :=
  let c128_i32_69 : BitVec 32 := 128#32
  let v73 : BitVec 32 := Scalar.muli v72 c128_i32_69
  let v74 : Index := Scalar.indexCast v73
  let c0_70 : Index := 0#32
  ![v74.toNat, 0]

def k0_chk5 (v72 : BitVec 32) : Prop :=
  (∀ a, (k0_off3 v72) a + S128x128.size a ≤ S4096x128.size a)
theorem k0_off3_inb : ∀ (v72 : BitVec 32) (k0_hw5 : k0_chk5 v72), ∀ a, (k0_off3 v72) a + S128x128.size a ≤ S4096x128.size a := fun v72 k0_hw5 => k0_hw5

def k0_off4 (v80 : BitVec 32) : Fin 2 → Nat :=
  let c128_i32_75 : BitVec 32 := 128#32
  let v81 : BitVec 32 := Scalar.muli v80 c128_i32_75
  let v82 : Index := Scalar.indexCast v81
  let c0_76 : Index := 0#32
  ![v82.toNat, 0]

def k0_chk6 (v80 : BitVec 32) : Prop :=
  (∀ a, (k0_off4 v80) a + S128x128.size a ≤ S4096x128.size a)
theorem k0_off4_inb : ∀ (v80 : BitVec 32) (k0_hw6 : k0_chk6 v80), ∀ a, (k0_off4 v80) a + S128x128.size a ≤ S4096x128.size a := fun v80 k0_hw6 => k0_hw6

def k0_dev7 (v1 : BitVec 32) : Nat :=
  let c0_i32_105 : BitVec 32 := 0#32
  let c1_i32_104 : BitVec 32 := 1#32
  let v103 : BitVec 32 := Scalar.muli v1 c1_i32_104
  let v104 : BitVec 32 := Scalar.addi c0_i32_105 v103
  v104.toNat
def k0_dev8 (v0 : BitVec 32) : Nat :=
  let c0_i32_135 : BitVec 32 := 0#32
  let c1_i32_134 : BitVec 32 := 1#32
  let v128 : BitVec 32 := Scalar.muli v0 c1_i32_134
  let v129 : BitVec 32 := Scalar.addi c0_i32_135 v128
  v129.toNat
def k0_dev9 (v1 : BitVec 32) : Nat :=
  let c0_i32_164 : BitVec 32 := 0#32
  let c1_i32_163 : BitVec 32 := 1#32
  let v153 : BitVec 32 := Scalar.muli v1 c1_i32_163
  let v154 : BitVec 32 := Scalar.addi c0_i32_164 v153
  v154.toNat
def k0_dev10 (v0 : BitVec 32) : Nat :=
  let c0_i32_194 : BitVec 32 := 0#32
  let c1_i32_193 : BitVec 32 := 1#32
  let v178 : BitVec 32 := Scalar.muli v0 c1_i32_193
  let v179 : BitVec 32 := Scalar.addi c0_i32_194 v178
  v179.toNat
def k0_dev11 (v0 : BitVec 32) : Nat :=
  let c0_i32_201 : BitVec 32 := 0#32
  let c1_i32_200 : BitVec 32 := 1#32
  let v188 : BitVec 32 := Scalar.muli v0 c1_i32_200
  let v189 : BitVec 32 := Scalar.addi c0_i32_201 v188
  v189.toNat
def k0_dev12 (v1 : BitVec 32) : Nat :=
  let c0_i32_204 : BitVec 32 := 0#32
  let c1_i32_203 : BitVec 32 := 1#32
  let v190 : BitVec 32 := Scalar.muli v1 c1_i32_203
  let v191 : BitVec 32 := Scalar.addi c0_i32_204 v190
  v191.toNat
def k0_off5 (v192 : BitVec 32) : Fin 2 → Nat :=
  let c128_i32_205 : BitVec 32 := 128#32
  let v193 : BitVec 32 := Scalar.muli v192 c128_i32_205
  let v194 : Index := Scalar.indexCast v193
  let c0_206 : Index := 0#32
  ![v194.toNat, 0]

def k0_chk7 (v192 : BitVec 32) : Prop :=
  (∀ a, (k0_off5 v192) a + S128x128.size a ≤ S4096x128.size a)
theorem k0_off5_inb : ∀ (v192 : BitVec 32) (k0_hw7 : k0_chk7 v192), ∀ a, (k0_off5 v192) a + S128x128.size a ≤ S4096x128.size a := fun v192 k0_hw7 => k0_hw7

def k0_off6 (v200 : BitVec 32) : Fin 2 → Nat :=
  let c128_i32_211 : BitVec 32 := 128#32
  let v201 : BitVec 32 := Scalar.muli v200 c128_i32_211
  let v202 : Index := Scalar.indexCast v201
  let c0_212 : Index := 0#32
  ![v202.toNat, 0]

def k0_chk8 (v200 : BitVec 32) : Prop :=
  (∀ a, (k0_off6 v200) a + S128x128.size a ≤ S4096x128.size a)
theorem k0_off6_inb : ∀ (v200 : BitVec 32) (k0_hw8 : k0_chk8 v200), ∀ a, (k0_off6 v200) a + S128x128.size a ≤ S4096x128.size a := fun v200 k0_hw8 => k0_hw8

def k0_dev13 (v1 : BitVec 32) : Nat :=
  let c0_i32_254 : BitVec 32 := 0#32
  let c1_i32_253 : BitVec 32 := 1#32
  let v229 : BitVec 32 := Scalar.muli v1 c1_i32_253
  let v230 : BitVec 32 := Scalar.addi c0_i32_254 v229
  v230.toNat
def k0_dev14 (v0 : BitVec 32) : Nat :=
  let c0_i32_297 : BitVec 32 := 0#32
  let c1_i32_296 : BitVec 32 := 1#32
  let v260 : BitVec 32 := Scalar.muli v0 c1_i32_296
  let v261 : BitVec 32 := Scalar.addi c0_i32_297 v260
  v261.toNat
def k0_dev15 (v1 : BitVec 32) : Nat :=
  let c0_i32_338 : BitVec 32 := 0#32
  let c1_i32_337 : BitVec 32 := 1#32
  let v291 : BitVec 32 := Scalar.muli v1 c1_i32_337
  let v292 : BitVec 32 := Scalar.addi c0_i32_338 v291
  v292.toNat
def k0_dev16 (v0 : BitVec 32) : Nat :=
  let c0_i32_379 : BitVec 32 := 0#32
  let c1_i32_378 : BitVec 32 := 1#32
  let v322 : BitVec 32 := Scalar.muli v0 c1_i32_378
  let v323 : BitVec 32 := Scalar.addi c0_i32_379 v322
  v323.toNat
def k0_dev17 (v0 : BitVec 32) : Nat :=
  let c0_i32_386 : BitVec 32 := 0#32
  let c1_i32_385 : BitVec 32 := 1#32
  let v332 : BitVec 32 := Scalar.muli v0 c1_i32_385
  let v333 : BitVec 32 := Scalar.addi c0_i32_386 v332
  v333.toNat
def k0_dev18 (v1 : BitVec 32) : Nat :=
  let c0_i32_389 : BitVec 32 := 0#32
  let c1_i32_388 : BitVec 32 := 1#32
  let v334 : BitVec 32 := Scalar.muli v1 c1_i32_388
  let v335 : BitVec 32 := Scalar.addi c0_i32_389 v334
  v335.toNat
def k0_off7 (v336 : BitVec 32) : Fin 2 → Nat :=
  let c128_i32_390 : BitVec 32 := 128#32
  let v337 : BitVec 32 := Scalar.muli v336 c128_i32_390
  let v338 : Index := Scalar.indexCast v337
  let c0_391 : Index := 0#32
  ![v338.toNat, 0]

def k0_chk9 (v336 : BitVec 32) : Prop :=
  (∀ a, (k0_off7 v336) a + S128x128.size a ≤ S4096x128.size a)
theorem k0_off7_inb : ∀ (v336 : BitVec 32) (k0_hw9 : k0_chk9 v336), ∀ a, (k0_off7 v336) a + S128x128.size a ≤ S4096x128.size a := fun v336 k0_hw9 => k0_hw9

def k0_off8 (v344 : BitVec 32) : Fin 2 → Nat :=
  let c128_i32_396 : BitVec 32 := 128#32
  let v345 : BitVec 32 := Scalar.muli v344 c128_i32_396
  let v346 : Index := Scalar.indexCast v345
  let c0_397 : Index := 0#32
  ![v346.toNat, 0]

def k0_chk10 (v344 : BitVec 32) : Prop :=
  (∀ a, (k0_off8 v344) a + S128x128.size a ≤ S4096x128.size a)
theorem k0_off8_inb : ∀ (v344 : BitVec 32) (k0_hw10 : k0_chk10 v344), ∀ a, (k0_off8 v344) a + S128x128.size a ≤ S4096x128.size a := fun v344 k0_hw10 => k0_hw10

def k0_dev19 (v1 : BitVec 32) : Nat :=
  let c0_i32_439 : BitVec 32 := 0#32
  let c1_i32_438 : BitVec 32 := 1#32
  let v373 : BitVec 32 := Scalar.muli v1 c1_i32_438
  let v374 : BitVec 32 := Scalar.addi c0_i32_439 v373
  v374.toNat
def k0_dev20 (v0 : BitVec 32) : Nat :=
  let c0_i32_482 : BitVec 32 := 0#32
  let c1_i32_481 : BitVec 32 := 1#32
  let v404 : BitVec 32 := Scalar.muli v0 c1_i32_481
  let v405 : BitVec 32 := Scalar.addi c0_i32_482 v404
  v405.toNat
def k0_dev21 (v1 : BitVec 32) : Nat :=
  let c0_i32_523 : BitVec 32 := 0#32
  let c1_i32_522 : BitVec 32 := 1#32
  let v435 : BitVec 32 := Scalar.muli v1 c1_i32_522
  let v436 : BitVec 32 := Scalar.addi c0_i32_523 v435
  v436.toNat
def k0_dev22 (v0 : BitVec 32) : Nat :=
  let c0_i32_564 : BitVec 32 := 0#32
  let c1_i32_563 : BitVec 32 := 1#32
  let v466 : BitVec 32 := Scalar.muli v0 c1_i32_563
  let v467 : BitVec 32 := Scalar.addi c0_i32_564 v466
  v467.toNat
def k0_dev23 (v0 : BitVec 32) : Nat :=
  let c0_i32_571 : BitVec 32 := 0#32
  let c1_i32_570 : BitVec 32 := 1#32
  let v476 : BitVec 32 := Scalar.muli v0 c1_i32_570
  let v477 : BitVec 32 := Scalar.addi c0_i32_571 v476
  v477.toNat
def k0_dev24 (v1 : BitVec 32) : Nat :=
  let c0_i32_574 : BitVec 32 := 0#32
  let c1_i32_573 : BitVec 32 := 1#32
  let v478 : BitVec 32 := Scalar.muli v1 c1_i32_573
  let v479 : BitVec 32 := Scalar.addi c0_i32_574 v478
  v479.toNat
def k0_off9 (v480 : BitVec 32) : Fin 2 → Nat :=
  let c128_i32_575 : BitVec 32 := 128#32
  let v481 : BitVec 32 := Scalar.muli v480 c128_i32_575
  let v482 : Index := Scalar.indexCast v481
  let c0_576 : Index := 0#32
  ![v482.toNat, 0]

def k0_chk11 (v480 : BitVec 32) : Prop :=
  (∀ a, (k0_off9 v480) a + S128x128.size a ≤ S4096x128.size a)
theorem k0_off9_inb : ∀ (v480 : BitVec 32) (k0_hw11 : k0_chk11 v480), ∀ a, (k0_off9 v480) a + S128x128.size a ≤ S4096x128.size a := fun v480 k0_hw11 => k0_hw11

def k0_off10 (v488 : BitVec 32) : Fin 2 → Nat :=
  let c128_i32_581 : BitVec 32 := 128#32
  let v489 : BitVec 32 := Scalar.muli v488 c128_i32_581
  let v490 : Index := Scalar.indexCast v489
  let c0_582 : Index := 0#32
  ![v490.toNat, 0]

def k0_chk12 (v488 : BitVec 32) : Prop :=
  (∀ a, (k0_off10 v488) a + S128x128.size a ≤ S4096x128.size a)
theorem k0_off10_inb : ∀ (v488 : BitVec 32) (k0_hw12 : k0_chk12 v488), ∀ a, (k0_off10 v488) a + S128x128.size a ≤ S4096x128.size a := fun v488 k0_hw12 => k0_hw12

def k0_dev25 (v1 : BitVec 32) : Nat :=
  let c0_i32_624 : BitVec 32 := 0#32
  let c1_i32_623 : BitVec 32 := 1#32
  let v517 : BitVec 32 := Scalar.muli v1 c1_i32_623
  let v518 : BitVec 32 := Scalar.addi c0_i32_624 v517
  v518.toNat
def k0_dev26 (v0 : BitVec 32) : Nat :=
  let c0_i32_667 : BitVec 32 := 0#32
  let c1_i32_666 : BitVec 32 := 1#32
  let v548 : BitVec 32 := Scalar.muli v0 c1_i32_666
  let v549 : BitVec 32 := Scalar.addi c0_i32_667 v548
  v549.toNat
def k0_dev27 (v1 : BitVec 32) : Nat :=
  let c0_i32_708 : BitVec 32 := 0#32
  let c1_i32_707 : BitVec 32 := 1#32
  let v579 : BitVec 32 := Scalar.muli v1 c1_i32_707
  let v580 : BitVec 32 := Scalar.addi c0_i32_708 v579
  v580.toNat
def k0_dev28 (v0 : BitVec 32) : Nat :=
  let c0_i32_749 : BitVec 32 := 0#32
  let c1_i32_748 : BitVec 32 := 1#32
  let v610 : BitVec 32 := Scalar.muli v0 c1_i32_748
  let v611 : BitVec 32 := Scalar.addi c0_i32_749 v610
  v611.toNat
def k0_dev29 (v0 : BitVec 32) : Nat :=
  let c0_i32_756 : BitVec 32 := 0#32
  let c1_i32_755 : BitVec 32 := 1#32
  let v620 : BitVec 32 := Scalar.muli v0 c1_i32_755
  let v621 : BitVec 32 := Scalar.addi c0_i32_756 v620
  v621.toNat
def k0_dev30 (v1 : BitVec 32) : Nat :=
  let c0_i32_759 : BitVec 32 := 0#32
  let c1_i32_758 : BitVec 32 := 1#32
  let v622 : BitVec 32 := Scalar.muli v1 c1_i32_758
  let v623 : BitVec 32 := Scalar.addi c0_i32_759 v622
  v623.toNat
def k0_off11 (v624 : BitVec 32) : Fin 2 → Nat :=
  let c128_i32_760 : BitVec 32 := 128#32
  let v625 : BitVec 32 := Scalar.muli v624 c128_i32_760
  let v626 : Index := Scalar.indexCast v625
  let c0_761 : Index := 0#32
  ![v626.toNat, 0]

def k0_chk13 (v624 : BitVec 32) : Prop :=
  (∀ a, (k0_off11 v624) a + S128x128.size a ≤ S4096x128.size a)
theorem k0_off11_inb : ∀ (v624 : BitVec 32) (k0_hw13 : k0_chk13 v624), ∀ a, (k0_off11 v624) a + S128x128.size a ≤ S4096x128.size a := fun v624 k0_hw13 => k0_hw13

def k0_off12 (v632 : BitVec 32) : Fin 2 → Nat :=
  let c128_i32_766 : BitVec 32 := 128#32
  let v633 : BitVec 32 := Scalar.muli v632 c128_i32_766
  let v634 : Index := Scalar.indexCast v633
  let c0_767 : Index := 0#32
  ![v634.toNat, 0]

def k0_chk14 (v632 : BitVec 32) : Prop :=
  (∀ a, (k0_off12 v632) a + S128x128.size a ≤ S4096x128.size a)
theorem k0_off12_inb : ∀ (v632 : BitVec 32) (k0_hw14 : k0_chk14 v632), ∀ a, (k0_off12 v632) a + S128x128.size a ≤ S4096x128.size a := fun v632 k0_hw14 => k0_hw14

def k0_dev31 (v1 : BitVec 32) : Nat :=
  let c0_i32_809 : BitVec 32 := 0#32
  let c1_i32_808 : BitVec 32 := 1#32
  let v661 : BitVec 32 := Scalar.muli v1 c1_i32_808
  let v662 : BitVec 32 := Scalar.addi c0_i32_809 v661
  v662.toNat
def k0_dev32 (v0 : BitVec 32) : Nat :=
  let c0_i32_852 : BitVec 32 := 0#32
  let c1_i32_851 : BitVec 32 := 1#32
  let v692 : BitVec 32 := Scalar.muli v0 c1_i32_851
  let v693 : BitVec 32 := Scalar.addi c0_i32_852 v692
  v693.toNat
def k0_dev33 (v1 : BitVec 32) : Nat :=
  let c0_i32_893 : BitVec 32 := 0#32
  let c1_i32_892 : BitVec 32 := 1#32
  let v723 : BitVec 32 := Scalar.muli v1 c1_i32_892
  let v724 : BitVec 32 := Scalar.addi c0_i32_893 v723
  v724.toNat
def k0_dev34 (v0 : BitVec 32) : Nat :=
  let c0_i32_934 : BitVec 32 := 0#32
  let c1_i32_933 : BitVec 32 := 1#32
  let v754 : BitVec 32 := Scalar.muli v0 c1_i32_933
  let v755 : BitVec 32 := Scalar.addi c0_i32_934 v754
  v755.toNat
def k0_dev35 (v0 : BitVec 32) : Nat :=
  let c0_i32_941 : BitVec 32 := 0#32
  let c1_i32_940 : BitVec 32 := 1#32
  let v764 : BitVec 32 := Scalar.muli v0 c1_i32_940
  let v765 : BitVec 32 := Scalar.addi c0_i32_941 v764
  v765.toNat
def k0_dev36 (v1 : BitVec 32) : Nat :=
  let c0_i32_944 : BitVec 32 := 0#32
  let c1_i32_943 : BitVec 32 := 1#32
  let v766 : BitVec 32 := Scalar.muli v1 c1_i32_943
  let v767 : BitVec 32 := Scalar.addi c0_i32_944 v766
  v767.toNat
def k0_off13 (v768 : BitVec 32) : Fin 2 → Nat :=
  let c128_i32_945 : BitVec 32 := 128#32
  let v769 : BitVec 32 := Scalar.muli v768 c128_i32_945
  let v770 : Index := Scalar.indexCast v769
  let c0_946 : Index := 0#32
  ![v770.toNat, 0]

def k0_chk15 (v768 : BitVec 32) : Prop :=
  (∀ a, (k0_off13 v768) a + S128x128.size a ≤ S4096x128.size a)
theorem k0_off13_inb : ∀ (v768 : BitVec 32) (k0_hw15 : k0_chk15 v768), ∀ a, (k0_off13 v768) a + S128x128.size a ≤ S4096x128.size a := fun v768 k0_hw15 => k0_hw15

def k0_off14 (v776 : BitVec 32) : Fin 2 → Nat :=
  let c128_i32_951 : BitVec 32 := 128#32
  let v777 : BitVec 32 := Scalar.muli v776 c128_i32_951
  let v778 : Index := Scalar.indexCast v777
  let c0_952 : Index := 0#32
  ![v778.toNat, 0]

def k0_chk16 (v776 : BitVec 32) : Prop :=
  (∀ a, (k0_off14 v776) a + S128x128.size a ≤ S4096x128.size a)
theorem k0_off14_inb : ∀ (v776 : BitVec 32) (k0_hw16 : k0_chk16 v776), ∀ a, (k0_off14 v776) a + S128x128.size a ≤ S4096x128.size a := fun v776 k0_hw16 => k0_hw16

def k0_dev37 (v1 : BitVec 32) : Nat :=
  let c0_i32_994 : BitVec 32 := 0#32
  let c1_i32_993 : BitVec 32 := 1#32
  let v805 : BitVec 32 := Scalar.muli v1 c1_i32_993
  let v806 : BitVec 32 := Scalar.addi c0_i32_994 v805
  v806.toNat
def k0_dev38 (v0 : BitVec 32) : Nat :=
  let c0_i32_1037 : BitVec 32 := 0#32
  let c1_i32_1036 : BitVec 32 := 1#32
  let v836 : BitVec 32 := Scalar.muli v0 c1_i32_1036
  let v837 : BitVec 32 := Scalar.addi c0_i32_1037 v836
  v837.toNat
def k0_dev39 (v1 : BitVec 32) : Nat :=
  let c0_i32_1078 : BitVec 32 := 0#32
  let c1_i32_1077 : BitVec 32 := 1#32
  let v867 : BitVec 32 := Scalar.muli v1 c1_i32_1077
  let v868 : BitVec 32 := Scalar.addi c0_i32_1078 v867
  v868.toNat
def k0_dev40 (v0 : BitVec 32) : Nat :=
  let c0_i32_1119 : BitVec 32 := 0#32
  let c1_i32_1118 : BitVec 32 := 1#32
  let v898 : BitVec 32 := Scalar.muli v0 c1_i32_1118
  let v899 : BitVec 32 := Scalar.addi c0_i32_1119 v898
  v899.toNat
def k0_dev41 (v0 : BitVec 32) : Nat :=
  let c0_i32_1126 : BitVec 32 := 0#32
  let c1_i32_1125 : BitVec 32 := 1#32
  let v908 : BitVec 32 := Scalar.muli v0 c1_i32_1125
  let v909 : BitVec 32 := Scalar.addi c0_i32_1126 v908
  v909.toNat
def k0_dev42 (v1 : BitVec 32) : Nat :=
  let c0_i32_1129 : BitVec 32 := 0#32
  let c1_i32_1128 : BitVec 32 := 1#32
  let v910 : BitVec 32 := Scalar.muli v1 c1_i32_1128
  let v911 : BitVec 32 := Scalar.addi c0_i32_1129 v910
  v911.toNat
def k0_off15 (v912 : BitVec 32) : Fin 2 → Nat :=
  let c128_i32_1130 : BitVec 32 := 128#32
  let v913 : BitVec 32 := Scalar.muli v912 c128_i32_1130
  let v914 : Index := Scalar.indexCast v913
  let c0_1131 : Index := 0#32
  ![v914.toNat, 0]

def k0_chk17 (v912 : BitVec 32) : Prop :=
  (∀ a, (k0_off15 v912) a + S128x128.size a ≤ S4096x128.size a)
theorem k0_off15_inb : ∀ (v912 : BitVec 32) (k0_hw17 : k0_chk17 v912), ∀ a, (k0_off15 v912) a + S128x128.size a ≤ S4096x128.size a := fun v912 k0_hw17 => k0_hw17

def k0_off16 (v920 : BitVec 32) : Fin 2 → Nat :=
  let c128_i32_1136 : BitVec 32 := 128#32
  let v921 : BitVec 32 := Scalar.muli v920 c128_i32_1136
  let v922 : Index := Scalar.indexCast v921
  let c0_1137 : Index := 0#32
  ![v922.toNat, 0]

def k0_chk18 (v920 : BitVec 32) : Prop :=
  (∀ a, (k0_off16 v920) a + S128x128.size a ≤ S4096x128.size a)
theorem k0_off16_inb : ∀ (v920 : BitVec 32) (k0_hw18 : k0_chk18 v920), ∀ a, (k0_off16 v920) a + S128x128.size a ≤ S4096x128.size a := fun v920 k0_hw18 => k0_hw18

def k0_dev43 (v1 : BitVec 32) : Nat :=
  let c0_i32_1179 : BitVec 32 := 0#32
  let c1_i32_1178 : BitVec 32 := 1#32
  let v949 : BitVec 32 := Scalar.muli v1 c1_i32_1178
  let v950 : BitVec 32 := Scalar.addi c0_i32_1179 v949
  v950.toNat
def k0_dev44 (v0 : BitVec 32) : Nat :=
  let c0_i32_1222 : BitVec 32 := 0#32
  let c1_i32_1221 : BitVec 32 := 1#32
  let v980 : BitVec 32 := Scalar.muli v0 c1_i32_1221
  let v981 : BitVec 32 := Scalar.addi c0_i32_1222 v980
  v981.toNat
def k0_dev45 (v1 : BitVec 32) : Nat :=
  let c0_i32_1263 : BitVec 32 := 0#32
  let c1_i32_1262 : BitVec 32 := 1#32
  let v1011 : BitVec 32 := Scalar.muli v1 c1_i32_1262
  let v1012 : BitVec 32 := Scalar.addi c0_i32_1263 v1011
  v1012.toNat
def k0_dev46 (v0 : BitVec 32) : Nat :=
  let c0_i32_1304 : BitVec 32 := 0#32
  let c1_i32_1303 : BitVec 32 := 1#32
  let v1042 : BitVec 32 := Scalar.muli v0 c1_i32_1303
  let v1043 : BitVec 32 := Scalar.addi c0_i32_1304 v1042
  v1043.toNat
def k0_dev47 (v0 : BitVec 32) : Nat :=
  let c0_i32_1311 : BitVec 32 := 0#32
  let c1_i32_1310 : BitVec 32 := 1#32
  let v1052 : BitVec 32 := Scalar.muli v0 c1_i32_1310
  let v1053 : BitVec 32 := Scalar.addi c0_i32_1311 v1052
  v1053.toNat
def k0_dev48 (v1 : BitVec 32) : Nat :=
  let c0_i32_1314 : BitVec 32 := 0#32
  let c1_i32_1313 : BitVec 32 := 1#32
  let v1054 : BitVec 32 := Scalar.muli v1 c1_i32_1313
  let v1055 : BitVec 32 := Scalar.addi c0_i32_1314 v1054
  v1055.toNat
def k0_off17 (v1056 : BitVec 32) : Fin 2 → Nat :=
  let c128_i32_1315 : BitVec 32 := 128#32
  let v1057 : BitVec 32 := Scalar.muli v1056 c128_i32_1315
  let v1058 : Index := Scalar.indexCast v1057
  let c0_1316 : Index := 0#32
  ![v1058.toNat, 0]

def k0_chk19 (v1056 : BitVec 32) : Prop :=
  (∀ a, (k0_off17 v1056) a + S128x128.size a ≤ S4096x128.size a)
theorem k0_off17_inb : ∀ (v1056 : BitVec 32) (k0_hw19 : k0_chk19 v1056), ∀ a, (k0_off17 v1056) a + S128x128.size a ≤ S4096x128.size a := fun v1056 k0_hw19 => k0_hw19

def k0_off18 (v1064 : BitVec 32) : Fin 2 → Nat :=
  let c128_i32_1321 : BitVec 32 := 128#32
  let v1065 : BitVec 32 := Scalar.muli v1064 c128_i32_1321
  let v1066 : Index := Scalar.indexCast v1065
  let c0_1322 : Index := 0#32
  ![v1066.toNat, 0]

def k0_chk20 (v1064 : BitVec 32) : Prop :=
  (∀ a, (k0_off18 v1064) a + S128x128.size a ≤ S4096x128.size a)
theorem k0_off18_inb : ∀ (v1064 : BitVec 32) (k0_hw20 : k0_chk20 v1064), ∀ a, (k0_off18 v1064) a + S128x128.size a ≤ S4096x128.size a := fun v1064 k0_hw20 => k0_hw20

def k0_dev49 (v1 : BitVec 32) : Nat :=
  let c0_i32_1364 : BitVec 32 := 0#32
  let c1_i32_1363 : BitVec 32 := 1#32
  let v1093 : BitVec 32 := Scalar.muli v1 c1_i32_1363
  let v1094 : BitVec 32 := Scalar.addi c0_i32_1364 v1093
  v1094.toNat
def k0_dev50 (v0 : BitVec 32) : Nat :=
  let c0_i32_1407 : BitVec 32 := 0#32
  let c1_i32_1406 : BitVec 32 := 1#32
  let v1124 : BitVec 32 := Scalar.muli v0 c1_i32_1406
  let v1125 : BitVec 32 := Scalar.addi c0_i32_1407 v1124
  v1125.toNat
def k0_dev51 (v1 : BitVec 32) : Nat :=
  let c0_i32_1448 : BitVec 32 := 0#32
  let c1_i32_1447 : BitVec 32 := 1#32
  let v1155 : BitVec 32 := Scalar.muli v1 c1_i32_1447
  let v1156 : BitVec 32 := Scalar.addi c0_i32_1448 v1155
  v1156.toNat
def k0_dev52 (v0 : BitVec 32) : Nat :=
  let c0_i32_1489 : BitVec 32 := 0#32
  let c1_i32_1488 : BitVec 32 := 1#32
  let v1186 : BitVec 32 := Scalar.muli v0 c1_i32_1488
  let v1187 : BitVec 32 := Scalar.addi c0_i32_1489 v1186
  v1187.toNat
def k0_dev53 (v0 : BitVec 32) : Nat :=
  let c0_i32_1496 : BitVec 32 := 0#32
  let c1_i32_1495 : BitVec 32 := 1#32
  let v1196 : BitVec 32 := Scalar.muli v0 c1_i32_1495
  let v1197 : BitVec 32 := Scalar.addi c0_i32_1496 v1196
  v1197.toNat
def k0_dev54 (v1 : BitVec 32) : Nat :=
  let c0_i32_1499 : BitVec 32 := 0#32
  let c1_i32_1498 : BitVec 32 := 1#32
  let v1198 : BitVec 32 := Scalar.muli v1 c1_i32_1498
  let v1199 : BitVec 32 := Scalar.addi c0_i32_1499 v1198
  v1199.toNat
def k0_off19 (v1200 : BitVec 32) : Fin 2 → Nat :=
  let c128_i32_1500 : BitVec 32 := 128#32
  let v1201 : BitVec 32 := Scalar.muli v1200 c128_i32_1500
  let v1202 : Index := Scalar.indexCast v1201
  let c0_1501 : Index := 0#32
  ![v1202.toNat, 0]

def k0_chk21 (v1200 : BitVec 32) : Prop :=
  (∀ a, (k0_off19 v1200) a + S128x128.size a ≤ S4096x128.size a)
theorem k0_off19_inb : ∀ (v1200 : BitVec 32) (k0_hw21 : k0_chk21 v1200), ∀ a, (k0_off19 v1200) a + S128x128.size a ≤ S4096x128.size a := fun v1200 k0_hw21 => k0_hw21

def k0_off20 (v1208 : BitVec 32) : Fin 2 → Nat :=
  let c128_i32_1506 : BitVec 32 := 128#32
  let v1209 : BitVec 32 := Scalar.muli v1208 c128_i32_1506
  let v1210 : Index := Scalar.indexCast v1209
  let c0_1507 : Index := 0#32
  ![v1210.toNat, 0]

def k0_chk22 (v1208 : BitVec 32) : Prop :=
  (∀ a, (k0_off20 v1208) a + S128x128.size a ≤ S4096x128.size a)
theorem k0_off20_inb : ∀ (v1208 : BitVec 32) (k0_hw22 : k0_chk22 v1208), ∀ a, (k0_off20 v1208) a + S128x128.size a ≤ S4096x128.size a := fun v1208 k0_hw22 => k0_hw22

def k0_dev55 (v1 : BitVec 32) : Nat :=
  let c0_i32_1549 : BitVec 32 := 0#32
  let c1_i32_1548 : BitVec 32 := 1#32
  let v1237 : BitVec 32 := Scalar.muli v1 c1_i32_1548
  let v1238 : BitVec 32 := Scalar.addi c0_i32_1549 v1237
  v1238.toNat
def k0_dev56 (v0 : BitVec 32) : Nat :=
  let c0_i32_1592 : BitVec 32 := 0#32
  let c1_i32_1591 : BitVec 32 := 1#32
  let v1268 : BitVec 32 := Scalar.muli v0 c1_i32_1591
  let v1269 : BitVec 32 := Scalar.addi c0_i32_1592 v1268
  v1269.toNat
def k0_dev57 (v1 : BitVec 32) : Nat :=
  let c0_i32_1633 : BitVec 32 := 0#32
  let c1_i32_1632 : BitVec 32 := 1#32
  let v1299 : BitVec 32 := Scalar.muli v1 c1_i32_1632
  let v1300 : BitVec 32 := Scalar.addi c0_i32_1633 v1299
  v1300.toNat
def k0_dev58 (v0 : BitVec 32) : Nat :=
  let c0_i32_1674 : BitVec 32 := 0#32
  let c1_i32_1673 : BitVec 32 := 1#32
  let v1330 : BitVec 32 := Scalar.muli v0 c1_i32_1673
  let v1331 : BitVec 32 := Scalar.addi c0_i32_1674 v1330
  v1331.toNat
def k0_dev59 (v0 : BitVec 32) : Nat :=
  let c0_i32_1681 : BitVec 32 := 0#32
  let c1_i32_1680 : BitVec 32 := 1#32
  let v1340 : BitVec 32 := Scalar.muli v0 c1_i32_1680
  let v1341 : BitVec 32 := Scalar.addi c0_i32_1681 v1340
  v1341.toNat
def k0_dev60 (v1 : BitVec 32) : Nat :=
  let c0_i32_1684 : BitVec 32 := 0#32
  let c1_i32_1683 : BitVec 32 := 1#32
  let v1342 : BitVec 32 := Scalar.muli v1 c1_i32_1683
  let v1343 : BitVec 32 := Scalar.addi c0_i32_1684 v1342
  v1343.toNat
def k0_off21 (v1344 : BitVec 32) : Fin 2 → Nat :=
  let c128_i32_1685 : BitVec 32 := 128#32
  let v1345 : BitVec 32 := Scalar.muli v1344 c128_i32_1685
  let v1346 : Index := Scalar.indexCast v1345
  let c0_1686 : Index := 0#32
  ![v1346.toNat, 0]

def k0_chk23 (v1344 : BitVec 32) : Prop :=
  (∀ a, (k0_off21 v1344) a + S128x128.size a ≤ S4096x128.size a)
theorem k0_off21_inb : ∀ (v1344 : BitVec 32) (k0_hw23 : k0_chk23 v1344), ∀ a, (k0_off21 v1344) a + S128x128.size a ≤ S4096x128.size a := fun v1344 k0_hw23 => k0_hw23

def k0_off22 (v1352 : BitVec 32) : Fin 2 → Nat :=
  let c128_i32_1691 : BitVec 32 := 128#32
  let v1353 : BitVec 32 := Scalar.muli v1352 c128_i32_1691
  let v1354 : Index := Scalar.indexCast v1353
  let c0_1692 : Index := 0#32
  ![v1354.toNat, 0]

def k0_chk24 (v1352 : BitVec 32) : Prop :=
  (∀ a, (k0_off22 v1352) a + S128x128.size a ≤ S4096x128.size a)
theorem k0_off22_inb : ∀ (v1352 : BitVec 32) (k0_hw24 : k0_chk24 v1352), ∀ a, (k0_off22 v1352) a + S128x128.size a ≤ S4096x128.size a := fun v1352 k0_hw24 => k0_hw24

def k0_dev61 (v1 : BitVec 32) : Nat :=
  let c0_i32_1734 : BitVec 32 := 0#32
  let c1_i32_1733 : BitVec 32 := 1#32
  let v1381 : BitVec 32 := Scalar.muli v1 c1_i32_1733
  let v1382 : BitVec 32 := Scalar.addi c0_i32_1734 v1381
  v1382.toNat
def k0_dev62 (v0 : BitVec 32) : Nat :=
  let c0_i32_1777 : BitVec 32 := 0#32
  let c1_i32_1776 : BitVec 32 := 1#32
  let v1412 : BitVec 32 := Scalar.muli v0 c1_i32_1776
  let v1413 : BitVec 32 := Scalar.addi c0_i32_1777 v1412
  v1413.toNat
def k0_dev63 (v1 : BitVec 32) : Nat :=
  let c0_i32_1818 : BitVec 32 := 0#32
  let c1_i32_1817 : BitVec 32 := 1#32
  let v1443 : BitVec 32 := Scalar.muli v1 c1_i32_1817
  let v1444 : BitVec 32 := Scalar.addi c0_i32_1818 v1443
  v1444.toNat
def k0_dev64 (v0 : BitVec 32) : Nat :=
  let c0_i32_1859 : BitVec 32 := 0#32
  let c1_i32_1858 : BitVec 32 := 1#32
  let v1474 : BitVec 32 := Scalar.muli v0 c1_i32_1858
  let v1475 : BitVec 32 := Scalar.addi c0_i32_1859 v1474
  v1475.toNat
def k0_dev65 (v0 : BitVec 32) : Nat :=
  let c0_i32_1866 : BitVec 32 := 0#32
  let c1_i32_1865 : BitVec 32 := 1#32
  let v1484 : BitVec 32 := Scalar.muli v0 c1_i32_1865
  let v1485 : BitVec 32 := Scalar.addi c0_i32_1866 v1484
  v1485.toNat
def k0_dev66 (v1 : BitVec 32) : Nat :=
  let c0_i32_1869 : BitVec 32 := 0#32
  let c1_i32_1868 : BitVec 32 := 1#32
  let v1486 : BitVec 32 := Scalar.muli v1 c1_i32_1868
  let v1487 : BitVec 32 := Scalar.addi c0_i32_1869 v1486
  v1487.toNat
def k0_off23 (v1488 : BitVec 32) : Fin 2 → Nat :=
  let c128_i32_1870 : BitVec 32 := 128#32
  let v1489 : BitVec 32 := Scalar.muli v1488 c128_i32_1870
  let v1490 : Index := Scalar.indexCast v1489
  let c0_1871 : Index := 0#32
  ![v1490.toNat, 0]

def k0_chk25 (v1488 : BitVec 32) : Prop :=
  (∀ a, (k0_off23 v1488) a + S128x128.size a ≤ S4096x128.size a)
theorem k0_off23_inb : ∀ (v1488 : BitVec 32) (k0_hw25 : k0_chk25 v1488), ∀ a, (k0_off23 v1488) a + S128x128.size a ≤ S4096x128.size a := fun v1488 k0_hw25 => k0_hw25

def k0_off24 (v1496 : BitVec 32) : Fin 2 → Nat :=
  let c128_i32_1876 : BitVec 32 := 128#32
  let v1497 : BitVec 32 := Scalar.muli v1496 c128_i32_1876
  let v1498 : Index := Scalar.indexCast v1497
  let c0_1877 : Index := 0#32
  ![v1498.toNat, 0]

def k0_chk26 (v1496 : BitVec 32) : Prop :=
  (∀ a, (k0_off24 v1496) a + S128x128.size a ≤ S4096x128.size a)
theorem k0_off24_inb : ∀ (v1496 : BitVec 32) (k0_hw26 : k0_chk26 v1496), ∀ a, (k0_off24 v1496) a + S128x128.size a ≤ S4096x128.size a := fun v1496 k0_hw26 => k0_hw26

def k0_dev67 (v1 : BitVec 32) : Nat :=
  let c0_i32_1919 : BitVec 32 := 0#32
  let c1_i32_1918 : BitVec 32 := 1#32
  let v1525 : BitVec 32 := Scalar.muli v1 c1_i32_1918
  let v1526 : BitVec 32 := Scalar.addi c0_i32_1919 v1525
  v1526.toNat
def k0_dev68 (v0 : BitVec 32) : Nat :=
  let c0_i32_1962 : BitVec 32 := 0#32
  let c1_i32_1961 : BitVec 32 := 1#32
  let v1556 : BitVec 32 := Scalar.muli v0 c1_i32_1961
  let v1557 : BitVec 32 := Scalar.addi c0_i32_1962 v1556
  v1557.toNat
def k0_dev69 (v1 : BitVec 32) : Nat :=
  let c0_i32_2003 : BitVec 32 := 0#32
  let c1_i32_2002 : BitVec 32 := 1#32
  let v1587 : BitVec 32 := Scalar.muli v1 c1_i32_2002
  let v1588 : BitVec 32 := Scalar.addi c0_i32_2003 v1587
  v1588.toNat
def k0_dev70 (v0 : BitVec 32) : Nat :=
  let c0_i32_2044 : BitVec 32 := 0#32
  let c1_i32_2043 : BitVec 32 := 1#32
  let v1618 : BitVec 32 := Scalar.muli v0 c1_i32_2043
  let v1619 : BitVec 32 := Scalar.addi c0_i32_2044 v1618
  v1619.toNat
def k0_dev71 (v0 : BitVec 32) : Nat :=
  let c0_i32_2051 : BitVec 32 := 0#32
  let c1_i32_2050 : BitVec 32 := 1#32
  let v1628 : BitVec 32 := Scalar.muli v0 c1_i32_2050
  let v1629 : BitVec 32 := Scalar.addi c0_i32_2051 v1628
  v1629.toNat
def k0_dev72 (v1 : BitVec 32) : Nat :=
  let c0_i32_2054 : BitVec 32 := 0#32
  let c1_i32_2053 : BitVec 32 := 1#32
  let v1630 : BitVec 32 := Scalar.muli v1 c1_i32_2053
  let v1631 : BitVec 32 := Scalar.addi c0_i32_2054 v1630
  v1631.toNat
def k0_off25 (v1632 : BitVec 32) : Fin 2 → Nat :=
  let c128_i32_2055 : BitVec 32 := 128#32
  let v1633 : BitVec 32 := Scalar.muli v1632 c128_i32_2055
  let v1634 : Index := Scalar.indexCast v1633
  let c0_2056 : Index := 0#32
  ![v1634.toNat, 0]

def k0_chk27 (v1632 : BitVec 32) : Prop :=
  (∀ a, (k0_off25 v1632) a + S128x128.size a ≤ S4096x128.size a)
theorem k0_off25_inb : ∀ (v1632 : BitVec 32) (k0_hw27 : k0_chk27 v1632), ∀ a, (k0_off25 v1632) a + S128x128.size a ≤ S4096x128.size a := fun v1632 k0_hw27 => k0_hw27

def k0_off26 (v1640 : BitVec 32) : Fin 2 → Nat :=
  let c128_i32_2061 : BitVec 32 := 128#32
  let v1641 : BitVec 32 := Scalar.muli v1640 c128_i32_2061
  let v1642 : Index := Scalar.indexCast v1641
  let c0_2062 : Index := 0#32
  ![v1642.toNat, 0]

def k0_chk28 (v1640 : BitVec 32) : Prop :=
  (∀ a, (k0_off26 v1640) a + S128x128.size a ≤ S4096x128.size a)
theorem k0_off26_inb : ∀ (v1640 : BitVec 32) (k0_hw28 : k0_chk28 v1640), ∀ a, (k0_off26 v1640) a + S128x128.size a ≤ S4096x128.size a := fun v1640 k0_hw28 => k0_hw28

def k0_dev73 (v1 : BitVec 32) : Nat :=
  let c0_i32_2104 : BitVec 32 := 0#32
  let c1_i32_2103 : BitVec 32 := 1#32
  let v1669 : BitVec 32 := Scalar.muli v1 c1_i32_2103
  let v1670 : BitVec 32 := Scalar.addi c0_i32_2104 v1669
  v1670.toNat
def k0_dev74 (v0 : BitVec 32) : Nat :=
  let c0_i32_2147 : BitVec 32 := 0#32
  let c1_i32_2146 : BitVec 32 := 1#32
  let v1700 : BitVec 32 := Scalar.muli v0 c1_i32_2146
  let v1701 : BitVec 32 := Scalar.addi c0_i32_2147 v1700
  v1701.toNat
def k0_dev75 (v1 : BitVec 32) : Nat :=
  let c0_i32_2188 : BitVec 32 := 0#32
  let c1_i32_2187 : BitVec 32 := 1#32
  let v1731 : BitVec 32 := Scalar.muli v1 c1_i32_2187
  let v1732 : BitVec 32 := Scalar.addi c0_i32_2188 v1731
  v1732.toNat
def k0_dev76 (v0 : BitVec 32) : Nat :=
  let c0_i32_2229 : BitVec 32 := 0#32
  let c1_i32_2228 : BitVec 32 := 1#32
  let v1762 : BitVec 32 := Scalar.muli v0 c1_i32_2228
  let v1763 : BitVec 32 := Scalar.addi c0_i32_2229 v1762
  v1763.toNat
def k0_dev77 (v0 : BitVec 32) : Nat :=
  let c0_i32_2236 : BitVec 32 := 0#32
  let c1_i32_2235 : BitVec 32 := 1#32
  let v1772 : BitVec 32 := Scalar.muli v0 c1_i32_2235
  let v1773 : BitVec 32 := Scalar.addi c0_i32_2236 v1772
  v1773.toNat
def k0_dev78 (v1 : BitVec 32) : Nat :=
  let c0_i32_2239 : BitVec 32 := 0#32
  let c1_i32_2238 : BitVec 32 := 1#32
  let v1774 : BitVec 32 := Scalar.muli v1 c1_i32_2238
  let v1775 : BitVec 32 := Scalar.addi c0_i32_2239 v1774
  v1775.toNat
def k0_off27 (v1776 : BitVec 32) : Fin 2 → Nat :=
  let c128_i32_2240 : BitVec 32 := 128#32
  let v1777 : BitVec 32 := Scalar.muli v1776 c128_i32_2240
  let v1778 : Index := Scalar.indexCast v1777
  let c0_2241 : Index := 0#32
  ![v1778.toNat, 0]

def k0_chk29 (v1776 : BitVec 32) : Prop :=
  (∀ a, (k0_off27 v1776) a + S128x128.size a ≤ S4096x128.size a)
theorem k0_off27_inb : ∀ (v1776 : BitVec 32) (k0_hw29 : k0_chk29 v1776), ∀ a, (k0_off27 v1776) a + S128x128.size a ≤ S4096x128.size a := fun v1776 k0_hw29 => k0_hw29

def k0_off28 (v1784 : BitVec 32) : Fin 2 → Nat :=
  let c128_i32_2246 : BitVec 32 := 128#32
  let v1785 : BitVec 32 := Scalar.muli v1784 c128_i32_2246
  let v1786 : Index := Scalar.indexCast v1785
  let c0_2247 : Index := 0#32
  ![v1786.toNat, 0]

def k0_chk30 (v1784 : BitVec 32) : Prop :=
  (∀ a, (k0_off28 v1784) a + S128x128.size a ≤ S4096x128.size a)
theorem k0_off28_inb : ∀ (v1784 : BitVec 32) (k0_hw30 : k0_chk30 v1784), ∀ a, (k0_off28 v1784) a + S128x128.size a ≤ S4096x128.size a := fun v1784 k0_hw30 => k0_hw30

def k0_dev79 (v1 : BitVec 32) : Nat :=
  let c0_i32_2289 : BitVec 32 := 0#32
  let c1_i32_2288 : BitVec 32 := 1#32
  let v1813 : BitVec 32 := Scalar.muli v1 c1_i32_2288
  let v1814 : BitVec 32 := Scalar.addi c0_i32_2289 v1813
  v1814.toNat
def k0_dev80 (v0 : BitVec 32) : Nat :=
  let c0_i32_2332 : BitVec 32 := 0#32
  let c1_i32_2331 : BitVec 32 := 1#32
  let v1844 : BitVec 32 := Scalar.muli v0 c1_i32_2331
  let v1845 : BitVec 32 := Scalar.addi c0_i32_2332 v1844
  v1845.toNat
def k0_dev81 (v1 : BitVec 32) : Nat :=
  let c0_i32_2373 : BitVec 32 := 0#32
  let c1_i32_2372 : BitVec 32 := 1#32
  let v1875 : BitVec 32 := Scalar.muli v1 c1_i32_2372
  let v1876 : BitVec 32 := Scalar.addi c0_i32_2373 v1875
  v1876.toNat
def k0_dev82 (v0 : BitVec 32) : Nat :=
  let c0_i32_2414 : BitVec 32 := 0#32
  let c1_i32_2413 : BitVec 32 := 1#32
  let v1906 : BitVec 32 := Scalar.muli v0 c1_i32_2413
  let v1907 : BitVec 32 := Scalar.addi c0_i32_2414 v1906
  v1907.toNat
def k0_dev83 (v0 : BitVec 32) : Nat :=
  let c0_i32_2421 : BitVec 32 := 0#32
  let c1_i32_2420 : BitVec 32 := 1#32
  let v1916 : BitVec 32 := Scalar.muli v0 c1_i32_2420
  let v1917 : BitVec 32 := Scalar.addi c0_i32_2421 v1916
  v1917.toNat
def k0_dev84 (v1 : BitVec 32) : Nat :=
  let c0_i32_2424 : BitVec 32 := 0#32
  let c1_i32_2423 : BitVec 32 := 1#32
  let v1918 : BitVec 32 := Scalar.muli v1 c1_i32_2423
  let v1919 : BitVec 32 := Scalar.addi c0_i32_2424 v1918
  v1919.toNat
def k0_off29 (v1920 : BitVec 32) : Fin 2 → Nat :=
  let c128_i32_2425 : BitVec 32 := 128#32
  let v1921 : BitVec 32 := Scalar.muli v1920 c128_i32_2425
  let v1922 : Index := Scalar.indexCast v1921
  let c0_2426 : Index := 0#32
  ![v1922.toNat, 0]

def k0_chk31 (v1920 : BitVec 32) : Prop :=
  (∀ a, (k0_off29 v1920) a + S128x128.size a ≤ S4096x128.size a)
theorem k0_off29_inb : ∀ (v1920 : BitVec 32) (k0_hw31 : k0_chk31 v1920), ∀ a, (k0_off29 v1920) a + S128x128.size a ≤ S4096x128.size a := fun v1920 k0_hw31 => k0_hw31

def k0_off30 (v1928 : BitVec 32) : Fin 2 → Nat :=
  let c128_i32_2431 : BitVec 32 := 128#32
  let v1929 : BitVec 32 := Scalar.muli v1928 c128_i32_2431
  let v1930 : Index := Scalar.indexCast v1929
  let c0_2432 : Index := 0#32
  ![v1930.toNat, 0]

def k0_chk32 (v1928 : BitVec 32) : Prop :=
  (∀ a, (k0_off30 v1928) a + S128x128.size a ≤ S4096x128.size a)
theorem k0_off30_inb : ∀ (v1928 : BitVec 32) (k0_hw32 : k0_chk32 v1928), ∀ a, (k0_off30 v1928) a + S128x128.size a ≤ S4096x128.size a := fun v1928 k0_hw32 => k0_hw32

def k0_dev85 (v1 : BitVec 32) : Nat :=
  let c0_i32_2474 : BitVec 32 := 0#32
  let c1_i32_2473 : BitVec 32 := 1#32
  let v1957 : BitVec 32 := Scalar.muli v1 c1_i32_2473
  let v1958 : BitVec 32 := Scalar.addi c0_i32_2474 v1957
  v1958.toNat
def k0_dev86 (v0 : BitVec 32) : Nat :=
  let c0_i32_2517 : BitVec 32 := 0#32
  let c1_i32_2516 : BitVec 32 := 1#32
  let v1988 : BitVec 32 := Scalar.muli v0 c1_i32_2516
  let v1989 : BitVec 32 := Scalar.addi c0_i32_2517 v1988
  v1989.toNat
def k0_dev87 (v1 : BitVec 32) : Nat :=
  let c0_i32_2558 : BitVec 32 := 0#32
  let c1_i32_2557 : BitVec 32 := 1#32
  let v2019 : BitVec 32 := Scalar.muli v1 c1_i32_2557
  let v2020 : BitVec 32 := Scalar.addi c0_i32_2558 v2019
  v2020.toNat
def k0_dev88 (v0 : BitVec 32) : Nat :=
  let c0_i32_2599 : BitVec 32 := 0#32
  let c1_i32_2598 : BitVec 32 := 1#32
  let v2050 : BitVec 32 := Scalar.muli v0 c1_i32_2598
  let v2051 : BitVec 32 := Scalar.addi c0_i32_2599 v2050
  v2051.toNat
def k0_dev89 (v0 : BitVec 32) : Nat :=
  let c0_i32_2606 : BitVec 32 := 0#32
  let c1_i32_2605 : BitVec 32 := 1#32
  let v2060 : BitVec 32 := Scalar.muli v0 c1_i32_2605
  let v2061 : BitVec 32 := Scalar.addi c0_i32_2606 v2060
  v2061.toNat
def k0_dev90 (v1 : BitVec 32) : Nat :=
  let c0_i32_2609 : BitVec 32 := 0#32
  let c1_i32_2608 : BitVec 32 := 1#32
  let v2062 : BitVec 32 := Scalar.muli v1 c1_i32_2608
  let v2063 : BitVec 32 := Scalar.addi c0_i32_2609 v2062
  v2063.toNat
def k0_off31 (v2064 : BitVec 32) : Fin 2 → Nat :=
  let c128_i32_2610 : BitVec 32 := 128#32
  let v2065 : BitVec 32 := Scalar.muli v2064 c128_i32_2610
  let v2066 : Index := Scalar.indexCast v2065
  let c0_2611 : Index := 0#32
  ![v2066.toNat, 0]

def k0_chk33 (v2064 : BitVec 32) : Prop :=
  (∀ a, (k0_off31 v2064) a + S128x128.size a ≤ S4096x128.size a)
theorem k0_off31_inb : ∀ (v2064 : BitVec 32) (k0_hw33 : k0_chk33 v2064), ∀ a, (k0_off31 v2064) a + S128x128.size a ≤ S4096x128.size a := fun v2064 k0_hw33 => k0_hw33

def k0_off32 (v2072 : BitVec 32) : Fin 2 → Nat :=
  let c128_i32_2616 : BitVec 32 := 128#32
  let v2073 : BitVec 32 := Scalar.muli v2072 c128_i32_2616
  let v2074 : Index := Scalar.indexCast v2073
  let c0_2617 : Index := 0#32
  ![v2074.toNat, 0]

def k0_chk34 (v2072 : BitVec 32) : Prop :=
  (∀ a, (k0_off32 v2072) a + S128x128.size a ≤ S4096x128.size a)
theorem k0_off32_inb : ∀ (v2072 : BitVec 32) (k0_hw34 : k0_chk34 v2072), ∀ a, (k0_off32 v2072) a + S128x128.size a ≤ S4096x128.size a := fun v2072 k0_hw34 => k0_hw34

def k0_dev91 (v1 : BitVec 32) : Nat :=
  let c0_i32_2659 : BitVec 32 := 0#32
  let c1_i32_2658 : BitVec 32 := 1#32
  let v2101 : BitVec 32 := Scalar.muli v1 c1_i32_2658
  let v2102 : BitVec 32 := Scalar.addi c0_i32_2659 v2101
  v2102.toNat
def k0_dev92 (v0 : BitVec 32) : Nat :=
  let c0_i32_2702 : BitVec 32 := 0#32
  let c1_i32_2701 : BitVec 32 := 1#32
  let v2132 : BitVec 32 := Scalar.muli v0 c1_i32_2701
  let v2133 : BitVec 32 := Scalar.addi c0_i32_2702 v2132
  v2133.toNat
def k0_dev93 (v1 : BitVec 32) : Nat :=
  let c0_i32_2743 : BitVec 32 := 0#32
  let c1_i32_2742 : BitVec 32 := 1#32
  let v2163 : BitVec 32 := Scalar.muli v1 c1_i32_2742
  let v2164 : BitVec 32 := Scalar.addi c0_i32_2743 v2163
  v2164.toNat
def k0_dev94 (v0 : BitVec 32) : Nat :=
  let c0_i32_2784 : BitVec 32 := 0#32
  let c1_i32_2783 : BitVec 32 := 1#32
  let v2194 : BitVec 32 := Scalar.muli v0 c1_i32_2783
  let v2195 : BitVec 32 := Scalar.addi c0_i32_2784 v2194
  v2195.toNat
def k0_dev95 (v0 : BitVec 32) : Nat :=
  let c0_i32_2791 : BitVec 32 := 0#32
  let c1_i32_2790 : BitVec 32 := 1#32
  let v2204 : BitVec 32 := Scalar.muli v0 c1_i32_2790
  let v2205 : BitVec 32 := Scalar.addi c0_i32_2791 v2204
  v2205.toNat
def k0_dev96 (v1 : BitVec 32) : Nat :=
  let c0_i32_2794 : BitVec 32 := 0#32
  let c1_i32_2793 : BitVec 32 := 1#32
  let v2206 : BitVec 32 := Scalar.muli v1 c1_i32_2793
  let v2207 : BitVec 32 := Scalar.addi c0_i32_2794 v2206
  v2207.toNat
def k0_off33 (v2208 : BitVec 32) : Fin 2 → Nat :=
  let c128_i32_2795 : BitVec 32 := 128#32
  let v2209 : BitVec 32 := Scalar.muli v2208 c128_i32_2795
  let v2210 : Index := Scalar.indexCast v2209
  let c0_2796 : Index := 0#32
  ![v2210.toNat, 0]

def k0_chk35 (v2208 : BitVec 32) : Prop :=
  (∀ a, (k0_off33 v2208) a + S128x128.size a ≤ S4096x128.size a)
theorem k0_off33_inb : ∀ (v2208 : BitVec 32) (k0_hw35 : k0_chk35 v2208), ∀ a, (k0_off33 v2208) a + S128x128.size a ≤ S4096x128.size a := fun v2208 k0_hw35 => k0_hw35

def k0_off34 (v2216 : BitVec 32) : Fin 2 → Nat :=
  let c128_i32_2801 : BitVec 32 := 128#32
  let v2217 : BitVec 32 := Scalar.muli v2216 c128_i32_2801
  let v2218 : Index := Scalar.indexCast v2217
  let c0_2802 : Index := 0#32
  ![v2218.toNat, 0]

def k0_chk36 (v2216 : BitVec 32) : Prop :=
  (∀ a, (k0_off34 v2216) a + S128x128.size a ≤ S4096x128.size a)
theorem k0_off34_inb : ∀ (v2216 : BitVec 32) (k0_hw36 : k0_chk36 v2216), ∀ a, (k0_off34 v2216) a + S128x128.size a ≤ S4096x128.size a := fun v2216 k0_hw36 => k0_hw36

def k0_dev97 (v1 : BitVec 32) : Nat :=
  let c0_i32_2844 : BitVec 32 := 0#32
  let c1_i32_2843 : BitVec 32 := 1#32
  let v2245 : BitVec 32 := Scalar.muli v1 c1_i32_2843
  let v2246 : BitVec 32 := Scalar.addi c0_i32_2844 v2245
  v2246.toNat
def k0_dev98 (v0 : BitVec 32) : Nat :=
  let c0_i32_2887 : BitVec 32 := 0#32
  let c1_i32_2886 : BitVec 32 := 1#32
  let v2276 : BitVec 32 := Scalar.muli v0 c1_i32_2886
  let v2277 : BitVec 32 := Scalar.addi c0_i32_2887 v2276
  v2277.toNat
def k0_dev99 (v1 : BitVec 32) : Nat :=
  let c0_i32_2928 : BitVec 32 := 0#32
  let c1_i32_2927 : BitVec 32 := 1#32
  let v2307 : BitVec 32 := Scalar.muli v1 c1_i32_2927
  let v2308 : BitVec 32 := Scalar.addi c0_i32_2928 v2307
  v2308.toNat
def k0_dev100 (v0 : BitVec 32) : Nat :=
  let c0_i32_2969 : BitVec 32 := 0#32
  let c1_i32_2968 : BitVec 32 := 1#32
  let v2338 : BitVec 32 := Scalar.muli v0 c1_i32_2968
  let v2339 : BitVec 32 := Scalar.addi c0_i32_2969 v2338
  v2339.toNat
def k0_dev101 (v0 : BitVec 32) : Nat :=
  let c0_i32_2976 : BitVec 32 := 0#32
  let c1_i32_2975 : BitVec 32 := 1#32
  let v2348 : BitVec 32 := Scalar.muli v0 c1_i32_2975
  let v2349 : BitVec 32 := Scalar.addi c0_i32_2976 v2348
  v2349.toNat
def k0_dev102 (v1 : BitVec 32) : Nat :=
  let c0_i32_2979 : BitVec 32 := 0#32
  let c1_i32_2978 : BitVec 32 := 1#32
  let v2350 : BitVec 32 := Scalar.muli v1 c1_i32_2978
  let v2351 : BitVec 32 := Scalar.addi c0_i32_2979 v2350
  v2351.toNat
def k0_off35 (v2352 : BitVec 32) : Fin 2 → Nat :=
  let c128_i32_2980 : BitVec 32 := 128#32
  let v2353 : BitVec 32 := Scalar.muli v2352 c128_i32_2980
  let v2354 : Index := Scalar.indexCast v2353
  let c0_2981 : Index := 0#32
  ![v2354.toNat, 0]

def k0_chk37 (v2352 : BitVec 32) : Prop :=
  (∀ a, (k0_off35 v2352) a + S128x128.size a ≤ S4096x128.size a)
theorem k0_off35_inb : ∀ (v2352 : BitVec 32) (k0_hw37 : k0_chk37 v2352), ∀ a, (k0_off35 v2352) a + S128x128.size a ≤ S4096x128.size a := fun v2352 k0_hw37 => k0_hw37

def k0_off36 (v2360 : BitVec 32) : Fin 2 → Nat :=
  let c128_i32_2986 : BitVec 32 := 128#32
  let v2361 : BitVec 32 := Scalar.muli v2360 c128_i32_2986
  let v2362 : Index := Scalar.indexCast v2361
  let c0_2987 : Index := 0#32
  ![v2362.toNat, 0]

def k0_chk38 (v2360 : BitVec 32) : Prop :=
  (∀ a, (k0_off36 v2360) a + S128x128.size a ≤ S4096x128.size a)
theorem k0_off36_inb : ∀ (v2360 : BitVec 32) (k0_hw38 : k0_chk38 v2360), ∀ a, (k0_off36 v2360) a + S128x128.size a ≤ S4096x128.size a := fun v2360 k0_hw38 => k0_hw38

def k0_dev103 (v1 : BitVec 32) : Nat :=
  let c0_i32_3029 : BitVec 32 := 0#32
  let c1_i32_3028 : BitVec 32 := 1#32
  let v2389 : BitVec 32 := Scalar.muli v1 c1_i32_3028
  let v2390 : BitVec 32 := Scalar.addi c0_i32_3029 v2389
  v2390.toNat
def k0_dev104 (v0 : BitVec 32) : Nat :=
  let c0_i32_3072 : BitVec 32 := 0#32
  let c1_i32_3071 : BitVec 32 := 1#32
  let v2420 : BitVec 32 := Scalar.muli v0 c1_i32_3071
  let v2421 : BitVec 32 := Scalar.addi c0_i32_3072 v2420
  v2421.toNat
def k0_dev105 (v1 : BitVec 32) : Nat :=
  let c0_i32_3113 : BitVec 32 := 0#32
  let c1_i32_3112 : BitVec 32 := 1#32
  let v2451 : BitVec 32 := Scalar.muli v1 c1_i32_3112
  let v2452 : BitVec 32 := Scalar.addi c0_i32_3113 v2451
  v2452.toNat
def k0_dev106 (v0 : BitVec 32) : Nat :=
  let c0_i32_3154 : BitVec 32 := 0#32
  let c1_i32_3153 : BitVec 32 := 1#32
  let v2482 : BitVec 32 := Scalar.muli v0 c1_i32_3153
  let v2483 : BitVec 32 := Scalar.addi c0_i32_3154 v2482
  v2483.toNat
def k0_dev107 (v0 : BitVec 32) : Nat :=
  let c0_i32_3161 : BitVec 32 := 0#32
  let c1_i32_3160 : BitVec 32 := 1#32
  let v2492 : BitVec 32 := Scalar.muli v0 c1_i32_3160
  let v2493 : BitVec 32 := Scalar.addi c0_i32_3161 v2492
  v2493.toNat
def k0_dev108 (v1 : BitVec 32) : Nat :=
  let c0_i32_3164 : BitVec 32 := 0#32
  let c1_i32_3163 : BitVec 32 := 1#32
  let v2494 : BitVec 32 := Scalar.muli v1 c1_i32_3163
  let v2495 : BitVec 32 := Scalar.addi c0_i32_3164 v2494
  v2495.toNat
def k0_off37 (v2496 : BitVec 32) : Fin 2 → Nat :=
  let c128_i32_3165 : BitVec 32 := 128#32
  let v2497 : BitVec 32 := Scalar.muli v2496 c128_i32_3165
  let v2498 : Index := Scalar.indexCast v2497
  let c0_3166 : Index := 0#32
  ![v2498.toNat, 0]

def k0_chk39 (v2496 : BitVec 32) : Prop :=
  (∀ a, (k0_off37 v2496) a + S128x128.size a ≤ S4096x128.size a)
theorem k0_off37_inb : ∀ (v2496 : BitVec 32) (k0_hw39 : k0_chk39 v2496), ∀ a, (k0_off37 v2496) a + S128x128.size a ≤ S4096x128.size a := fun v2496 k0_hw39 => k0_hw39

def k0_off38 (v2504 : BitVec 32) : Fin 2 → Nat :=
  let c128_i32_3171 : BitVec 32 := 128#32
  let v2505 : BitVec 32 := Scalar.muli v2504 c128_i32_3171
  let v2506 : Index := Scalar.indexCast v2505
  let c0_3172 : Index := 0#32
  ![v2506.toNat, 0]

def k0_chk40 (v2504 : BitVec 32) : Prop :=
  (∀ a, (k0_off38 v2504) a + S128x128.size a ≤ S4096x128.size a)
theorem k0_off38_inb : ∀ (v2504 : BitVec 32) (k0_hw40 : k0_chk40 v2504), ∀ a, (k0_off38 v2504) a + S128x128.size a ≤ S4096x128.size a := fun v2504 k0_hw40 => k0_hw40

def k0_dev109 (v1 : BitVec 32) : Nat :=
  let c0_i32_3214 : BitVec 32 := 0#32
  let c1_i32_3213 : BitVec 32 := 1#32
  let v2533 : BitVec 32 := Scalar.muli v1 c1_i32_3213
  let v2534 : BitVec 32 := Scalar.addi c0_i32_3214 v2533
  v2534.toNat
def k0_dev110 (v0 : BitVec 32) : Nat :=
  let c0_i32_3257 : BitVec 32 := 0#32
  let c1_i32_3256 : BitVec 32 := 1#32
  let v2564 : BitVec 32 := Scalar.muli v0 c1_i32_3256
  let v2565 : BitVec 32 := Scalar.addi c0_i32_3257 v2564
  v2565.toNat
def k0_dev111 (v1 : BitVec 32) : Nat :=
  let c0_i32_3298 : BitVec 32 := 0#32
  let c1_i32_3297 : BitVec 32 := 1#32
  let v2595 : BitVec 32 := Scalar.muli v1 c1_i32_3297
  let v2596 : BitVec 32 := Scalar.addi c0_i32_3298 v2595
  v2596.toNat
def k0_dev112 (v0 : BitVec 32) : Nat :=
  let c0_i32_3339 : BitVec 32 := 0#32
  let c1_i32_3338 : BitVec 32 := 1#32
  let v2626 : BitVec 32 := Scalar.muli v0 c1_i32_3338
  let v2627 : BitVec 32 := Scalar.addi c0_i32_3339 v2626
  v2627.toNat
def k0_dev113 (v0 : BitVec 32) : Nat :=
  let c0_i32_3346 : BitVec 32 := 0#32
  let c1_i32_3345 : BitVec 32 := 1#32
  let v2636 : BitVec 32 := Scalar.muli v0 c1_i32_3345
  let v2637 : BitVec 32 := Scalar.addi c0_i32_3346 v2636
  v2637.toNat
def k0_dev114 (v1 : BitVec 32) : Nat :=
  let c0_i32_3349 : BitVec 32 := 0#32
  let c1_i32_3348 : BitVec 32 := 1#32
  let v2638 : BitVec 32 := Scalar.muli v1 c1_i32_3348
  let v2639 : BitVec 32 := Scalar.addi c0_i32_3349 v2638
  v2639.toNat
def k0_off39 (v2640 : BitVec 32) : Fin 2 → Nat :=
  let c128_i32_3350 : BitVec 32 := 128#32
  let v2641 : BitVec 32 := Scalar.muli v2640 c128_i32_3350
  let v2642 : Index := Scalar.indexCast v2641
  let c0_3351 : Index := 0#32
  ![v2642.toNat, 0]

def k0_chk41 (v2640 : BitVec 32) : Prop :=
  (∀ a, (k0_off39 v2640) a + S128x128.size a ≤ S4096x128.size a)
theorem k0_off39_inb : ∀ (v2640 : BitVec 32) (k0_hw41 : k0_chk41 v2640), ∀ a, (k0_off39 v2640) a + S128x128.size a ≤ S4096x128.size a := fun v2640 k0_hw41 => k0_hw41

def k0_off40 (v2648 : BitVec 32) : Fin 2 → Nat :=
  let c128_i32_3356 : BitVec 32 := 128#32
  let v2649 : BitVec 32 := Scalar.muli v2648 c128_i32_3356
  let v2650 : Index := Scalar.indexCast v2649
  let c0_3357 : Index := 0#32
  ![v2650.toNat, 0]

def k0_chk42 (v2648 : BitVec 32) : Prop :=
  (∀ a, (k0_off40 v2648) a + S128x128.size a ≤ S4096x128.size a)
theorem k0_off40_inb : ∀ (v2648 : BitVec 32) (k0_hw42 : k0_chk42 v2648), ∀ a, (k0_off40 v2648) a + S128x128.size a ≤ S4096x128.size a := fun v2648 k0_hw42 => k0_hw42

def k0_dev115 (v1 : BitVec 32) : Nat :=
  let c0_i32_3399 : BitVec 32 := 0#32
  let c1_i32_3398 : BitVec 32 := 1#32
  let v2677 : BitVec 32 := Scalar.muli v1 c1_i32_3398
  let v2678 : BitVec 32 := Scalar.addi c0_i32_3399 v2677
  v2678.toNat
def k0_dev116 (v0 : BitVec 32) : Nat :=
  let c0_i32_3442 : BitVec 32 := 0#32
  let c1_i32_3441 : BitVec 32 := 1#32
  let v2708 : BitVec 32 := Scalar.muli v0 c1_i32_3441
  let v2709 : BitVec 32 := Scalar.addi c0_i32_3442 v2708
  v2709.toNat
def k0_dev117 (v1 : BitVec 32) : Nat :=
  let c0_i32_3483 : BitVec 32 := 0#32
  let c1_i32_3482 : BitVec 32 := 1#32
  let v2739 : BitVec 32 := Scalar.muli v1 c1_i32_3482
  let v2740 : BitVec 32 := Scalar.addi c0_i32_3483 v2739
  v2740.toNat
def k0_dev118 (v0 : BitVec 32) : Nat :=
  let c0_i32_3524 : BitVec 32 := 0#32
  let c1_i32_3523 : BitVec 32 := 1#32
  let v2770 : BitVec 32 := Scalar.muli v0 c1_i32_3523
  let v2771 : BitVec 32 := Scalar.addi c0_i32_3524 v2770
  v2771.toNat
def k0_dev119 (v0 : BitVec 32) : Nat :=
  let c0_i32_3531 : BitVec 32 := 0#32
  let c1_i32_3530 : BitVec 32 := 1#32
  let v2780 : BitVec 32 := Scalar.muli v0 c1_i32_3530
  let v2781 : BitVec 32 := Scalar.addi c0_i32_3531 v2780
  v2781.toNat
def k0_dev120 (v1 : BitVec 32) : Nat :=
  let c0_i32_3534 : BitVec 32 := 0#32
  let c1_i32_3533 : BitVec 32 := 1#32
  let v2782 : BitVec 32 := Scalar.muli v1 c1_i32_3533
  let v2783 : BitVec 32 := Scalar.addi c0_i32_3534 v2782
  v2783.toNat
def k0_off41 (v2784 : BitVec 32) : Fin 2 → Nat :=
  let c128_i32_3535 : BitVec 32 := 128#32
  let v2785 : BitVec 32 := Scalar.muli v2784 c128_i32_3535
  let v2786 : Index := Scalar.indexCast v2785
  let c0_3536 : Index := 0#32
  ![v2786.toNat, 0]

def k0_chk43 (v2784 : BitVec 32) : Prop :=
  (∀ a, (k0_off41 v2784) a + S128x128.size a ≤ S4096x128.size a)
theorem k0_off41_inb : ∀ (v2784 : BitVec 32) (k0_hw43 : k0_chk43 v2784), ∀ a, (k0_off41 v2784) a + S128x128.size a ≤ S4096x128.size a := fun v2784 k0_hw43 => k0_hw43

def k0_off42 (v2792 : BitVec 32) : Fin 2 → Nat :=
  let c128_i32_3541 : BitVec 32 := 128#32
  let v2793 : BitVec 32 := Scalar.muli v2792 c128_i32_3541
  let v2794 : Index := Scalar.indexCast v2793
  let c0_3542 : Index := 0#32
  ![v2794.toNat, 0]

def k0_chk44 (v2792 : BitVec 32) : Prop :=
  (∀ a, (k0_off42 v2792) a + S128x128.size a ≤ S4096x128.size a)
theorem k0_off42_inb : ∀ (v2792 : BitVec 32) (k0_hw44 : k0_chk44 v2792), ∀ a, (k0_off42 v2792) a + S128x128.size a ≤ S4096x128.size a := fun v2792 k0_hw44 => k0_hw44

def k0_dev121 (v1 : BitVec 32) : Nat :=
  let c0_i32_3584 : BitVec 32 := 0#32
  let c1_i32_3583 : BitVec 32 := 1#32
  let v2821 : BitVec 32 := Scalar.muli v1 c1_i32_3583
  let v2822 : BitVec 32 := Scalar.addi c0_i32_3584 v2821
  v2822.toNat
def k0_dev122 (v0 : BitVec 32) : Nat :=
  let c0_i32_3627 : BitVec 32 := 0#32
  let c1_i32_3626 : BitVec 32 := 1#32
  let v2852 : BitVec 32 := Scalar.muli v0 c1_i32_3626
  let v2853 : BitVec 32 := Scalar.addi c0_i32_3627 v2852
  v2853.toNat
def k0_dev123 (v1 : BitVec 32) : Nat :=
  let c0_i32_3668 : BitVec 32 := 0#32
  let c1_i32_3667 : BitVec 32 := 1#32
  let v2883 : BitVec 32 := Scalar.muli v1 c1_i32_3667
  let v2884 : BitVec 32 := Scalar.addi c0_i32_3668 v2883
  v2884.toNat
def k0_dev124 (v0 : BitVec 32) : Nat :=
  let c0_i32_3709 : BitVec 32 := 0#32
  let c1_i32_3708 : BitVec 32 := 1#32
  let v2914 : BitVec 32 := Scalar.muli v0 c1_i32_3708
  let v2915 : BitVec 32 := Scalar.addi c0_i32_3709 v2914
  v2915.toNat
def k0_dev125 (v0 : BitVec 32) : Nat :=
  let c0_i32_3716 : BitVec 32 := 0#32
  let c1_i32_3715 : BitVec 32 := 1#32
  let v2924 : BitVec 32 := Scalar.muli v0 c1_i32_3715
  let v2925 : BitVec 32 := Scalar.addi c0_i32_3716 v2924
  v2925.toNat
def k0_dev126 (v1 : BitVec 32) : Nat :=
  let c0_i32_3719 : BitVec 32 := 0#32
  let c1_i32_3718 : BitVec 32 := 1#32
  let v2926 : BitVec 32 := Scalar.muli v1 c1_i32_3718
  let v2927 : BitVec 32 := Scalar.addi c0_i32_3719 v2926
  v2927.toNat
def k0_off43 (v2928 : BitVec 32) : Fin 2 → Nat :=
  let c128_i32_3720 : BitVec 32 := 128#32
  let v2929 : BitVec 32 := Scalar.muli v2928 c128_i32_3720
  let v2930 : Index := Scalar.indexCast v2929
  let c0_3721 : Index := 0#32
  ![v2930.toNat, 0]

def k0_chk45 (v2928 : BitVec 32) : Prop :=
  (∀ a, (k0_off43 v2928) a + S128x128.size a ≤ S4096x128.size a)
theorem k0_off43_inb : ∀ (v2928 : BitVec 32) (k0_hw45 : k0_chk45 v2928), ∀ a, (k0_off43 v2928) a + S128x128.size a ≤ S4096x128.size a := fun v2928 k0_hw45 => k0_hw45

def k0_off44 (v2936 : BitVec 32) : Fin 2 → Nat :=
  let c128_i32_3726 : BitVec 32 := 128#32
  let v2937 : BitVec 32 := Scalar.muli v2936 c128_i32_3726
  let v2938 : Index := Scalar.indexCast v2937
  let c0_3727 : Index := 0#32
  ![v2938.toNat, 0]

def k0_chk46 (v2936 : BitVec 32) : Prop :=
  (∀ a, (k0_off44 v2936) a + S128x128.size a ≤ S4096x128.size a)
theorem k0_off44_inb : ∀ (v2936 : BitVec 32) (k0_hw46 : k0_chk46 v2936), ∀ a, (k0_off44 v2936) a + S128x128.size a ≤ S4096x128.size a := fun v2936 k0_hw46 => k0_hw46

def k0_dev127 (v1 : BitVec 32) : Nat :=
  let c0_i32_3769 : BitVec 32 := 0#32
  let c1_i32_3768 : BitVec 32 := 1#32
  let v2965 : BitVec 32 := Scalar.muli v1 c1_i32_3768
  let v2966 : BitVec 32 := Scalar.addi c0_i32_3769 v2965
  v2966.toNat
def k0_dev128 (v0 : BitVec 32) : Nat :=
  let c0_i32_3812 : BitVec 32 := 0#32
  let c1_i32_3811 : BitVec 32 := 1#32
  let v2996 : BitVec 32 := Scalar.muli v0 c1_i32_3811
  let v2997 : BitVec 32 := Scalar.addi c0_i32_3812 v2996
  v2997.toNat
def k0_dev129 (v1 : BitVec 32) : Nat :=
  let c0_i32_3853 : BitVec 32 := 0#32
  let c1_i32_3852 : BitVec 32 := 1#32
  let v3027 : BitVec 32 := Scalar.muli v1 c1_i32_3852
  let v3028 : BitVec 32 := Scalar.addi c0_i32_3853 v3027
  v3028.toNat
def k0_dev130 (v0 : BitVec 32) : Nat :=
  let c0_i32_3894 : BitVec 32 := 0#32
  let c1_i32_3893 : BitVec 32 := 1#32
  let v3058 : BitVec 32 := Scalar.muli v0 c1_i32_3893
  let v3059 : BitVec 32 := Scalar.addi c0_i32_3894 v3058
  v3059.toNat
def k0_dev131 (v0 : BitVec 32) : Nat :=
  let c0_i32_3901 : BitVec 32 := 0#32
  let c1_i32_3900 : BitVec 32 := 1#32
  let v3068 : BitVec 32 := Scalar.muli v0 c1_i32_3900
  let v3069 : BitVec 32 := Scalar.addi c0_i32_3901 v3068
  v3069.toNat
def k0_dev132 (v1 : BitVec 32) : Nat :=
  let c0_i32_3904 : BitVec 32 := 0#32
  let c1_i32_3903 : BitVec 32 := 1#32
  let v3070 : BitVec 32 := Scalar.muli v1 c1_i32_3903
  let v3071 : BitVec 32 := Scalar.addi c0_i32_3904 v3070
  v3071.toNat
def k0_off45 (v3072 : BitVec 32) : Fin 2 → Nat :=
  let c128_i32_3905 : BitVec 32 := 128#32
  let v3073 : BitVec 32 := Scalar.muli v3072 c128_i32_3905
  let v3074 : Index := Scalar.indexCast v3073
  let c0_3906 : Index := 0#32
  ![v3074.toNat, 0]

def k0_chk47 (v3072 : BitVec 32) : Prop :=
  (∀ a, (k0_off45 v3072) a + S128x128.size a ≤ S4096x128.size a)
theorem k0_off45_inb : ∀ (v3072 : BitVec 32) (k0_hw47 : k0_chk47 v3072), ∀ a, (k0_off45 v3072) a + S128x128.size a ≤ S4096x128.size a := fun v3072 k0_hw47 => k0_hw47

def k0_off46 (v3080 : BitVec 32) : Fin 2 → Nat :=
  let c128_i32_3911 : BitVec 32 := 128#32
  let v3081 : BitVec 32 := Scalar.muli v3080 c128_i32_3911
  let v3082 : Index := Scalar.indexCast v3081
  let c0_3912 : Index := 0#32
  ![v3082.toNat, 0]

def k0_chk48 (v3080 : BitVec 32) : Prop :=
  (∀ a, (k0_off46 v3080) a + S128x128.size a ≤ S4096x128.size a)
theorem k0_off46_inb : ∀ (v3080 : BitVec 32) (k0_hw48 : k0_chk48 v3080), ∀ a, (k0_off46 v3080) a + S128x128.size a ≤ S4096x128.size a := fun v3080 k0_hw48 => k0_hw48

def k0_dev133 (v1 : BitVec 32) : Nat :=
  let c0_i32_3954 : BitVec 32 := 0#32
  let c1_i32_3953 : BitVec 32 := 1#32
  let v3109 : BitVec 32 := Scalar.muli v1 c1_i32_3953
  let v3110 : BitVec 32 := Scalar.addi c0_i32_3954 v3109
  v3110.toNat
def k0_dev134 (v0 : BitVec 32) : Nat :=
  let c0_i32_3997 : BitVec 32 := 0#32
  let c1_i32_3996 : BitVec 32 := 1#32
  let v3140 : BitVec 32 := Scalar.muli v0 c1_i32_3996
  let v3141 : BitVec 32 := Scalar.addi c0_i32_3997 v3140
  v3141.toNat
def k0_dev135 (v1 : BitVec 32) : Nat :=
  let c0_i32_4038 : BitVec 32 := 0#32
  let c1_i32_4037 : BitVec 32 := 1#32
  let v3171 : BitVec 32 := Scalar.muli v1 c1_i32_4037
  let v3172 : BitVec 32 := Scalar.addi c0_i32_4038 v3171
  v3172.toNat
def k0_dev136 (v0 : BitVec 32) : Nat :=
  let c0_i32_4079 : BitVec 32 := 0#32
  let c1_i32_4078 : BitVec 32 := 1#32
  let v3202 : BitVec 32 := Scalar.muli v0 c1_i32_4078
  let v3203 : BitVec 32 := Scalar.addi c0_i32_4079 v3202
  v3203.toNat
def k0_dev137 (v0 : BitVec 32) : Nat :=
  let c0_i32_4086 : BitVec 32 := 0#32
  let c1_i32_4085 : BitVec 32 := 1#32
  let v3212 : BitVec 32 := Scalar.muli v0 c1_i32_4085
  let v3213 : BitVec 32 := Scalar.addi c0_i32_4086 v3212
  v3213.toNat
def k0_dev138 (v1 : BitVec 32) : Nat :=
  let c0_i32_4089 : BitVec 32 := 0#32
  let c1_i32_4088 : BitVec 32 := 1#32
  let v3214 : BitVec 32 := Scalar.muli v1 c1_i32_4088
  let v3215 : BitVec 32 := Scalar.addi c0_i32_4089 v3214
  v3215.toNat
def k0_off47 (v3216 : BitVec 32) : Fin 2 → Nat :=
  let c128_i32_4090 : BitVec 32 := 128#32
  let v3217 : BitVec 32 := Scalar.muli v3216 c128_i32_4090
  let v3218 : Index := Scalar.indexCast v3217
  let c0_4091 : Index := 0#32
  ![v3218.toNat, 0]

def k0_chk49 (v3216 : BitVec 32) : Prop :=
  (∀ a, (k0_off47 v3216) a + S128x128.size a ≤ S4096x128.size a)
theorem k0_off47_inb : ∀ (v3216 : BitVec 32) (k0_hw49 : k0_chk49 v3216), ∀ a, (k0_off47 v3216) a + S128x128.size a ≤ S4096x128.size a := fun v3216 k0_hw49 => k0_hw49

def k0_off48 (v3224 : BitVec 32) : Fin 2 → Nat :=
  let c128_i32_4096 : BitVec 32 := 128#32
  let v3225 : BitVec 32 := Scalar.muli v3224 c128_i32_4096
  let v3226 : Index := Scalar.indexCast v3225
  let c0_4097 : Index := 0#32
  ![v3226.toNat, 0]

def k0_chk50 (v3224 : BitVec 32) : Prop :=
  (∀ a, (k0_off48 v3224) a + S128x128.size a ≤ S4096x128.size a)
theorem k0_off48_inb : ∀ (v3224 : BitVec 32) (k0_hw50 : k0_chk50 v3224), ∀ a, (k0_off48 v3224) a + S128x128.size a ≤ S4096x128.size a := fun v3224 k0_hw50 => k0_hw50

def k0_dev139 (v1 : BitVec 32) : Nat :=
  let c0_i32_4139 : BitVec 32 := 0#32
  let c1_i32_4138 : BitVec 32 := 1#32
  let v3253 : BitVec 32 := Scalar.muli v1 c1_i32_4138
  let v3254 : BitVec 32 := Scalar.addi c0_i32_4139 v3253
  v3254.toNat
def k0_dev140 (v0 : BitVec 32) : Nat :=
  let c0_i32_4182 : BitVec 32 := 0#32
  let c1_i32_4181 : BitVec 32 := 1#32
  let v3284 : BitVec 32 := Scalar.muli v0 c1_i32_4181
  let v3285 : BitVec 32 := Scalar.addi c0_i32_4182 v3284
  v3285.toNat
def k0_dev141 (v1 : BitVec 32) : Nat :=
  let c0_i32_4223 : BitVec 32 := 0#32
  let c1_i32_4222 : BitVec 32 := 1#32
  let v3315 : BitVec 32 := Scalar.muli v1 c1_i32_4222
  let v3316 : BitVec 32 := Scalar.addi c0_i32_4223 v3315
  v3316.toNat
def k0_dev142 (v0 : BitVec 32) : Nat :=
  let c0_i32_4264 : BitVec 32 := 0#32
  let c1_i32_4263 : BitVec 32 := 1#32
  let v3346 : BitVec 32 := Scalar.muli v0 c1_i32_4263
  let v3347 : BitVec 32 := Scalar.addi c0_i32_4264 v3346
  v3347.toNat
def k0_dev143 (v0 : BitVec 32) : Nat :=
  let c0_i32_4271 : BitVec 32 := 0#32
  let c1_i32_4270 : BitVec 32 := 1#32
  let v3356 : BitVec 32 := Scalar.muli v0 c1_i32_4270
  let v3357 : BitVec 32 := Scalar.addi c0_i32_4271 v3356
  v3357.toNat
def k0_dev144 (v1 : BitVec 32) : Nat :=
  let c0_i32_4274 : BitVec 32 := 0#32
  let c1_i32_4273 : BitVec 32 := 1#32
  let v3358 : BitVec 32 := Scalar.muli v1 c1_i32_4273
  let v3359 : BitVec 32 := Scalar.addi c0_i32_4274 v3358
  v3359.toNat
def k0_off49 (v3360 : BitVec 32) : Fin 2 → Nat :=
  let c128_i32_4275 : BitVec 32 := 128#32
  let v3361 : BitVec 32 := Scalar.muli v3360 c128_i32_4275
  let v3362 : Index := Scalar.indexCast v3361
  let c0_4276 : Index := 0#32
  ![v3362.toNat, 0]

def k0_chk51 (v3360 : BitVec 32) : Prop :=
  (∀ a, (k0_off49 v3360) a + S128x128.size a ≤ S4096x128.size a)
theorem k0_off49_inb : ∀ (v3360 : BitVec 32) (k0_hw51 : k0_chk51 v3360), ∀ a, (k0_off49 v3360) a + S128x128.size a ≤ S4096x128.size a := fun v3360 k0_hw51 => k0_hw51

def k0_off50 (v3368 : BitVec 32) : Fin 2 → Nat :=
  let c128_i32_4281 : BitVec 32 := 128#32
  let v3369 : BitVec 32 := Scalar.muli v3368 c128_i32_4281
  let v3370 : Index := Scalar.indexCast v3369
  let c0_4282 : Index := 0#32
  ![v3370.toNat, 0]

def k0_chk52 (v3368 : BitVec 32) : Prop :=
  (∀ a, (k0_off50 v3368) a + S128x128.size a ≤ S4096x128.size a)
theorem k0_off50_inb : ∀ (v3368 : BitVec 32) (k0_hw52 : k0_chk52 v3368), ∀ a, (k0_off50 v3368) a + S128x128.size a ≤ S4096x128.size a := fun v3368 k0_hw52 => k0_hw52

def k0_dev145 (v1 : BitVec 32) : Nat :=
  let c0_i32_4324 : BitVec 32 := 0#32
  let c1_i32_4323 : BitVec 32 := 1#32
  let v3397 : BitVec 32 := Scalar.muli v1 c1_i32_4323
  let v3398 : BitVec 32 := Scalar.addi c0_i32_4324 v3397
  v3398.toNat
def k0_dev146 (v0 : BitVec 32) : Nat :=
  let c0_i32_4367 : BitVec 32 := 0#32
  let c1_i32_4366 : BitVec 32 := 1#32
  let v3428 : BitVec 32 := Scalar.muli v0 c1_i32_4366
  let v3429 : BitVec 32 := Scalar.addi c0_i32_4367 v3428
  v3429.toNat
def k0_dev147 (v1 : BitVec 32) : Nat :=
  let c0_i32_4408 : BitVec 32 := 0#32
  let c1_i32_4407 : BitVec 32 := 1#32
  let v3459 : BitVec 32 := Scalar.muli v1 c1_i32_4407
  let v3460 : BitVec 32 := Scalar.addi c0_i32_4408 v3459
  v3460.toNat
def k0_dev148 (v0 : BitVec 32) : Nat :=
  let c0_i32_4449 : BitVec 32 := 0#32
  let c1_i32_4448 : BitVec 32 := 1#32
  let v3490 : BitVec 32 := Scalar.muli v0 c1_i32_4448
  let v3491 : BitVec 32 := Scalar.addi c0_i32_4449 v3490
  v3491.toNat
def k0_dev149 (v0 : BitVec 32) : Nat :=
  let c0_i32_4456 : BitVec 32 := 0#32
  let c1_i32_4455 : BitVec 32 := 1#32
  let v3500 : BitVec 32 := Scalar.muli v0 c1_i32_4455
  let v3501 : BitVec 32 := Scalar.addi c0_i32_4456 v3500
  v3501.toNat
def k0_dev150 (v1 : BitVec 32) : Nat :=
  let c0_i32_4459 : BitVec 32 := 0#32
  let c1_i32_4458 : BitVec 32 := 1#32
  let v3502 : BitVec 32 := Scalar.muli v1 c1_i32_4458
  let v3503 : BitVec 32 := Scalar.addi c0_i32_4459 v3502
  v3503.toNat
def k0_off51 (v3504 : BitVec 32) : Fin 2 → Nat :=
  let c128_i32_4460 : BitVec 32 := 128#32
  let v3505 : BitVec 32 := Scalar.muli v3504 c128_i32_4460
  let v3506 : Index := Scalar.indexCast v3505
  let c0_4461 : Index := 0#32
  ![v3506.toNat, 0]

def k0_chk53 (v3504 : BitVec 32) : Prop :=
  (∀ a, (k0_off51 v3504) a + S128x128.size a ≤ S4096x128.size a)
theorem k0_off51_inb : ∀ (v3504 : BitVec 32) (k0_hw53 : k0_chk53 v3504), ∀ a, (k0_off51 v3504) a + S128x128.size a ≤ S4096x128.size a := fun v3504 k0_hw53 => k0_hw53

def k0_off52 (v3512 : BitVec 32) : Fin 2 → Nat :=
  let c128_i32_4466 : BitVec 32 := 128#32
  let v3513 : BitVec 32 := Scalar.muli v3512 c128_i32_4466
  let v3514 : Index := Scalar.indexCast v3513
  let c0_4467 : Index := 0#32
  ![v3514.toNat, 0]

def k0_chk54 (v3512 : BitVec 32) : Prop :=
  (∀ a, (k0_off52 v3512) a + S128x128.size a ≤ S4096x128.size a)
theorem k0_off52_inb : ∀ (v3512 : BitVec 32) (k0_hw54 : k0_chk54 v3512), ∀ a, (k0_off52 v3512) a + S128x128.size a ≤ S4096x128.size a := fun v3512 k0_hw54 => k0_hw54

def k0_dev151 (v1 : BitVec 32) : Nat :=
  let c0_i32_4509 : BitVec 32 := 0#32
  let c1_i32_4508 : BitVec 32 := 1#32
  let v3541 : BitVec 32 := Scalar.muli v1 c1_i32_4508
  let v3542 : BitVec 32 := Scalar.addi c0_i32_4509 v3541
  v3542.toNat
def k0_dev152 (v0 : BitVec 32) : Nat :=
  let c0_i32_4552 : BitVec 32 := 0#32
  let c1_i32_4551 : BitVec 32 := 1#32
  let v3572 : BitVec 32 := Scalar.muli v0 c1_i32_4551
  let v3573 : BitVec 32 := Scalar.addi c0_i32_4552 v3572
  v3573.toNat
def k0_dev153 (v1 : BitVec 32) : Nat :=
  let c0_i32_4593 : BitVec 32 := 0#32
  let c1_i32_4592 : BitVec 32 := 1#32
  let v3603 : BitVec 32 := Scalar.muli v1 c1_i32_4592
  let v3604 : BitVec 32 := Scalar.addi c0_i32_4593 v3603
  v3604.toNat
def k0_dev154 (v0 : BitVec 32) : Nat :=
  let c0_i32_4634 : BitVec 32 := 0#32
  let c1_i32_4633 : BitVec 32 := 1#32
  let v3634 : BitVec 32 := Scalar.muli v0 c1_i32_4633
  let v3635 : BitVec 32 := Scalar.addi c0_i32_4634 v3634
  v3635.toNat
def k0_dev155 (v0 : BitVec 32) : Nat :=
  let c0_i32_4641 : BitVec 32 := 0#32
  let c1_i32_4640 : BitVec 32 := 1#32
  let v3644 : BitVec 32 := Scalar.muli v0 c1_i32_4640
  let v3645 : BitVec 32 := Scalar.addi c0_i32_4641 v3644
  v3645.toNat
def k0_dev156 (v1 : BitVec 32) : Nat :=
  let c0_i32_4644 : BitVec 32 := 0#32
  let c1_i32_4643 : BitVec 32 := 1#32
  let v3646 : BitVec 32 := Scalar.muli v1 c1_i32_4643
  let v3647 : BitVec 32 := Scalar.addi c0_i32_4644 v3646
  v3647.toNat
def k0_off53 (v3648 : BitVec 32) : Fin 2 → Nat :=
  let c128_i32_4645 : BitVec 32 := 128#32
  let v3649 : BitVec 32 := Scalar.muli v3648 c128_i32_4645
  let v3650 : Index := Scalar.indexCast v3649
  let c0_4646 : Index := 0#32
  ![v3650.toNat, 0]

def k0_chk55 (v3648 : BitVec 32) : Prop :=
  (∀ a, (k0_off53 v3648) a + S128x128.size a ≤ S4096x128.size a)
theorem k0_off53_inb : ∀ (v3648 : BitVec 32) (k0_hw55 : k0_chk55 v3648), ∀ a, (k0_off53 v3648) a + S128x128.size a ≤ S4096x128.size a := fun v3648 k0_hw55 => k0_hw55

def k0_off54 (v3656 : BitVec 32) : Fin 2 → Nat :=
  let c128_i32_4651 : BitVec 32 := 128#32
  let v3657 : BitVec 32 := Scalar.muli v3656 c128_i32_4651
  let v3658 : Index := Scalar.indexCast v3657
  let c0_4652 : Index := 0#32
  ![v3658.toNat, 0]

def k0_chk56 (v3656 : BitVec 32) : Prop :=
  (∀ a, (k0_off54 v3656) a + S128x128.size a ≤ S4096x128.size a)
theorem k0_off54_inb : ∀ (v3656 : BitVec 32) (k0_hw56 : k0_chk56 v3656), ∀ a, (k0_off54 v3656) a + S128x128.size a ≤ S4096x128.size a := fun v3656 k0_hw56 => k0_hw56

def k0_dev157 (v1 : BitVec 32) : Nat :=
  let c0_i32_4694 : BitVec 32 := 0#32
  let c1_i32_4693 : BitVec 32 := 1#32
  let v3685 : BitVec 32 := Scalar.muli v1 c1_i32_4693
  let v3686 : BitVec 32 := Scalar.addi c0_i32_4694 v3685
  v3686.toNat
def k0_dev158 (v0 : BitVec 32) : Nat :=
  let c0_i32_4737 : BitVec 32 := 0#32
  let c1_i32_4736 : BitVec 32 := 1#32
  let v3716 : BitVec 32 := Scalar.muli v0 c1_i32_4736
  let v3717 : BitVec 32 := Scalar.addi c0_i32_4737 v3716
  v3717.toNat
def k0_dev159 (v1 : BitVec 32) : Nat :=
  let c0_i32_4778 : BitVec 32 := 0#32
  let c1_i32_4777 : BitVec 32 := 1#32
  let v3747 : BitVec 32 := Scalar.muli v1 c1_i32_4777
  let v3748 : BitVec 32 := Scalar.addi c0_i32_4778 v3747
  v3748.toNat
def k0_dev160 (v0 : BitVec 32) : Nat :=
  let c0_i32_4819 : BitVec 32 := 0#32
  let c1_i32_4818 : BitVec 32 := 1#32
  let v3778 : BitVec 32 := Scalar.muli v0 c1_i32_4818
  let v3779 : BitVec 32 := Scalar.addi c0_i32_4819 v3778
  v3779.toNat
def k0_dev161 (v0 : BitVec 32) : Nat :=
  let c0_i32_4826 : BitVec 32 := 0#32
  let c1_i32_4825 : BitVec 32 := 1#32
  let v3788 : BitVec 32 := Scalar.muli v0 c1_i32_4825
  let v3789 : BitVec 32 := Scalar.addi c0_i32_4826 v3788
  v3789.toNat
def k0_dev162 (v1 : BitVec 32) : Nat :=
  let c0_i32_4829 : BitVec 32 := 0#32
  let c1_i32_4828 : BitVec 32 := 1#32
  let v3790 : BitVec 32 := Scalar.muli v1 c1_i32_4828
  let v3791 : BitVec 32 := Scalar.addi c0_i32_4829 v3790
  v3791.toNat
def k0_off55 (v3792 : BitVec 32) : Fin 2 → Nat :=
  let c128_i32_4830 : BitVec 32 := 128#32
  let v3793 : BitVec 32 := Scalar.muli v3792 c128_i32_4830
  let v3794 : Index := Scalar.indexCast v3793
  let c0_4831 : Index := 0#32
  ![v3794.toNat, 0]

def k0_chk57 (v3792 : BitVec 32) : Prop :=
  (∀ a, (k0_off55 v3792) a + S128x128.size a ≤ S4096x128.size a)
theorem k0_off55_inb : ∀ (v3792 : BitVec 32) (k0_hw57 : k0_chk57 v3792), ∀ a, (k0_off55 v3792) a + S128x128.size a ≤ S4096x128.size a := fun v3792 k0_hw57 => k0_hw57

def k0_off56 (v3800 : BitVec 32) : Fin 2 → Nat :=
  let c128_i32_4836 : BitVec 32 := 128#32
  let v3801 : BitVec 32 := Scalar.muli v3800 c128_i32_4836
  let v3802 : Index := Scalar.indexCast v3801
  let c0_4837 : Index := 0#32
  ![v3802.toNat, 0]

def k0_chk58 (v3800 : BitVec 32) : Prop :=
  (∀ a, (k0_off56 v3800) a + S128x128.size a ≤ S4096x128.size a)
theorem k0_off56_inb : ∀ (v3800 : BitVec 32) (k0_hw58 : k0_chk58 v3800), ∀ a, (k0_off56 v3800) a + S128x128.size a ≤ S4096x128.size a := fun v3800 k0_hw58 => k0_hw58

def k0_dev163 (v1 : BitVec 32) : Nat :=
  let c0_i32_4879 : BitVec 32 := 0#32
  let c1_i32_4878 : BitVec 32 := 1#32
  let v3829 : BitVec 32 := Scalar.muli v1 c1_i32_4878
  let v3830 : BitVec 32 := Scalar.addi c0_i32_4879 v3829
  v3830.toNat
def k0_dev164 (v0 : BitVec 32) : Nat :=
  let c0_i32_4922 : BitVec 32 := 0#32
  let c1_i32_4921 : BitVec 32 := 1#32
  let v3860 : BitVec 32 := Scalar.muli v0 c1_i32_4921
  let v3861 : BitVec 32 := Scalar.addi c0_i32_4922 v3860
  v3861.toNat
def k0_dev165 (v1 : BitVec 32) : Nat :=
  let c0_i32_4963 : BitVec 32 := 0#32
  let c1_i32_4962 : BitVec 32 := 1#32
  let v3891 : BitVec 32 := Scalar.muli v1 c1_i32_4962
  let v3892 : BitVec 32 := Scalar.addi c0_i32_4963 v3891
  v3892.toNat
def k0_dev166 (v0 : BitVec 32) : Nat :=
  let c0_i32_5004 : BitVec 32 := 0#32
  let c1_i32_5003 : BitVec 32 := 1#32
  let v3922 : BitVec 32 := Scalar.muli v0 c1_i32_5003
  let v3923 : BitVec 32 := Scalar.addi c0_i32_5004 v3922
  v3923.toNat
def k0_dev167 (v0 : BitVec 32) : Nat :=
  let c0_i32_5011 : BitVec 32 := 0#32
  let c1_i32_5010 : BitVec 32 := 1#32
  let v3932 : BitVec 32 := Scalar.muli v0 c1_i32_5010
  let v3933 : BitVec 32 := Scalar.addi c0_i32_5011 v3932
  v3933.toNat
def k0_dev168 (v1 : BitVec 32) : Nat :=
  let c0_i32_5014 : BitVec 32 := 0#32
  let c1_i32_5013 : BitVec 32 := 1#32
  let v3934 : BitVec 32 := Scalar.muli v1 c1_i32_5013
  let v3935 : BitVec 32 := Scalar.addi c0_i32_5014 v3934
  v3935.toNat
def k0_off57 (v3936 : BitVec 32) : Fin 2 → Nat :=
  let c128_i32_5015 : BitVec 32 := 128#32
  let v3937 : BitVec 32 := Scalar.muli v3936 c128_i32_5015
  let v3938 : Index := Scalar.indexCast v3937
  let c0_5016 : Index := 0#32
  ![v3938.toNat, 0]

def k0_chk59 (v3936 : BitVec 32) : Prop :=
  (∀ a, (k0_off57 v3936) a + S128x128.size a ≤ S4096x128.size a)
theorem k0_off57_inb : ∀ (v3936 : BitVec 32) (k0_hw59 : k0_chk59 v3936), ∀ a, (k0_off57 v3936) a + S128x128.size a ≤ S4096x128.size a := fun v3936 k0_hw59 => k0_hw59

def k0_off58 (v3944 : BitVec 32) : Fin 2 → Nat :=
  let c128_i32_5021 : BitVec 32 := 128#32
  let v3945 : BitVec 32 := Scalar.muli v3944 c128_i32_5021
  let v3946 : Index := Scalar.indexCast v3945
  let c0_5022 : Index := 0#32
  ![v3946.toNat, 0]

def k0_chk60 (v3944 : BitVec 32) : Prop :=
  (∀ a, (k0_off58 v3944) a + S128x128.size a ≤ S4096x128.size a)
theorem k0_off58_inb : ∀ (v3944 : BitVec 32) (k0_hw60 : k0_chk60 v3944), ∀ a, (k0_off58 v3944) a + S128x128.size a ≤ S4096x128.size a := fun v3944 k0_hw60 => k0_hw60

def k0_dev169 (v1 : BitVec 32) : Nat :=
  let c0_i32_5064 : BitVec 32 := 0#32
  let c1_i32_5063 : BitVec 32 := 1#32
  let v3973 : BitVec 32 := Scalar.muli v1 c1_i32_5063
  let v3974 : BitVec 32 := Scalar.addi c0_i32_5064 v3973
  v3974.toNat
def k0_dev170 (v0 : BitVec 32) : Nat :=
  let c0_i32_5107 : BitVec 32 := 0#32
  let c1_i32_5106 : BitVec 32 := 1#32
  let v4004 : BitVec 32 := Scalar.muli v0 c1_i32_5106
  let v4005 : BitVec 32 := Scalar.addi c0_i32_5107 v4004
  v4005.toNat
def k0_dev171 (v1 : BitVec 32) : Nat :=
  let c0_i32_5148 : BitVec 32 := 0#32
  let c1_i32_5147 : BitVec 32 := 1#32
  let v4035 : BitVec 32 := Scalar.muli v1 c1_i32_5147
  let v4036 : BitVec 32 := Scalar.addi c0_i32_5148 v4035
  v4036.toNat
def k0_dev172 (v0 : BitVec 32) : Nat :=
  let c0_i32_5189 : BitVec 32 := 0#32
  let c1_i32_5188 : BitVec 32 := 1#32
  let v4066 : BitVec 32 := Scalar.muli v0 c1_i32_5188
  let v4067 : BitVec 32 := Scalar.addi c0_i32_5189 v4066
  v4067.toNat
def k0_dev173 (v0 : BitVec 32) : Nat :=
  let c0_i32_5196 : BitVec 32 := 0#32
  let c1_i32_5195 : BitVec 32 := 1#32
  let v4076 : BitVec 32 := Scalar.muli v0 c1_i32_5195
  let v4077 : BitVec 32 := Scalar.addi c0_i32_5196 v4076
  v4077.toNat
def k0_dev174 (v1 : BitVec 32) : Nat :=
  let c0_i32_5199 : BitVec 32 := 0#32
  let c1_i32_5198 : BitVec 32 := 1#32
  let v4078 : BitVec 32 := Scalar.muli v1 c1_i32_5198
  let v4079 : BitVec 32 := Scalar.addi c0_i32_5199 v4078
  v4079.toNat
def k0_off59 (v4080 : BitVec 32) : Fin 2 → Nat :=
  let c128_i32_5200 : BitVec 32 := 128#32
  let v4081 : BitVec 32 := Scalar.muli v4080 c128_i32_5200
  let v4082 : Index := Scalar.indexCast v4081
  let c0_5201 : Index := 0#32
  ![v4082.toNat, 0]

def k0_chk61 (v4080 : BitVec 32) : Prop :=
  (∀ a, (k0_off59 v4080) a + S128x128.size a ≤ S4096x128.size a)
theorem k0_off59_inb : ∀ (v4080 : BitVec 32) (k0_hw61 : k0_chk61 v4080), ∀ a, (k0_off59 v4080) a + S128x128.size a ≤ S4096x128.size a := fun v4080 k0_hw61 => k0_hw61

def k0_off60 (v4088 : BitVec 32) : Fin 2 → Nat :=
  let c128_i32_5206 : BitVec 32 := 128#32
  let v4089 : BitVec 32 := Scalar.muli v4088 c128_i32_5206
  let v4090 : Index := Scalar.indexCast v4089
  let c0_5207 : Index := 0#32
  ![v4090.toNat, 0]

def k0_chk62 (v4088 : BitVec 32) : Prop :=
  (∀ a, (k0_off60 v4088) a + S128x128.size a ≤ S4096x128.size a)
theorem k0_off60_inb : ∀ (v4088 : BitVec 32) (k0_hw62 : k0_chk62 v4088), ∀ a, (k0_off60 v4088) a + S128x128.size a ≤ S4096x128.size a := fun v4088 k0_hw62 => k0_hw62

def k0_dev175 (v1 : BitVec 32) : Nat :=
  let c0_i32_5249 : BitVec 32 := 0#32
  let c1_i32_5248 : BitVec 32 := 1#32
  let v4117 : BitVec 32 := Scalar.muli v1 c1_i32_5248
  let v4118 : BitVec 32 := Scalar.addi c0_i32_5249 v4117
  v4118.toNat
def k0_dev176 (v0 : BitVec 32) : Nat :=
  let c0_i32_5292 : BitVec 32 := 0#32
  let c1_i32_5291 : BitVec 32 := 1#32
  let v4148 : BitVec 32 := Scalar.muli v0 c1_i32_5291
  let v4149 : BitVec 32 := Scalar.addi c0_i32_5292 v4148
  v4149.toNat
def k0_dev177 (v1 : BitVec 32) : Nat :=
  let c0_i32_5333 : BitVec 32 := 0#32
  let c1_i32_5332 : BitVec 32 := 1#32
  let v4179 : BitVec 32 := Scalar.muli v1 c1_i32_5332
  let v4180 : BitVec 32 := Scalar.addi c0_i32_5333 v4179
  v4180.toNat
def k0_dev178 (v0 : BitVec 32) : Nat :=
  let c0_i32_5374 : BitVec 32 := 0#32
  let c1_i32_5373 : BitVec 32 := 1#32
  let v4210 : BitVec 32 := Scalar.muli v0 c1_i32_5373
  let v4211 : BitVec 32 := Scalar.addi c0_i32_5374 v4210
  v4211.toNat
def k0_dev179 (v0 : BitVec 32) : Nat :=
  let c0_i32_5381 : BitVec 32 := 0#32
  let c1_i32_5380 : BitVec 32 := 1#32
  let v4220 : BitVec 32 := Scalar.muli v0 c1_i32_5380
  let v4221 : BitVec 32 := Scalar.addi c0_i32_5381 v4220
  v4221.toNat
def k0_dev180 (v1 : BitVec 32) : Nat :=
  let c0_i32_5384 : BitVec 32 := 0#32
  let c1_i32_5383 : BitVec 32 := 1#32
  let v4222 : BitVec 32 := Scalar.muli v1 c1_i32_5383
  let v4223 : BitVec 32 := Scalar.addi c0_i32_5384 v4222
  v4223.toNat
def k0_off61 (v4224 : BitVec 32) : Fin 2 → Nat :=
  let c128_i32_5385 : BitVec 32 := 128#32
  let v4225 : BitVec 32 := Scalar.muli v4224 c128_i32_5385
  let v4226 : Index := Scalar.indexCast v4225
  let c0_5386 : Index := 0#32
  ![v4226.toNat, 0]

def k0_chk63 (v4224 : BitVec 32) : Prop :=
  (∀ a, (k0_off61 v4224) a + S128x128.size a ≤ S4096x128.size a)
theorem k0_off61_inb : ∀ (v4224 : BitVec 32) (k0_hw63 : k0_chk63 v4224), ∀ a, (k0_off61 v4224) a + S128x128.size a ≤ S4096x128.size a := fun v4224 k0_hw63 => k0_hw63

def k0_off62 (v4232 : BitVec 32) : Fin 2 → Nat :=
  let c128_i32_5391 : BitVec 32 := 128#32
  let v4233 : BitVec 32 := Scalar.muli v4232 c128_i32_5391
  let v4234 : Index := Scalar.indexCast v4233
  let c0_5392 : Index := 0#32
  ![v4234.toNat, 0]

def k0_chk64 (v4232 : BitVec 32) : Prop :=
  (∀ a, (k0_off62 v4232) a + S128x128.size a ≤ S4096x128.size a)
theorem k0_off62_inb : ∀ (v4232 : BitVec 32) (k0_hw64 : k0_chk64 v4232), ∀ a, (k0_off62 v4232) a + S128x128.size a ≤ S4096x128.size a := fun v4232 k0_hw64 => k0_hw64

def k0_dev181 (v1 : BitVec 32) : Nat :=
  let c0_i32_5434 : BitVec 32 := 0#32
  let c1_i32_5433 : BitVec 32 := 1#32
  let v4261 : BitVec 32 := Scalar.muli v1 c1_i32_5433
  let v4262 : BitVec 32 := Scalar.addi c0_i32_5434 v4261
  v4262.toNat
def k0_dev182 (v0 : BitVec 32) : Nat :=
  let c0_i32_5477 : BitVec 32 := 0#32
  let c1_i32_5476 : BitVec 32 := 1#32
  let v4292 : BitVec 32 := Scalar.muli v0 c1_i32_5476
  let v4293 : BitVec 32 := Scalar.addi c0_i32_5477 v4292
  v4293.toNat
def k0_dev183 (v1 : BitVec 32) : Nat :=
  let c0_i32_5518 : BitVec 32 := 0#32
  let c1_i32_5517 : BitVec 32 := 1#32
  let v4323 : BitVec 32 := Scalar.muli v1 c1_i32_5517
  let v4324 : BitVec 32 := Scalar.addi c0_i32_5518 v4323
  v4324.toNat

def k0_chk2_0 (v1 : BitVec 32) : Prop :=
  ((k0_dev2 v1) < nD) ∧
  ((k0_dev3 v1) < nD) ∧
  ((k0_dev5 v1) < nD) ∧
  ((k0_dev7 v1) < nD) ∧
  ((k0_dev9 v1) < nD) ∧
  ((k0_dev12 v1) < nD) ∧
  ((k0_dev13 v1) < nD) ∧
  ((k0_dev15 v1) < nD) ∧
  ((k0_dev18 v1) < nD) ∧
  ((k0_dev19 v1) < nD) ∧
  ((k0_dev21 v1) < nD) ∧
  ((k0_dev24 v1) < nD) ∧
  ((k0_dev25 v1) < nD) ∧
  ((k0_dev27 v1) < nD) ∧
  ((k0_dev30 v1) < nD) ∧
  ((k0_dev31 v1) < nD) ∧
  ((k0_dev33 v1) < nD) ∧
  ((k0_dev36 v1) < nD) ∧
  ((k0_dev37 v1) < nD) ∧
  ((k0_dev39 v1) < nD) ∧
  ((k0_dev42 v1) < nD) ∧
  ((k0_dev43 v1) < nD) ∧
  ((k0_dev45 v1) < nD) ∧
  ((k0_dev48 v1) < nD) ∧
  ((k0_dev49 v1) < nD) ∧
  ((k0_dev51 v1) < nD) ∧
  ((k0_dev54 v1) < nD) ∧
  ((k0_dev55 v1) < nD) ∧
  ((k0_dev57 v1) < nD) ∧
  ((k0_dev60 v1) < nD) ∧
  ((k0_dev61 v1) < nD) ∧
  ((k0_dev63 v1) < nD)
def k0_chk2_1 (v1 : BitVec 32) : Prop :=
  ((k0_dev66 v1) < nD) ∧
  ((k0_dev67 v1) < nD) ∧
  ((k0_dev69 v1) < nD) ∧
  ((k0_dev72 v1) < nD) ∧
  ((k0_dev73 v1) < nD) ∧
  ((k0_dev75 v1) < nD) ∧
  ((k0_dev78 v1) < nD) ∧
  ((k0_dev79 v1) < nD) ∧
  ((k0_dev81 v1) < nD) ∧
  ((k0_dev84 v1) < nD) ∧
  ((k0_dev85 v1) < nD) ∧
  ((k0_dev87 v1) < nD) ∧
  ((k0_dev90 v1) < nD) ∧
  ((k0_dev91 v1) < nD) ∧
  ((k0_dev93 v1) < nD) ∧
  ((k0_dev96 v1) < nD) ∧
  ((k0_dev97 v1) < nD) ∧
  ((k0_dev99 v1) < nD) ∧
  ((k0_dev102 v1) < nD) ∧
  ((k0_dev103 v1) < nD) ∧
  ((k0_dev105 v1) < nD) ∧
  ((k0_dev108 v1) < nD) ∧
  ((k0_dev109 v1) < nD) ∧
  ((k0_dev111 v1) < nD) ∧
  ((k0_dev114 v1) < nD) ∧
  ((k0_dev115 v1) < nD) ∧
  ((k0_dev117 v1) < nD) ∧
  ((k0_dev120 v1) < nD) ∧
  ((k0_dev121 v1) < nD) ∧
  ((k0_dev123 v1) < nD) ∧
  ((k0_dev126 v1) < nD) ∧
  ((k0_dev127 v1) < nD)
def k0_chk2_2 (v1 : BitVec 32) : Prop :=
  ((k0_dev129 v1) < nD) ∧
  ((k0_dev132 v1) < nD) ∧
  ((k0_dev133 v1) < nD) ∧
  ((k0_dev135 v1) < nD) ∧
  ((k0_dev138 v1) < nD) ∧
  ((k0_dev139 v1) < nD) ∧
  ((k0_dev141 v1) < nD) ∧
  ((k0_dev144 v1) < nD) ∧
  ((k0_dev145 v1) < nD) ∧
  ((k0_dev147 v1) < nD) ∧
  ((k0_dev150 v1) < nD) ∧
  ((k0_dev151 v1) < nD) ∧
  ((k0_dev153 v1) < nD) ∧
  ((k0_dev156 v1) < nD) ∧
  ((k0_dev157 v1) < nD) ∧
  ((k0_dev159 v1) < nD) ∧
  ((k0_dev162 v1) < nD) ∧
  ((k0_dev163 v1) < nD) ∧
  ((k0_dev165 v1) < nD) ∧
  ((k0_dev168 v1) < nD) ∧
  ((k0_dev169 v1) < nD) ∧
  ((k0_dev171 v1) < nD) ∧
  ((k0_dev174 v1) < nD) ∧
  ((k0_dev175 v1) < nD) ∧
  ((k0_dev177 v1) < nD) ∧
  ((k0_dev180 v1) < nD) ∧
  ((k0_dev181 v1) < nD) ∧
  ((k0_dev183 v1) < nD)
def k0_chk2 (v1 : BitVec 32) : Prop :=
  k0_chk2_0 v1 ∧
  k0_chk2_1 v1 ∧
  k0_chk2_2 v1
theorem k0_dev2_lt : ∀ (v1 : BitVec 32) (k0_hw2 : k0_chk2 v1), (k0_dev2 v1) < nD := fun v1 k0_hw2 => k0_hw2.1.1
theorem k0_dev3_lt : ∀ (v1 : BitVec 32) (k0_hw2 : k0_chk2 v1), (k0_dev3 v1) < nD := fun v1 k0_hw2 => k0_hw2.1.2.1
theorem k0_dev5_lt : ∀ (v1 : BitVec 32) (k0_hw2 : k0_chk2 v1), (k0_dev5 v1) < nD := fun v1 k0_hw2 => k0_hw2.1.2.2.1
theorem k0_dev7_lt : ∀ (v1 : BitVec 32) (k0_hw2 : k0_chk2 v1), (k0_dev7 v1) < nD := fun v1 k0_hw2 => k0_hw2.1.2.2.2.1
theorem k0_dev9_lt : ∀ (v1 : BitVec 32) (k0_hw2 : k0_chk2 v1), (k0_dev9 v1) < nD := fun v1 k0_hw2 => k0_hw2.1.2.2.2.2.1
theorem k0_dev12_lt : ∀ (v1 : BitVec 32) (k0_hw2 : k0_chk2 v1), (k0_dev12 v1) < nD := fun v1 k0_hw2 => k0_hw2.1.2.2.2.2.2.1
theorem k0_dev13_lt : ∀ (v1 : BitVec 32) (k0_hw2 : k0_chk2 v1), (k0_dev13 v1) < nD := fun v1 k0_hw2 => k0_hw2.1.2.2.2.2.2.2.1
theorem k0_dev15_lt : ∀ (v1 : BitVec 32) (k0_hw2 : k0_chk2 v1), (k0_dev15 v1) < nD := fun v1 k0_hw2 => k0_hw2.1.2.2.2.2.2.2.2.1
theorem k0_dev18_lt : ∀ (v1 : BitVec 32) (k0_hw2 : k0_chk2 v1), (k0_dev18 v1) < nD := fun v1 k0_hw2 => k0_hw2.1.2.2.2.2.2.2.2.2.1
theorem k0_dev19_lt : ∀ (v1 : BitVec 32) (k0_hw2 : k0_chk2 v1), (k0_dev19 v1) < nD := fun v1 k0_hw2 => k0_hw2.1.2.2.2.2.2.2.2.2.2.1
theorem k0_dev21_lt : ∀ (v1 : BitVec 32) (k0_hw2 : k0_chk2 v1), (k0_dev21 v1) < nD := fun v1 k0_hw2 => k0_hw2.1.2.2.2.2.2.2.2.2.2.2.1
theorem k0_dev24_lt : ∀ (v1 : BitVec 32) (k0_hw2 : k0_chk2 v1), (k0_dev24 v1) < nD := fun v1 k0_hw2 => k0_hw2.1.2.2.2.2.2.2.2.2.2.2.2.1
theorem k0_dev25_lt : ∀ (v1 : BitVec 32) (k0_hw2 : k0_chk2 v1), (k0_dev25 v1) < nD := fun v1 k0_hw2 => k0_hw2.1.2.2.2.2.2.2.2.2.2.2.2.2.1
theorem k0_dev27_lt : ∀ (v1 : BitVec 32) (k0_hw2 : k0_chk2 v1), (k0_dev27 v1) < nD := fun v1 k0_hw2 => k0_hw2.1.2.2.2.2.2.2.2.2.2.2.2.2.2.1
theorem k0_dev30_lt : ∀ (v1 : BitVec 32) (k0_hw2 : k0_chk2 v1), (k0_dev30 v1) < nD := fun v1 k0_hw2 => k0_hw2.1.2.2.2.2.2.2.2.2.2.2.2.2.2.2.1
theorem k0_dev31_lt : ∀ (v1 : BitVec 32) (k0_hw2 : k0_chk2 v1), (k0_dev31 v1) < nD := fun v1 k0_hw2 => k0_hw2.1.2.2.2.2.2.2.2.2.2.2.2.2.2.2.2.1
theorem k0_dev33_lt : ∀ (v1 : BitVec 32) (k0_hw2 : k0_chk2 v1), (k0_dev33 v1) < nD := fun v1 k0_hw2 => k0_hw2.1.2.2.2.2.2.2.2.2.2.2.2.2.2.2.2.2.1
theorem k0_dev36_lt : ∀ (v1 : BitVec 32) (k0_hw2 : k0_chk2 v1), (k0_dev36 v1) < nD := fun v1 k0_hw2 => k0_hw2.1.2.2.2.2.2.2.2.2.2.2.2.2.2.2.2.2.2.1
theorem k0_dev37_lt : ∀ (v1 : BitVec 32) (k0_hw2 : k0_chk2 v1), (k0_dev37 v1) < nD := fun v1 k0_hw2 => k0_hw2.1.2.2.2.2.2.2.2.2.2.2.2.2.2.2.2.2.2.2.1
theorem k0_dev39_lt : ∀ (v1 : BitVec 32) (k0_hw2 : k0_chk2 v1), (k0_dev39 v1) < nD := fun v1 k0_hw2 => k0_hw2.1.2.2.2.2.2.2.2.2.2.2.2.2.2.2.2.2.2.2.2.1
theorem k0_dev42_lt : ∀ (v1 : BitVec 32) (k0_hw2 : k0_chk2 v1), (k0_dev42 v1) < nD := fun v1 k0_hw2 => k0_hw2.1.2.2.2.2.2.2.2.2.2.2.2.2.2.2.2.2.2.2.2.2.1
theorem k0_dev43_lt : ∀ (v1 : BitVec 32) (k0_hw2 : k0_chk2 v1), (k0_dev43 v1) < nD := fun v1 k0_hw2 => k0_hw2.1.2.2.2.2.2.2.2.2.2.2.2.2.2.2.2.2.2.2.2.2.2.1
theorem k0_dev45_lt : ∀ (v1 : BitVec 32) (k0_hw2 : k0_chk2 v1), (k0_dev45 v1) < nD := fun v1 k0_hw2 => k0_hw2.1.2.2.2.2.2.2.2.2.2.2.2.2.2.2.2.2.2.2.2.2.2.2.1
theorem k0_dev48_lt : ∀ (v1 : BitVec 32) (k0_hw2 : k0_chk2 v1), (k0_dev48 v1) < nD := fun v1 k0_hw2 => k0_hw2.1.2.2.2.2.2.2.2.2.2.2.2.2.2.2.2.2.2.2.2.2.2.2.2.1
theorem k0_dev49_lt : ∀ (v1 : BitVec 32) (k0_hw2 : k0_chk2 v1), (k0_dev49 v1) < nD := fun v1 k0_hw2 => k0_hw2.1.2.2.2.2.2.2.2.2.2.2.2.2.2.2.2.2.2.2.2.2.2.2.2.2.1
theorem k0_dev51_lt : ∀ (v1 : BitVec 32) (k0_hw2 : k0_chk2 v1), (k0_dev51 v1) < nD := fun v1 k0_hw2 => k0_hw2.1.2.2.2.2.2.2.2.2.2.2.2.2.2.2.2.2.2.2.2.2.2.2.2.2.2.1
theorem k0_dev54_lt : ∀ (v1 : BitVec 32) (k0_hw2 : k0_chk2 v1), (k0_dev54 v1) < nD := fun v1 k0_hw2 => k0_hw2.1.2.2.2.2.2.2.2.2.2.2.2.2.2.2.2.2.2.2.2.2.2.2.2.2.2.2.1
theorem k0_dev55_lt : ∀ (v1 : BitVec 32) (k0_hw2 : k0_chk2 v1), (k0_dev55 v1) < nD := fun v1 k0_hw2 => k0_hw2.1.2.2.2.2.2.2.2.2.2.2.2.2.2.2.2.2.2.2.2.2.2.2.2.2.2.2.2.1
theorem k0_dev57_lt : ∀ (v1 : BitVec 32) (k0_hw2 : k0_chk2 v1), (k0_dev57 v1) < nD := fun v1 k0_hw2 => k0_hw2.1.2.2.2.2.2.2.2.2.2.2.2.2.2.2.2.2.2.2.2.2.2.2.2.2.2.2.2.2.1
theorem k0_dev60_lt : ∀ (v1 : BitVec 32) (k0_hw2 : k0_chk2 v1), (k0_dev60 v1) < nD := fun v1 k0_hw2 => k0_hw2.1.2.2.2.2.2.2.2.2.2.2.2.2.2.2.2.2.2.2.2.2.2.2.2.2.2.2.2.2.2.1
theorem k0_dev61_lt : ∀ (v1 : BitVec 32) (k0_hw2 : k0_chk2 v1), (k0_dev61 v1) < nD := fun v1 k0_hw2 => k0_hw2.1.2.2.2.2.2.2.2.2.2.2.2.2.2.2.2.2.2.2.2.2.2.2.2.2.2.2.2.2.2.2.1
theorem k0_dev63_lt : ∀ (v1 : BitVec 32) (k0_hw2 : k0_chk2 v1), (k0_dev63 v1) < nD := fun v1 k0_hw2 => k0_hw2.1.2.2.2.2.2.2.2.2.2.2.2.2.2.2.2.2.2.2.2.2.2.2.2.2.2.2.2.2.2.2.2
theorem k0_dev66_lt : ∀ (v1 : BitVec 32) (k0_hw2 : k0_chk2 v1), (k0_dev66 v1) < nD := fun v1 k0_hw2 => k0_hw2.2.1.1
theorem k0_dev67_lt : ∀ (v1 : BitVec 32) (k0_hw2 : k0_chk2 v1), (k0_dev67 v1) < nD := fun v1 k0_hw2 => k0_hw2.2.1.2.1
theorem k0_dev69_lt : ∀ (v1 : BitVec 32) (k0_hw2 : k0_chk2 v1), (k0_dev69 v1) < nD := fun v1 k0_hw2 => k0_hw2.2.1.2.2.1
theorem k0_dev72_lt : ∀ (v1 : BitVec 32) (k0_hw2 : k0_chk2 v1), (k0_dev72 v1) < nD := fun v1 k0_hw2 => k0_hw2.2.1.2.2.2.1
theorem k0_dev73_lt : ∀ (v1 : BitVec 32) (k0_hw2 : k0_chk2 v1), (k0_dev73 v1) < nD := fun v1 k0_hw2 => k0_hw2.2.1.2.2.2.2.1
theorem k0_dev75_lt : ∀ (v1 : BitVec 32) (k0_hw2 : k0_chk2 v1), (k0_dev75 v1) < nD := fun v1 k0_hw2 => k0_hw2.2.1.2.2.2.2.2.1
theorem k0_dev78_lt : ∀ (v1 : BitVec 32) (k0_hw2 : k0_chk2 v1), (k0_dev78 v1) < nD := fun v1 k0_hw2 => k0_hw2.2.1.2.2.2.2.2.2.1
theorem k0_dev79_lt : ∀ (v1 : BitVec 32) (k0_hw2 : k0_chk2 v1), (k0_dev79 v1) < nD := fun v1 k0_hw2 => k0_hw2.2.1.2.2.2.2.2.2.2.1
theorem k0_dev81_lt : ∀ (v1 : BitVec 32) (k0_hw2 : k0_chk2 v1), (k0_dev81 v1) < nD := fun v1 k0_hw2 => k0_hw2.2.1.2.2.2.2.2.2.2.2.1
theorem k0_dev84_lt : ∀ (v1 : BitVec 32) (k0_hw2 : k0_chk2 v1), (k0_dev84 v1) < nD := fun v1 k0_hw2 => k0_hw2.2.1.2.2.2.2.2.2.2.2.2.1
theorem k0_dev85_lt : ∀ (v1 : BitVec 32) (k0_hw2 : k0_chk2 v1), (k0_dev85 v1) < nD := fun v1 k0_hw2 => k0_hw2.2.1.2.2.2.2.2.2.2.2.2.2.1
theorem k0_dev87_lt : ∀ (v1 : BitVec 32) (k0_hw2 : k0_chk2 v1), (k0_dev87 v1) < nD := fun v1 k0_hw2 => k0_hw2.2.1.2.2.2.2.2.2.2.2.2.2.2.1
theorem k0_dev90_lt : ∀ (v1 : BitVec 32) (k0_hw2 : k0_chk2 v1), (k0_dev90 v1) < nD := fun v1 k0_hw2 => k0_hw2.2.1.2.2.2.2.2.2.2.2.2.2.2.2.1
theorem k0_dev91_lt : ∀ (v1 : BitVec 32) (k0_hw2 : k0_chk2 v1), (k0_dev91 v1) < nD := fun v1 k0_hw2 => k0_hw2.2.1.2.2.2.2.2.2.2.2.2.2.2.2.2.1
theorem k0_dev93_lt : ∀ (v1 : BitVec 32) (k0_hw2 : k0_chk2 v1), (k0_dev93 v1) < nD := fun v1 k0_hw2 => k0_hw2.2.1.2.2.2.2.2.2.2.2.2.2.2.2.2.2.1
theorem k0_dev96_lt : ∀ (v1 : BitVec 32) (k0_hw2 : k0_chk2 v1), (k0_dev96 v1) < nD := fun v1 k0_hw2 => k0_hw2.2.1.2.2.2.2.2.2.2.2.2.2.2.2.2.2.2.1
theorem k0_dev97_lt : ∀ (v1 : BitVec 32) (k0_hw2 : k0_chk2 v1), (k0_dev97 v1) < nD := fun v1 k0_hw2 => k0_hw2.2.1.2.2.2.2.2.2.2.2.2.2.2.2.2.2.2.2.1
theorem k0_dev99_lt : ∀ (v1 : BitVec 32) (k0_hw2 : k0_chk2 v1), (k0_dev99 v1) < nD := fun v1 k0_hw2 => k0_hw2.2.1.2.2.2.2.2.2.2.2.2.2.2.2.2.2.2.2.2.1
theorem k0_dev102_lt : ∀ (v1 : BitVec 32) (k0_hw2 : k0_chk2 v1), (k0_dev102 v1) < nD := fun v1 k0_hw2 => k0_hw2.2.1.2.2.2.2.2.2.2.2.2.2.2.2.2.2.2.2.2.2.1
theorem k0_dev103_lt : ∀ (v1 : BitVec 32) (k0_hw2 : k0_chk2 v1), (k0_dev103 v1) < nD := fun v1 k0_hw2 => k0_hw2.2.1.2.2.2.2.2.2.2.2.2.2.2.2.2.2.2.2.2.2.2.1
theorem k0_dev105_lt : ∀ (v1 : BitVec 32) (k0_hw2 : k0_chk2 v1), (k0_dev105 v1) < nD := fun v1 k0_hw2 => k0_hw2.2.1.2.2.2.2.2.2.2.2.2.2.2.2.2.2.2.2.2.2.2.2.1
theorem k0_dev108_lt : ∀ (v1 : BitVec 32) (k0_hw2 : k0_chk2 v1), (k0_dev108 v1) < nD := fun v1 k0_hw2 => k0_hw2.2.1.2.2.2.2.2.2.2.2.2.2.2.2.2.2.2.2.2.2.2.2.2.1
theorem k0_dev109_lt : ∀ (v1 : BitVec 32) (k0_hw2 : k0_chk2 v1), (k0_dev109 v1) < nD := fun v1 k0_hw2 => k0_hw2.2.1.2.2.2.2.2.2.2.2.2.2.2.2.2.2.2.2.2.2.2.2.2.2.1
theorem k0_dev111_lt : ∀ (v1 : BitVec 32) (k0_hw2 : k0_chk2 v1), (k0_dev111 v1) < nD := fun v1 k0_hw2 => k0_hw2.2.1.2.2.2.2.2.2.2.2.2.2.2.2.2.2.2.2.2.2.2.2.2.2.2.1
theorem k0_dev114_lt : ∀ (v1 : BitVec 32) (k0_hw2 : k0_chk2 v1), (k0_dev114 v1) < nD := fun v1 k0_hw2 => k0_hw2.2.1.2.2.2.2.2.2.2.2.2.2.2.2.2.2.2.2.2.2.2.2.2.2.2.2.1
theorem k0_dev115_lt : ∀ (v1 : BitVec 32) (k0_hw2 : k0_chk2 v1), (k0_dev115 v1) < nD := fun v1 k0_hw2 => k0_hw2.2.1.2.2.2.2.2.2.2.2.2.2.2.2.2.2.2.2.2.2.2.2.2.2.2.2.2.1
theorem k0_dev117_lt : ∀ (v1 : BitVec 32) (k0_hw2 : k0_chk2 v1), (k0_dev117 v1) < nD := fun v1 k0_hw2 => k0_hw2.2.1.2.2.2.2.2.2.2.2.2.2.2.2.2.2.2.2.2.2.2.2.2.2.2.2.2.2.1
theorem k0_dev120_lt : ∀ (v1 : BitVec 32) (k0_hw2 : k0_chk2 v1), (k0_dev120 v1) < nD := fun v1 k0_hw2 => k0_hw2.2.1.2.2.2.2.2.2.2.2.2.2.2.2.2.2.2.2.2.2.2.2.2.2.2.2.2.2.2.1
theorem k0_dev121_lt : ∀ (v1 : BitVec 32) (k0_hw2 : k0_chk2 v1), (k0_dev121 v1) < nD := fun v1 k0_hw2 => k0_hw2.2.1.2.2.2.2.2.2.2.2.2.2.2.2.2.2.2.2.2.2.2.2.2.2.2.2.2.2.2.2.1
theorem k0_dev123_lt : ∀ (v1 : BitVec 32) (k0_hw2 : k0_chk2 v1), (k0_dev123 v1) < nD := fun v1 k0_hw2 => k0_hw2.2.1.2.2.2.2.2.2.2.2.2.2.2.2.2.2.2.2.2.2.2.2.2.2.2.2.2.2.2.2.2.1
theorem k0_dev126_lt : ∀ (v1 : BitVec 32) (k0_hw2 : k0_chk2 v1), (k0_dev126 v1) < nD := fun v1 k0_hw2 => k0_hw2.2.1.2.2.2.2.2.2.2.2.2.2.2.2.2.2.2.2.2.2.2.2.2.2.2.2.2.2.2.2.2.2.1
theorem k0_dev127_lt : ∀ (v1 : BitVec 32) (k0_hw2 : k0_chk2 v1), (k0_dev127 v1) < nD := fun v1 k0_hw2 => k0_hw2.2.1.2.2.2.2.2.2.2.2.2.2.2.2.2.2.2.2.2.2.2.2.2.2.2.2.2.2.2.2.2.2.2
theorem k0_dev129_lt : ∀ (v1 : BitVec 32) (k0_hw2 : k0_chk2 v1), (k0_dev129 v1) < nD := fun v1 k0_hw2 => k0_hw2.2.2.1
theorem k0_dev132_lt : ∀ (v1 : BitVec 32) (k0_hw2 : k0_chk2 v1), (k0_dev132 v1) < nD := fun v1 k0_hw2 => k0_hw2.2.2.2.1
theorem k0_dev133_lt : ∀ (v1 : BitVec 32) (k0_hw2 : k0_chk2 v1), (k0_dev133 v1) < nD := fun v1 k0_hw2 => k0_hw2.2.2.2.2.1
theorem k0_dev135_lt : ∀ (v1 : BitVec 32) (k0_hw2 : k0_chk2 v1), (k0_dev135 v1) < nD := fun v1 k0_hw2 => k0_hw2.2.2.2.2.2.1
theorem k0_dev138_lt : ∀ (v1 : BitVec 32) (k0_hw2 : k0_chk2 v1), (k0_dev138 v1) < nD := fun v1 k0_hw2 => k0_hw2.2.2.2.2.2.2.1
theorem k0_dev139_lt : ∀ (v1 : BitVec 32) (k0_hw2 : k0_chk2 v1), (k0_dev139 v1) < nD := fun v1 k0_hw2 => k0_hw2.2.2.2.2.2.2.2.1
theorem k0_dev141_lt : ∀ (v1 : BitVec 32) (k0_hw2 : k0_chk2 v1), (k0_dev141 v1) < nD := fun v1 k0_hw2 => k0_hw2.2.2.2.2.2.2.2.2.1
theorem k0_dev144_lt : ∀ (v1 : BitVec 32) (k0_hw2 : k0_chk2 v1), (k0_dev144 v1) < nD := fun v1 k0_hw2 => k0_hw2.2.2.2.2.2.2.2.2.2.1
theorem k0_dev145_lt : ∀ (v1 : BitVec 32) (k0_hw2 : k0_chk2 v1), (k0_dev145 v1) < nD := fun v1 k0_hw2 => k0_hw2.2.2.2.2.2.2.2.2.2.2.1
theorem k0_dev147_lt : ∀ (v1 : BitVec 32) (k0_hw2 : k0_chk2 v1), (k0_dev147 v1) < nD := fun v1 k0_hw2 => k0_hw2.2.2.2.2.2.2.2.2.2.2.2.1
theorem k0_dev150_lt : ∀ (v1 : BitVec 32) (k0_hw2 : k0_chk2 v1), (k0_dev150 v1) < nD := fun v1 k0_hw2 => k0_hw2.2.2.2.2.2.2.2.2.2.2.2.2.1
theorem k0_dev151_lt : ∀ (v1 : BitVec 32) (k0_hw2 : k0_chk2 v1), (k0_dev151 v1) < nD := fun v1 k0_hw2 => k0_hw2.2.2.2.2.2.2.2.2.2.2.2.2.2.1
theorem k0_dev153_lt : ∀ (v1 : BitVec 32) (k0_hw2 : k0_chk2 v1), (k0_dev153 v1) < nD := fun v1 k0_hw2 => k0_hw2.2.2.2.2.2.2.2.2.2.2.2.2.2.2.1
theorem k0_dev156_lt : ∀ (v1 : BitVec 32) (k0_hw2 : k0_chk2 v1), (k0_dev156 v1) < nD := fun v1 k0_hw2 => k0_hw2.2.2.2.2.2.2.2.2.2.2.2.2.2.2.2.1
theorem k0_dev157_lt : ∀ (v1 : BitVec 32) (k0_hw2 : k0_chk2 v1), (k0_dev157 v1) < nD := fun v1 k0_hw2 => k0_hw2.2.2.2.2.2.2.2.2.2.2.2.2.2.2.2.2.1
theorem k0_dev159_lt : ∀ (v1 : BitVec 32) (k0_hw2 : k0_chk2 v1), (k0_dev159 v1) < nD := fun v1 k0_hw2 => k0_hw2.2.2.2.2.2.2.2.2.2.2.2.2.2.2.2.2.2.1
theorem k0_dev162_lt : ∀ (v1 : BitVec 32) (k0_hw2 : k0_chk2 v1), (k0_dev162 v1) < nD := fun v1 k0_hw2 => k0_hw2.2.2.2.2.2.2.2.2.2.2.2.2.2.2.2.2.2.2.1
theorem k0_dev163_lt : ∀ (v1 : BitVec 32) (k0_hw2 : k0_chk2 v1), (k0_dev163 v1) < nD := fun v1 k0_hw2 => k0_hw2.2.2.2.2.2.2.2.2.2.2.2.2.2.2.2.2.2.2.2.1
theorem k0_dev165_lt : ∀ (v1 : BitVec 32) (k0_hw2 : k0_chk2 v1), (k0_dev165 v1) < nD := fun v1 k0_hw2 => k0_hw2.2.2.2.2.2.2.2.2.2.2.2.2.2.2.2.2.2.2.2.2.1
theorem k0_dev168_lt : ∀ (v1 : BitVec 32) (k0_hw2 : k0_chk2 v1), (k0_dev168 v1) < nD := fun v1 k0_hw2 => k0_hw2.2.2.2.2.2.2.2.2.2.2.2.2.2.2.2.2.2.2.2.2.2.1
theorem k0_dev169_lt : ∀ (v1 : BitVec 32) (k0_hw2 : k0_chk2 v1), (k0_dev169 v1) < nD := fun v1 k0_hw2 => k0_hw2.2.2.2.2.2.2.2.2.2.2.2.2.2.2.2.2.2.2.2.2.2.2.1
theorem k0_dev171_lt : ∀ (v1 : BitVec 32) (k0_hw2 : k0_chk2 v1), (k0_dev171 v1) < nD := fun v1 k0_hw2 => k0_hw2.2.2.2.2.2.2.2.2.2.2.2.2.2.2.2.2.2.2.2.2.2.2.2.1
theorem k0_dev174_lt : ∀ (v1 : BitVec 32) (k0_hw2 : k0_chk2 v1), (k0_dev174 v1) < nD := fun v1 k0_hw2 => k0_hw2.2.2.2.2.2.2.2.2.2.2.2.2.2.2.2.2.2.2.2.2.2.2.2.2.1
theorem k0_dev175_lt : ∀ (v1 : BitVec 32) (k0_hw2 : k0_chk2 v1), (k0_dev175 v1) < nD := fun v1 k0_hw2 => k0_hw2.2.2.2.2.2.2.2.2.2.2.2.2.2.2.2.2.2.2.2.2.2.2.2.2.2.1
theorem k0_dev177_lt : ∀ (v1 : BitVec 32) (k0_hw2 : k0_chk2 v1), (k0_dev177 v1) < nD := fun v1 k0_hw2 => k0_hw2.2.2.2.2.2.2.2.2.2.2.2.2.2.2.2.2.2.2.2.2.2.2.2.2.2.2.1
theorem k0_dev180_lt : ∀ (v1 : BitVec 32) (k0_hw2 : k0_chk2 v1), (k0_dev180 v1) < nD := fun v1 k0_hw2 => k0_hw2.2.2.2.2.2.2.2.2.2.2.2.2.2.2.2.2.2.2.2.2.2.2.2.2.2.2.2.1
theorem k0_dev181_lt : ∀ (v1 : BitVec 32) (k0_hw2 : k0_chk2 v1), (k0_dev181 v1) < nD := fun v1 k0_hw2 => k0_hw2.2.2.2.2.2.2.2.2.2.2.2.2.2.2.2.2.2.2.2.2.2.2.2.2.2.2.2.2.1
theorem k0_dev183_lt : ∀ (v1 : BitVec 32) (k0_hw2 : k0_chk2 v1), (k0_dev183 v1) < nD := fun v1 k0_hw2 => k0_hw2.2.2.2.2.2.2.2.2.2.2.2.2.2.2.2.2.2.2.2.2.2.2.2.2.2.2.2.2.2

def k0_dev184 (v0 : BitVec 32) : Nat :=
  let c0_i32_5559 : BitVec 32 := 0#32
  let c1_i32_5558 : BitVec 32 := 1#32
  let v4354 : BitVec 32 := Scalar.muli v0 c1_i32_5558
  let v4355 : BitVec 32 := Scalar.addi c0_i32_5559 v4354
  v4355.toNat

def k0_chk1_0 (v0 : BitVec 32) : Prop :=
  ((k0_dev1 v0) < nD) ∧
  ((k0_dev4 v0) < nD) ∧
  ((k0_dev6 v0) < nD) ∧
  ((k0_dev8 v0) < nD) ∧
  ((k0_dev10 v0) < nD) ∧
  ((k0_dev11 v0) < nD) ∧
  ((k0_dev14 v0) < nD) ∧
  ((k0_dev16 v0) < nD) ∧
  ((k0_dev17 v0) < nD) ∧
  ((k0_dev20 v0) < nD) ∧
  ((k0_dev22 v0) < nD) ∧
  ((k0_dev23 v0) < nD) ∧
  ((k0_dev26 v0) < nD) ∧
  ((k0_dev28 v0) < nD) ∧
  ((k0_dev29 v0) < nD) ∧
  ((k0_dev32 v0) < nD) ∧
  ((k0_dev34 v0) < nD) ∧
  ((k0_dev35 v0) < nD) ∧
  ((k0_dev38 v0) < nD) ∧
  ((k0_dev40 v0) < nD) ∧
  ((k0_dev41 v0) < nD) ∧
  ((k0_dev44 v0) < nD) ∧
  ((k0_dev46 v0) < nD) ∧
  ((k0_dev47 v0) < nD) ∧
  ((k0_dev50 v0) < nD) ∧
  ((k0_dev52 v0) < nD) ∧
  ((k0_dev53 v0) < nD) ∧
  ((k0_dev56 v0) < nD) ∧
  ((k0_dev58 v0) < nD) ∧
  ((k0_dev59 v0) < nD) ∧
  ((k0_dev62 v0) < nD) ∧
  ((k0_dev64 v0) < nD)
def k0_chk1_1 (v0 : BitVec 32) : Prop :=
  ((k0_dev65 v0) < nD) ∧
  ((k0_dev68 v0) < nD) ∧
  ((k0_dev70 v0) < nD) ∧
  ((k0_dev71 v0) < nD) ∧
  ((k0_dev74 v0) < nD) ∧
  ((k0_dev76 v0) < nD) ∧
  ((k0_dev77 v0) < nD) ∧
  ((k0_dev80 v0) < nD) ∧
  ((k0_dev82 v0) < nD) ∧
  ((k0_dev83 v0) < nD) ∧
  ((k0_dev86 v0) < nD) ∧
  ((k0_dev88 v0) < nD) ∧
  ((k0_dev89 v0) < nD) ∧
  ((k0_dev92 v0) < nD) ∧
  ((k0_dev94 v0) < nD) ∧
  ((k0_dev95 v0) < nD) ∧
  ((k0_dev98 v0) < nD) ∧
  ((k0_dev100 v0) < nD) ∧
  ((k0_dev101 v0) < nD) ∧
  ((k0_dev104 v0) < nD) ∧
  ((k0_dev106 v0) < nD) ∧
  ((k0_dev107 v0) < nD) ∧
  ((k0_dev110 v0) < nD) ∧
  ((k0_dev112 v0) < nD) ∧
  ((k0_dev113 v0) < nD) ∧
  ((k0_dev116 v0) < nD) ∧
  ((k0_dev118 v0) < nD) ∧
  ((k0_dev119 v0) < nD) ∧
  ((k0_dev122 v0) < nD) ∧
  ((k0_dev124 v0) < nD) ∧
  ((k0_dev125 v0) < nD) ∧
  ((k0_dev128 v0) < nD)
def k0_chk1_2 (v0 : BitVec 32) : Prop :=
  ((k0_dev130 v0) < nD) ∧
  ((k0_dev131 v0) < nD) ∧
  ((k0_dev134 v0) < nD) ∧
  ((k0_dev136 v0) < nD) ∧
  ((k0_dev137 v0) < nD) ∧
  ((k0_dev140 v0) < nD) ∧
  ((k0_dev142 v0) < nD) ∧
  ((k0_dev143 v0) < nD) ∧
  ((k0_dev146 v0) < nD) ∧
  ((k0_dev148 v0) < nD) ∧
  ((k0_dev149 v0) < nD) ∧
  ((k0_dev152 v0) < nD) ∧
  ((k0_dev154 v0) < nD) ∧
  ((k0_dev155 v0) < nD) ∧
  ((k0_dev158 v0) < nD) ∧
  ((k0_dev160 v0) < nD) ∧
  ((k0_dev161 v0) < nD) ∧
  ((k0_dev164 v0) < nD) ∧
  ((k0_dev166 v0) < nD) ∧
  ((k0_dev167 v0) < nD) ∧
  ((k0_dev170 v0) < nD) ∧
  ((k0_dev172 v0) < nD) ∧
  ((k0_dev173 v0) < nD) ∧
  ((k0_dev176 v0) < nD) ∧
  ((k0_dev178 v0) < nD) ∧
  ((k0_dev179 v0) < nD) ∧
  ((k0_dev182 v0) < nD) ∧
  ((k0_dev184 v0) < nD)
def k0_chk1 (v0 : BitVec 32) : Prop :=
  k0_chk1_0 v0 ∧
  k0_chk1_1 v0 ∧
  k0_chk1_2 v0
theorem k0_dev1_lt : ∀ (v0 : BitVec 32) (k0_hw1 : k0_chk1 v0), (k0_dev1 v0) < nD := fun v0 k0_hw1 => k0_hw1.1.1
theorem k0_dev4_lt : ∀ (v0 : BitVec 32) (k0_hw1 : k0_chk1 v0), (k0_dev4 v0) < nD := fun v0 k0_hw1 => k0_hw1.1.2.1
theorem k0_dev6_lt : ∀ (v0 : BitVec 32) (k0_hw1 : k0_chk1 v0), (k0_dev6 v0) < nD := fun v0 k0_hw1 => k0_hw1.1.2.2.1
theorem k0_dev8_lt : ∀ (v0 : BitVec 32) (k0_hw1 : k0_chk1 v0), (k0_dev8 v0) < nD := fun v0 k0_hw1 => k0_hw1.1.2.2.2.1
theorem k0_dev10_lt : ∀ (v0 : BitVec 32) (k0_hw1 : k0_chk1 v0), (k0_dev10 v0) < nD := fun v0 k0_hw1 => k0_hw1.1.2.2.2.2.1
theorem k0_dev11_lt : ∀ (v0 : BitVec 32) (k0_hw1 : k0_chk1 v0), (k0_dev11 v0) < nD := fun v0 k0_hw1 => k0_hw1.1.2.2.2.2.2.1
theorem k0_dev14_lt : ∀ (v0 : BitVec 32) (k0_hw1 : k0_chk1 v0), (k0_dev14 v0) < nD := fun v0 k0_hw1 => k0_hw1.1.2.2.2.2.2.2.1
theorem k0_dev16_lt : ∀ (v0 : BitVec 32) (k0_hw1 : k0_chk1 v0), (k0_dev16 v0) < nD := fun v0 k0_hw1 => k0_hw1.1.2.2.2.2.2.2.2.1
theorem k0_dev17_lt : ∀ (v0 : BitVec 32) (k0_hw1 : k0_chk1 v0), (k0_dev17 v0) < nD := fun v0 k0_hw1 => k0_hw1.1.2.2.2.2.2.2.2.2.1
theorem k0_dev20_lt : ∀ (v0 : BitVec 32) (k0_hw1 : k0_chk1 v0), (k0_dev20 v0) < nD := fun v0 k0_hw1 => k0_hw1.1.2.2.2.2.2.2.2.2.2.1
theorem k0_dev22_lt : ∀ (v0 : BitVec 32) (k0_hw1 : k0_chk1 v0), (k0_dev22 v0) < nD := fun v0 k0_hw1 => k0_hw1.1.2.2.2.2.2.2.2.2.2.2.1
theorem k0_dev23_lt : ∀ (v0 : BitVec 32) (k0_hw1 : k0_chk1 v0), (k0_dev23 v0) < nD := fun v0 k0_hw1 => k0_hw1.1.2.2.2.2.2.2.2.2.2.2.2.1
theorem k0_dev26_lt : ∀ (v0 : BitVec 32) (k0_hw1 : k0_chk1 v0), (k0_dev26 v0) < nD := fun v0 k0_hw1 => k0_hw1.1.2.2.2.2.2.2.2.2.2.2.2.2.1
theorem k0_dev28_lt : ∀ (v0 : BitVec 32) (k0_hw1 : k0_chk1 v0), (k0_dev28 v0) < nD := fun v0 k0_hw1 => k0_hw1.1.2.2.2.2.2.2.2.2.2.2.2.2.2.1
theorem k0_dev29_lt : ∀ (v0 : BitVec 32) (k0_hw1 : k0_chk1 v0), (k0_dev29 v0) < nD := fun v0 k0_hw1 => k0_hw1.1.2.2.2.2.2.2.2.2.2.2.2.2.2.2.1
theorem k0_dev32_lt : ∀ (v0 : BitVec 32) (k0_hw1 : k0_chk1 v0), (k0_dev32 v0) < nD := fun v0 k0_hw1 => k0_hw1.1.2.2.2.2.2.2.2.2.2.2.2.2.2.2.2.1
theorem k0_dev34_lt : ∀ (v0 : BitVec 32) (k0_hw1 : k0_chk1 v0), (k0_dev34 v0) < nD := fun v0 k0_hw1 => k0_hw1.1.2.2.2.2.2.2.2.2.2.2.2.2.2.2.2.2.1
theorem k0_dev35_lt : ∀ (v0 : BitVec 32) (k0_hw1 : k0_chk1 v0), (k0_dev35 v0) < nD := fun v0 k0_hw1 => k0_hw1.1.2.2.2.2.2.2.2.2.2.2.2.2.2.2.2.2.2.1
theorem k0_dev38_lt : ∀ (v0 : BitVec 32) (k0_hw1 : k0_chk1 v0), (k0_dev38 v0) < nD := fun v0 k0_hw1 => k0_hw1.1.2.2.2.2.2.2.2.2.2.2.2.2.2.2.2.2.2.2.1
theorem k0_dev40_lt : ∀ (v0 : BitVec 32) (k0_hw1 : k0_chk1 v0), (k0_dev40 v0) < nD := fun v0 k0_hw1 => k0_hw1.1.2.2.2.2.2.2.2.2.2.2.2.2.2.2.2.2.2.2.2.1
theorem k0_dev41_lt : ∀ (v0 : BitVec 32) (k0_hw1 : k0_chk1 v0), (k0_dev41 v0) < nD := fun v0 k0_hw1 => k0_hw1.1.2.2.2.2.2.2.2.2.2.2.2.2.2.2.2.2.2.2.2.2.1
theorem k0_dev44_lt : ∀ (v0 : BitVec 32) (k0_hw1 : k0_chk1 v0), (k0_dev44 v0) < nD := fun v0 k0_hw1 => k0_hw1.1.2.2.2.2.2.2.2.2.2.2.2.2.2.2.2.2.2.2.2.2.2.1
theorem k0_dev46_lt : ∀ (v0 : BitVec 32) (k0_hw1 : k0_chk1 v0), (k0_dev46 v0) < nD := fun v0 k0_hw1 => k0_hw1.1.2.2.2.2.2.2.2.2.2.2.2.2.2.2.2.2.2.2.2.2.2.2.1
theorem k0_dev47_lt : ∀ (v0 : BitVec 32) (k0_hw1 : k0_chk1 v0), (k0_dev47 v0) < nD := fun v0 k0_hw1 => k0_hw1.1.2.2.2.2.2.2.2.2.2.2.2.2.2.2.2.2.2.2.2.2.2.2.2.1
theorem k0_dev50_lt : ∀ (v0 : BitVec 32) (k0_hw1 : k0_chk1 v0), (k0_dev50 v0) < nD := fun v0 k0_hw1 => k0_hw1.1.2.2.2.2.2.2.2.2.2.2.2.2.2.2.2.2.2.2.2.2.2.2.2.2.1
theorem k0_dev52_lt : ∀ (v0 : BitVec 32) (k0_hw1 : k0_chk1 v0), (k0_dev52 v0) < nD := fun v0 k0_hw1 => k0_hw1.1.2.2.2.2.2.2.2.2.2.2.2.2.2.2.2.2.2.2.2.2.2.2.2.2.2.1
theorem k0_dev53_lt : ∀ (v0 : BitVec 32) (k0_hw1 : k0_chk1 v0), (k0_dev53 v0) < nD := fun v0 k0_hw1 => k0_hw1.1.2.2.2.2.2.2.2.2.2.2.2.2.2.2.2.2.2.2.2.2.2.2.2.2.2.2.1
theorem k0_dev56_lt : ∀ (v0 : BitVec 32) (k0_hw1 : k0_chk1 v0), (k0_dev56 v0) < nD := fun v0 k0_hw1 => k0_hw1.1.2.2.2.2.2.2.2.2.2.2.2.2.2.2.2.2.2.2.2.2.2.2.2.2.2.2.2.1
theorem k0_dev58_lt : ∀ (v0 : BitVec 32) (k0_hw1 : k0_chk1 v0), (k0_dev58 v0) < nD := fun v0 k0_hw1 => k0_hw1.1.2.2.2.2.2.2.2.2.2.2.2.2.2.2.2.2.2.2.2.2.2.2.2.2.2.2.2.2.1
theorem k0_dev59_lt : ∀ (v0 : BitVec 32) (k0_hw1 : k0_chk1 v0), (k0_dev59 v0) < nD := fun v0 k0_hw1 => k0_hw1.1.2.2.2.2.2.2.2.2.2.2.2.2.2.2.2.2.2.2.2.2.2.2.2.2.2.2.2.2.2.1
theorem k0_dev62_lt : ∀ (v0 : BitVec 32) (k0_hw1 : k0_chk1 v0), (k0_dev62 v0) < nD := fun v0 k0_hw1 => k0_hw1.1.2.2.2.2.2.2.2.2.2.2.2.2.2.2.2.2.2.2.2.2.2.2.2.2.2.2.2.2.2.2.1
theorem k0_dev64_lt : ∀ (v0 : BitVec 32) (k0_hw1 : k0_chk1 v0), (k0_dev64 v0) < nD := fun v0 k0_hw1 => k0_hw1.1.2.2.2.2.2.2.2.2.2.2.2.2.2.2.2.2.2.2.2.2.2.2.2.2.2.2.2.2.2.2.2
theorem k0_dev65_lt : ∀ (v0 : BitVec 32) (k0_hw1 : k0_chk1 v0), (k0_dev65 v0) < nD := fun v0 k0_hw1 => k0_hw1.2.1.1
theorem k0_dev68_lt : ∀ (v0 : BitVec 32) (k0_hw1 : k0_chk1 v0), (k0_dev68 v0) < nD := fun v0 k0_hw1 => k0_hw1.2.1.2.1
theorem k0_dev70_lt : ∀ (v0 : BitVec 32) (k0_hw1 : k0_chk1 v0), (k0_dev70 v0) < nD := fun v0 k0_hw1 => k0_hw1.2.1.2.2.1
theorem k0_dev71_lt : ∀ (v0 : BitVec 32) (k0_hw1 : k0_chk1 v0), (k0_dev71 v0) < nD := fun v0 k0_hw1 => k0_hw1.2.1.2.2.2.1
theorem k0_dev74_lt : ∀ (v0 : BitVec 32) (k0_hw1 : k0_chk1 v0), (k0_dev74 v0) < nD := fun v0 k0_hw1 => k0_hw1.2.1.2.2.2.2.1
theorem k0_dev76_lt : ∀ (v0 : BitVec 32) (k0_hw1 : k0_chk1 v0), (k0_dev76 v0) < nD := fun v0 k0_hw1 => k0_hw1.2.1.2.2.2.2.2.1
theorem k0_dev77_lt : ∀ (v0 : BitVec 32) (k0_hw1 : k0_chk1 v0), (k0_dev77 v0) < nD := fun v0 k0_hw1 => k0_hw1.2.1.2.2.2.2.2.2.1
theorem k0_dev80_lt : ∀ (v0 : BitVec 32) (k0_hw1 : k0_chk1 v0), (k0_dev80 v0) < nD := fun v0 k0_hw1 => k0_hw1.2.1.2.2.2.2.2.2.2.1
theorem k0_dev82_lt : ∀ (v0 : BitVec 32) (k0_hw1 : k0_chk1 v0), (k0_dev82 v0) < nD := fun v0 k0_hw1 => k0_hw1.2.1.2.2.2.2.2.2.2.2.1
theorem k0_dev83_lt : ∀ (v0 : BitVec 32) (k0_hw1 : k0_chk1 v0), (k0_dev83 v0) < nD := fun v0 k0_hw1 => k0_hw1.2.1.2.2.2.2.2.2.2.2.2.1
theorem k0_dev86_lt : ∀ (v0 : BitVec 32) (k0_hw1 : k0_chk1 v0), (k0_dev86 v0) < nD := fun v0 k0_hw1 => k0_hw1.2.1.2.2.2.2.2.2.2.2.2.2.1
theorem k0_dev88_lt : ∀ (v0 : BitVec 32) (k0_hw1 : k0_chk1 v0), (k0_dev88 v0) < nD := fun v0 k0_hw1 => k0_hw1.2.1.2.2.2.2.2.2.2.2.2.2.2.1
theorem k0_dev89_lt : ∀ (v0 : BitVec 32) (k0_hw1 : k0_chk1 v0), (k0_dev89 v0) < nD := fun v0 k0_hw1 => k0_hw1.2.1.2.2.2.2.2.2.2.2.2.2.2.2.1
theorem k0_dev92_lt : ∀ (v0 : BitVec 32) (k0_hw1 : k0_chk1 v0), (k0_dev92 v0) < nD := fun v0 k0_hw1 => k0_hw1.2.1.2.2.2.2.2.2.2.2.2.2.2.2.2.1
theorem k0_dev94_lt : ∀ (v0 : BitVec 32) (k0_hw1 : k0_chk1 v0), (k0_dev94 v0) < nD := fun v0 k0_hw1 => k0_hw1.2.1.2.2.2.2.2.2.2.2.2.2.2.2.2.2.1
theorem k0_dev95_lt : ∀ (v0 : BitVec 32) (k0_hw1 : k0_chk1 v0), (k0_dev95 v0) < nD := fun v0 k0_hw1 => k0_hw1.2.1.2.2.2.2.2.2.2.2.2.2.2.2.2.2.2.1
theorem k0_dev98_lt : ∀ (v0 : BitVec 32) (k0_hw1 : k0_chk1 v0), (k0_dev98 v0) < nD := fun v0 k0_hw1 => k0_hw1.2.1.2.2.2.2.2.2.2.2.2.2.2.2.2.2.2.2.1
theorem k0_dev100_lt : ∀ (v0 : BitVec 32) (k0_hw1 : k0_chk1 v0), (k0_dev100 v0) < nD := fun v0 k0_hw1 => k0_hw1.2.1.2.2.2.2.2.2.2.2.2.2.2.2.2.2.2.2.2.1
theorem k0_dev101_lt : ∀ (v0 : BitVec 32) (k0_hw1 : k0_chk1 v0), (k0_dev101 v0) < nD := fun v0 k0_hw1 => k0_hw1.2.1.2.2.2.2.2.2.2.2.2.2.2.2.2.2.2.2.2.2.1
theorem k0_dev104_lt : ∀ (v0 : BitVec 32) (k0_hw1 : k0_chk1 v0), (k0_dev104 v0) < nD := fun v0 k0_hw1 => k0_hw1.2.1.2.2.2.2.2.2.2.2.2.2.2.2.2.2.2.2.2.2.2.1
theorem k0_dev106_lt : ∀ (v0 : BitVec 32) (k0_hw1 : k0_chk1 v0), (k0_dev106 v0) < nD := fun v0 k0_hw1 => k0_hw1.2.1.2.2.2.2.2.2.2.2.2.2.2.2.2.2.2.2.2.2.2.2.1
theorem k0_dev107_lt : ∀ (v0 : BitVec 32) (k0_hw1 : k0_chk1 v0), (k0_dev107 v0) < nD := fun v0 k0_hw1 => k0_hw1.2.1.2.2.2.2.2.2.2.2.2.2.2.2.2.2.2.2.2.2.2.2.2.1
theorem k0_dev110_lt : ∀ (v0 : BitVec 32) (k0_hw1 : k0_chk1 v0), (k0_dev110 v0) < nD := fun v0 k0_hw1 => k0_hw1.2.1.2.2.2.2.2.2.2.2.2.2.2.2.2.2.2.2.2.2.2.2.2.2.1
theorem k0_dev112_lt : ∀ (v0 : BitVec 32) (k0_hw1 : k0_chk1 v0), (k0_dev112 v0) < nD := fun v0 k0_hw1 => k0_hw1.2.1.2.2.2.2.2.2.2.2.2.2.2.2.2.2.2.2.2.2.2.2.2.2.2.1
theorem k0_dev113_lt : ∀ (v0 : BitVec 32) (k0_hw1 : k0_chk1 v0), (k0_dev113 v0) < nD := fun v0 k0_hw1 => k0_hw1.2.1.2.2.2.2.2.2.2.2.2.2.2.2.2.2.2.2.2.2.2.2.2.2.2.2.1
theorem k0_dev116_lt : ∀ (v0 : BitVec 32) (k0_hw1 : k0_chk1 v0), (k0_dev116 v0) < nD := fun v0 k0_hw1 => k0_hw1.2.1.2.2.2.2.2.2.2.2.2.2.2.2.2.2.2.2.2.2.2.2.2.2.2.2.2.1
theorem k0_dev118_lt : ∀ (v0 : BitVec 32) (k0_hw1 : k0_chk1 v0), (k0_dev118 v0) < nD := fun v0 k0_hw1 => k0_hw1.2.1.2.2.2.2.2.2.2.2.2.2.2.2.2.2.2.2.2.2.2.2.2.2.2.2.2.2.1
theorem k0_dev119_lt : ∀ (v0 : BitVec 32) (k0_hw1 : k0_chk1 v0), (k0_dev119 v0) < nD := fun v0 k0_hw1 => k0_hw1.2.1.2.2.2.2.2.2.2.2.2.2.2.2.2.2.2.2.2.2.2.2.2.2.2.2.2.2.2.1
theorem k0_dev122_lt : ∀ (v0 : BitVec 32) (k0_hw1 : k0_chk1 v0), (k0_dev122 v0) < nD := fun v0 k0_hw1 => k0_hw1.2.1.2.2.2.2.2.2.2.2.2.2.2.2.2.2.2.2.2.2.2.2.2.2.2.2.2.2.2.2.1
theorem k0_dev124_lt : ∀ (v0 : BitVec 32) (k0_hw1 : k0_chk1 v0), (k0_dev124 v0) < nD := fun v0 k0_hw1 => k0_hw1.2.1.2.2.2.2.2.2.2.2.2.2.2.2.2.2.2.2.2.2.2.2.2.2.2.2.2.2.2.2.2.1
theorem k0_dev125_lt : ∀ (v0 : BitVec 32) (k0_hw1 : k0_chk1 v0), (k0_dev125 v0) < nD := fun v0 k0_hw1 => k0_hw1.2.1.2.2.2.2.2.2.2.2.2.2.2.2.2.2.2.2.2.2.2.2.2.2.2.2.2.2.2.2.2.2.1
theorem k0_dev128_lt : ∀ (v0 : BitVec 32) (k0_hw1 : k0_chk1 v0), (k0_dev128 v0) < nD := fun v0 k0_hw1 => k0_hw1.2.1.2.2.2.2.2.2.2.2.2.2.2.2.2.2.2.2.2.2.2.2.2.2.2.2.2.2.2.2.2.2.2
theorem k0_dev130_lt : ∀ (v0 : BitVec 32) (k0_hw1 : k0_chk1 v0), (k0_dev130 v0) < nD := fun v0 k0_hw1 => k0_hw1.2.2.1
theorem k0_dev131_lt : ∀ (v0 : BitVec 32) (k0_hw1 : k0_chk1 v0), (k0_dev131 v0) < nD := fun v0 k0_hw1 => k0_hw1.2.2.2.1
theorem k0_dev134_lt : ∀ (v0 : BitVec 32) (k0_hw1 : k0_chk1 v0), (k0_dev134 v0) < nD := fun v0 k0_hw1 => k0_hw1.2.2.2.2.1
theorem k0_dev136_lt : ∀ (v0 : BitVec 32) (k0_hw1 : k0_chk1 v0), (k0_dev136 v0) < nD := fun v0 k0_hw1 => k0_hw1.2.2.2.2.2.1
theorem k0_dev137_lt : ∀ (v0 : BitVec 32) (k0_hw1 : k0_chk1 v0), (k0_dev137 v0) < nD := fun v0 k0_hw1 => k0_hw1.2.2.2.2.2.2.1
theorem k0_dev140_lt : ∀ (v0 : BitVec 32) (k0_hw1 : k0_chk1 v0), (k0_dev140 v0) < nD := fun v0 k0_hw1 => k0_hw1.2.2.2.2.2.2.2.1
theorem k0_dev142_lt : ∀ (v0 : BitVec 32) (k0_hw1 : k0_chk1 v0), (k0_dev142 v0) < nD := fun v0 k0_hw1 => k0_hw1.2.2.2.2.2.2.2.2.1
theorem k0_dev143_lt : ∀ (v0 : BitVec 32) (k0_hw1 : k0_chk1 v0), (k0_dev143 v0) < nD := fun v0 k0_hw1 => k0_hw1.2.2.2.2.2.2.2.2.2.1
theorem k0_dev146_lt : ∀ (v0 : BitVec 32) (k0_hw1 : k0_chk1 v0), (k0_dev146 v0) < nD := fun v0 k0_hw1 => k0_hw1.2.2.2.2.2.2.2.2.2.2.1
theorem k0_dev148_lt : ∀ (v0 : BitVec 32) (k0_hw1 : k0_chk1 v0), (k0_dev148 v0) < nD := fun v0 k0_hw1 => k0_hw1.2.2.2.2.2.2.2.2.2.2.2.1
theorem k0_dev149_lt : ∀ (v0 : BitVec 32) (k0_hw1 : k0_chk1 v0), (k0_dev149 v0) < nD := fun v0 k0_hw1 => k0_hw1.2.2.2.2.2.2.2.2.2.2.2.2.1
theorem k0_dev152_lt : ∀ (v0 : BitVec 32) (k0_hw1 : k0_chk1 v0), (k0_dev152 v0) < nD := fun v0 k0_hw1 => k0_hw1.2.2.2.2.2.2.2.2.2.2.2.2.2.1
theorem k0_dev154_lt : ∀ (v0 : BitVec 32) (k0_hw1 : k0_chk1 v0), (k0_dev154 v0) < nD := fun v0 k0_hw1 => k0_hw1.2.2.2.2.2.2.2.2.2.2.2.2.2.2.1
theorem k0_dev155_lt : ∀ (v0 : BitVec 32) (k0_hw1 : k0_chk1 v0), (k0_dev155 v0) < nD := fun v0 k0_hw1 => k0_hw1.2.2.2.2.2.2.2.2.2.2.2.2.2.2.2.1
theorem k0_dev158_lt : ∀ (v0 : BitVec 32) (k0_hw1 : k0_chk1 v0), (k0_dev158 v0) < nD := fun v0 k0_hw1 => k0_hw1.2.2.2.2.2.2.2.2.2.2.2.2.2.2.2.2.1
theorem k0_dev160_lt : ∀ (v0 : BitVec 32) (k0_hw1 : k0_chk1 v0), (k0_dev160 v0) < nD := fun v0 k0_hw1 => k0_hw1.2.2.2.2.2.2.2.2.2.2.2.2.2.2.2.2.2.1
theorem k0_dev161_lt : ∀ (v0 : BitVec 32) (k0_hw1 : k0_chk1 v0), (k0_dev161 v0) < nD := fun v0 k0_hw1 => k0_hw1.2.2.2.2.2.2.2.2.2.2.2.2.2.2.2.2.2.2.1
theorem k0_dev164_lt : ∀ (v0 : BitVec 32) (k0_hw1 : k0_chk1 v0), (k0_dev164 v0) < nD := fun v0 k0_hw1 => k0_hw1.2.2.2.2.2.2.2.2.2.2.2.2.2.2.2.2.2.2.2.1
theorem k0_dev166_lt : ∀ (v0 : BitVec 32) (k0_hw1 : k0_chk1 v0), (k0_dev166 v0) < nD := fun v0 k0_hw1 => k0_hw1.2.2.2.2.2.2.2.2.2.2.2.2.2.2.2.2.2.2.2.2.1
theorem k0_dev167_lt : ∀ (v0 : BitVec 32) (k0_hw1 : k0_chk1 v0), (k0_dev167 v0) < nD := fun v0 k0_hw1 => k0_hw1.2.2.2.2.2.2.2.2.2.2.2.2.2.2.2.2.2.2.2.2.2.1
theorem k0_dev170_lt : ∀ (v0 : BitVec 32) (k0_hw1 : k0_chk1 v0), (k0_dev170 v0) < nD := fun v0 k0_hw1 => k0_hw1.2.2.2.2.2.2.2.2.2.2.2.2.2.2.2.2.2.2.2.2.2.2.1
theorem k0_dev172_lt : ∀ (v0 : BitVec 32) (k0_hw1 : k0_chk1 v0), (k0_dev172 v0) < nD := fun v0 k0_hw1 => k0_hw1.2.2.2.2.2.2.2.2.2.2.2.2.2.2.2.2.2.2.2.2.2.2.2.1
theorem k0_dev173_lt : ∀ (v0 : BitVec 32) (k0_hw1 : k0_chk1 v0), (k0_dev173 v0) < nD := fun v0 k0_hw1 => k0_hw1.2.2.2.2.2.2.2.2.2.2.2.2.2.2.2.2.2.2.2.2.2.2.2.2.1
theorem k0_dev176_lt : ∀ (v0 : BitVec 32) (k0_hw1 : k0_chk1 v0), (k0_dev176 v0) < nD := fun v0 k0_hw1 => k0_hw1.2.2.2.2.2.2.2.2.2.2.2.2.2.2.2.2.2.2.2.2.2.2.2.2.2.1
theorem k0_dev178_lt : ∀ (v0 : BitVec 32) (k0_hw1 : k0_chk1 v0), (k0_dev178 v0) < nD := fun v0 k0_hw1 => k0_hw1.2.2.2.2.2.2.2.2.2.2.2.2.2.2.2.2.2.2.2.2.2.2.2.2.2.2.1
theorem k0_dev179_lt : ∀ (v0 : BitVec 32) (k0_hw1 : k0_chk1 v0), (k0_dev179 v0) < nD := fun v0 k0_hw1 => k0_hw1.2.2.2.2.2.2.2.2.2.2.2.2.2.2.2.2.2.2.2.2.2.2.2.2.2.2.2.1
theorem k0_dev182_lt : ∀ (v0 : BitVec 32) (k0_hw1 : k0_chk1 v0), (k0_dev182 v0) < nD := fun v0 k0_hw1 => k0_hw1.2.2.2.2.2.2.2.2.2.2.2.2.2.2.2.2.2.2.2.2.2.2.2.2.2.2.2.2.1
theorem k0_dev184_lt : ∀ (v0 : BitVec 32) (k0_hw1 : k0_chk1 v0), (k0_dev184 v0) < nD := fun v0 k0_hw1 => k0_hw1.2.2.2.2.2.2.2.2.2.2.2.2.2.2.2.2.2.2.2.2.2.2.2.2.2.2.2.2.2

def k0_off63 (v4364 : BitVec 32) : Fin 2 → Nat :=
  let c128_i32_5564 : BitVec 32 := 128#32
  let v4365 : BitVec 32 := Scalar.muli v4364 c128_i32_5564
  let v4366 : Index := Scalar.indexCast v4365
  let c0_5565 : Index := 0#32
  ![v4366.toNat, 0]

def k0_chk65 (v4364 : BitVec 32) : Prop :=
  (∀ a, (k0_off63 v4364) a + S128x128.size a ≤ S4096x128.size a)
theorem k0_off63_inb : ∀ (v4364 : BitVec 32) (k0_hw65 : k0_chk65 v4364), ∀ a, (k0_off63 v4364) a + S128x128.size a ≤ S4096x128.size a := fun v4364 k0_hw65 => k0_hw65

def k0_off64 (v4372 : BitVec 32) : Fin 2 → Nat :=
  let c128_i32_5570 : BitVec 32 := 128#32
  let v4373 : BitVec 32 := Scalar.muli v4372 c128_i32_5570
  let v4374 : Index := Scalar.indexCast v4373
  let c0_5571 : Index := 0#32
  ![v4374.toNat, 0]

def k0_chk66 (v4372 : BitVec 32) : Prop :=
  (∀ a, (k0_off64 v4372) a + S128x128.size a ≤ S4096x128.size a)
theorem k0_off64_inb : ∀ (v4372 : BitVec 32) (k0_hw66 : k0_chk66 v4372), ∀ a, (k0_off64 v4372) a + S128x128.size a ≤ S4096x128.size a := fun v4372 k0_hw66 => k0_hw66

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S32 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S32 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x128 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x2048 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x2048, .i32⟩
  | .hbm, ⟨7, _⟩ => ⟨S4096x2048, .f32⟩
  | .hbm, ⟨8, _⟩ => ⟨S4096x2048, .f32⟩
  | .hbm, ⟨9, _⟩ => ⟨S1, .f32⟩
  | .hbm, ⟨10, _⟩ => ⟨S1x1, .f32⟩
  | .hbm, ⟨11, _⟩ => ⟨S4096x2048, .f32⟩
  | .hbm, ⟨12, _⟩ => ⟨S4096x2048, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Body.lean ====
/-
  The kernel's body as a ring: what the straight-line text of the kernel says once its hops are named.

  Each device keeps two LANES, one per direction of the ring. A lane has a partial-sum buffer `acc`
  and a landing buffer `rcv`, both of two slots, each slot cut into two 512-column flits; it sends a
  flit of `acc` into the same place of the next device's `rcv`. The body is a prologue (the first
  partial product, and its copies), thirty hops that add to what arrived and send it on, and a last
  hop that scales the total and stores it.
-/
module

public import proofs.«01_k».proof.Proof.Gen.KernelIdeal.Skeleton

@[expose] public section

noncomputable section

namespace Cert.KernelIdeal.Ring

open Idealize.ShloMosaic Idealize.SL.Sem Cert.KernelIdeal.Gen

variable {F : FTy → Type} [FloatOps F]

/-- What one direction of the ring works on: its partial sums, its landing buffer, the semaphores of
    its copies (sent, landed), the credits it is paid in, its table of chunk numbers, and which half
    of the columns it carries. -/
structure Lane where
  /-- The partial sums, two slots. -/
  acc : Memref sig .tc .vmem S2x128x1024 .i32
  /-- What arrives, two slots. -/
  rcv : Memref sig .tc .vmem S2x128x1024 .i32
  /-- The copies sent, by slot and flit. -/
  ss : DmaSems sig S2x2
  /-- The copies landed, by slot and flit. -/
  rs : DmaSems sig S2x2
  /-- The credits. -/
  cr : Sems sig S_
  /-- The chunk worked on at each hop. -/
  tab : Memref sig .tc .smem S32 .i32
  /-- The half of the columns. -/
  half : Fin 2

theorem inb_flit (s f : Fin 2) :
    ∀ a, (![s.val, 0, 512 * f.val] : Fin 3 → Nat) a + S1x128x512.size a ≤ S2x128x1024.size a := by
  revert s f; decide

theorem inb_sem (s f : Fin 2) :
    ∀ a, (![s.val, f.val] : Fin 2 → Nat) a + S1x1.size a ≤ S2x2.size a := by
  revert s f; decide

theorem inb_half (b : Fin 2) :
    ∀ a, (![0, 1024 * b.val] : Fin 2 → Nat) a + S128x1024.size a ≤ S128x2048.size a := by
  revert b; decide

theorem inb_out (b f : Fin 2) :
    ∀ a, (![0, 1024 * b.val + 512 * f.val] : Fin 2 → Nat) a + S128x512.size a ≤ S128x2048.size a := by
  revert b f; decide

theorem inb_hop (h : Fin 32) : ∀ a, (![h.val] : Fin 1 → Nat) a + S1.size a ≤ S32.size a := by
  revert h; decide

theorem slices_flit (f : Fin 2) : Shape.Slices S128x1024 ![0, 512 * f.val] S128x512 := by
  revert f; decide

/-- Slot `s`, flit `f` of a two-slot buffer. -/
abbrev flitRect (s f : Fin 2) : Rect S2x128x1024 :=
  Rect.unit (s := S2x128x1024) ![s.val, 0, 512 * f.val] S1x128x512.size (inb_flit s f)

/-- The same, as the copies address it. -/
abbrev flitRef (m : Memref sig .tc .vmem S2x128x1024 .i32) (s f : Fin 2) :
    Memref sig .tc .vmem S128x512 .i32 :=
  (m.slice (flitRect s f) (fun _ => rfl)).squeeze S128x512 squeezes_S1x128x512_S128x512

/-- The semaphore of slot `s`, flit `f`. -/
abbrev flitSem (d : DmaSems sig S2x2) (s f : Fin 2) : DmaSem sig :=
  ((d.slice (Rect.unit (s := S2x2) ![s.val, f.val] S1x1.size (inb_sem s f))).squeeze S_ squeezes_S1x1_S_).sem

/-- The slot of copy `k`. -/
abbrev par (k : ℕ) : Fin 2 := ⟨k % 2, Nat.mod_lt _ Nat.two_pos⟩

/-- Wait for copy `k`, flit `f` to have landed. -/
def waitLanded (L : Lane) (k : ℕ) (f : Fin 2) : Prog (TpuEff nD τ sig (Elt F) Λ₀ .tc) PUnit :=
  Prog.lift (.waitDma2 (flitSem L.rs (par k) f) (flitRef L.acc (par k) f) (flitRef L.rcv (par k) f)
    ((View.wordExact_bits rfl).reshape _ _) ((View.wordExact_bits rfl).reshape _ _))

/-- Wait for one's own copy `k`, flit `f` to have been read out. -/
def waitSent (L : Lane) (k : ℕ) (f : Fin 2) : Prog (TpuEff nD τ sig (Elt F) Λ₀ .tc) PUnit :=
  Prog.lift (.waitDma2 (flitSem L.ss (par k) f) (flitRef L.rcv (par k) f) (flitRef L.acc (par k) f)
    ((View.wordExact_bits rfl).reshape _ _) ((View.wordExact_bits rfl).reshape _ _))

/-- Start copy `k`, flit `f`, to device `dst`. -/
def send (L : Lane) (dst : Dev nD) (k : ℕ) (f : Fin 2) : Prog (TpuEff nD τ sig (Elt F) Λ₀ .tc) PUnit :=
  Prog.lift (.enqueueDma (flitRef L.acc (par k) f)
    (.remote (Dev.tc dst) (flitRef L.rcv (par k) f) (.dma (flitSem L.ss (par k) f)))
    (.dma (flitSem L.rs (par k) f))
    ((View.wordExact_bits rfl).reshape _ _) ((View.wordExact_bits rfl).reshape _ _) ⟨⟨rfl, Or.inl rfl⟩, trivial⟩)

/-- Read a flit. -/
def loadFlit (m : Memref sig .tc .vmem S2x128x1024 .i32) (s f : Fin 2) :
    Prog (TpuEff nD τ sig (Elt F) Λ₀ .tc) (Vec F S1x128x512 .i32) :=
  Prog.lift (.load m (flitRect s f).toLoadRect (View.loadsAt_vmem h_S1x128x512))

/-- The chunk number of hop `h` of a lane, checked to name 128 rows of `x`, and the product of those
    rows with the lane's half of the columns of `w`. -/
def product (L : Lane) (x : Memref sig .tc .vmem S4096x128 .i8) (w : Memref sig .tc .vmem S128x2048 .i8)
    (h : Fin 32) : Prog (TpuEff nD τ sig (Elt F) Λ₀ .tc) (IVec S128x1024 32) := do
  let v : Elt F .i32 ← smemLoad L.tab (Rect.unit (s := S32) ![h.val] S1.size (inb_hop h)) numel1_S1 rfl
  have hw : k0_chk3 v := (← Prog.lift (TpuEff.assume (k0_chk3 v) (k0_chk3.dec v))).down
  let a : Vec F S128x128 .i8 ← Prog.lift (.load x (Rect.unit (s := S4096x128) (k0_off1 v) S128x128.size (k0_off1_inb v hw)).toLoadRect (View.loadsAt_vmem h_S128x128))
  let b : Vec F S128x1024 .i8 ← Prog.lift (.load w (Rect.unit (s := S128x2048) ![0, 1024 * L.half.val] S128x1024.size (inb_half L.half)).toLoadRect (View.loadsAt_vmem h_S128x1024))
  pure (k0_pay5 (F := F) a b)

/-- What arrived, plus flit `f` of the product. -/
def added (f : Fin 2) (p : IVec S128x1024 32) (r : Vec F S1x128x512 .i32) : IVec S128x512 32 :=
  addi (shapeCast S128x512 (r : IVec S1x128x512 32) shapeCasts_S1x128x512_S128x512)
    (extractStridedSlice S128x512 ![0, 512 * f.val] p (slices_flit f))

/-- One flit of hop `h`: take what arrived, add the product, and send it on. The first hop has no
    copy of its own to wait for (`first`). -/
def flit (L : Lane) (dst : Dev nD) (first : Bool) (h : ℕ) (f : Fin 2) (p : IVec S128x1024 32) :
    Prog (TpuEff nD τ sig (Elt F) Λ₀ .tc) PUnit := do
  waitLanded L h f
  let r ← loadFlit L.rcv (par h) f
  match first with
  | true => pure ⟨⟩
  | false => waitSent L (h + 1) f
  let _ ← loadFlit (F := F) L.acc (par (h + 1)) f
  Prog.lift (.store L.acc (flitRect (par (h + 1)) f)
    (shapeCast S1x128x512 (added (F := F) f p r) shapeCasts_S128x512_S1x128x512 : IVec S1x128x512 32)
    Finset.univ (View.stores_vmem_bits_univ h_S1x128x512 rfl) (.inl rfl))
  match first, f with
  | false, 0 => semWaitWord L.cr.sem 1#32
  | _, _ => pure ⟨⟩
  send L dst (h + 1) f

/-- One flit of the last hop: take what arrived, add the product, scale, and store it in the result. -/
def lastFlit (L : Lane) (out : Memref sig .tc .vmem S128x2048 .f32) (sc : F .f32) (f : Fin 2) (p : IVec S128x1024 32) :
    Prog (TpuEff nD τ sig (Elt F) Λ₀ .tc) PUnit := do
  waitLanded L 30 f
  let r ← loadFlit L.rcv (par 30) f
  let _v : Vec F S128x512 .f32 ← Prog.lift (.load out (Rect.unit (s := S128x2048) ![0, 1024 * L.half.val + 512 * f.val] S128x512.size (inb_out L.half f)).toLoadRect (View.loadsAt_vmem h_S128x512))
  Prog.lift (.store out (Rect.unit (s := S128x2048) ![0, 1024 * L.half.val + 512 * f.val] S128x512.size (inb_out L.half f))
    (mulf (sitofp .f32 (added (F := F) f p r)) (broadcast S128x512 sc) : FVec F S128x512 .f32)
    Finset.univ (View.stores_vmem_bits_univ h_S128x512 rfl) (.inl rfl))

/-- The first partial product of a lane, into slot 0. -/
def start (L : Lane) (x : Memref sig .tc .vmem S4096x128 .i8) (w : Memref sig .tc .vmem S128x2048 .i8) :
    Prog (TpuEff nD τ sig (Elt F) Λ₀ .tc) PUnit := do
  let p ← product (F := F) L x w 0
  let _v : Vec F S1x128x1024 .i32 ← Prog.lift (.load L.acc (Rect.unit (s := S2x128x1024) ![0, 0, 0] S1x128x1024.size inb_S2x128x1024_S1x128x1024_0_0_0).toLoadRect (View.loadsAt_vmem h_S1x128x1024))
  Prog.lift (.store L.acc (Rect.unit (s := S2x128x1024) ![0, 0, 0] S1x128x1024.size inb_S2x128x1024_S1x128x1024_0_0_0)
    (shapeCast S1x128x1024 p shapeCasts_S128x1024_S1x128x1024 : IVec S1x128x1024 32)
    Finset.univ (View.stores_vmem_bits_univ h_S1x128x1024 rfl) (.inl rfl))

/-- Hop `h` of both lanes, their flits in turn. -/
def hop (A B : Lane) (left right : Dev nD) (x : Memref sig .tc .vmem S4096x128 .i8) (w : Memref sig .tc .vmem S128x2048 .i8)
    (first : Bool) (h : ℕ) (hh : h + 1 < 32) : Prog (TpuEff nD τ sig (Elt F) Λ₀ .tc) PUnit := do
  let p ← product (F := F) A x w ⟨h + 1, hh⟩
  let q ← product (F := F) B x w ⟨h + 1, hh⟩
  flit A right first h 0 p
  flit B left first h 0 q
  flit A right first h 1 p
  flit B left first h 1 q

/-- The credits a device pays its feeders once a hop has freed a landing slot. -/
def credit (A B : Lane) (left right : Dev nD) : Prog (TpuEff nD τ sig (Elt F) Λ₀ .tc) PUnit := do
  semSignalWord left A.cr.sem 1#32
  semSignalWord right B.cr.sem 1#32

/-- Hops `h, h+1, …`, `n` of them, each followed by its credits. -/
def hops (A B : Lane) (left right : Dev nD) (x : Memref sig .tc .vmem S4096x128 .i8) (w : Memref sig .tc .vmem S128x2048 .i8) :
    (n h : ℕ) → n + h < 31 → Prog (TpuEff nD τ sig (Elt F) Λ₀ .tc) PUnit
  | 0, _, _ => pure ⟨⟩
  | n + 1, h, hh => do
    hop A B left right x w false h (by omega)
    credit A B left right
    hops A B left right x w n (h + 1) (by omega)

/-- The last hop: both lanes' totals, scaled, into the result. -/
def lastHop (A B : Lane) (x : Memref sig .tc .vmem S4096x128 .i8) (w : Memref sig .tc .vmem S128x2048 .i8)
    (out : Memref sig .tc .vmem S128x2048 .f32) (sc : F .f32) : Prog (TpuEff nD τ sig (Elt F) Λ₀ .tc) PUnit := do
  let p ← product (F := F) A x w 31
  let q ← product (F := F) B x w 31
  lastFlit A out sc 0 p
  lastFlit B out sc 0 q
  lastFlit A out sc 1 p
  lastFlit B out sc 1 q

/-- Wait for a lane's last two copies to have been read out. -/
def drain (L : Lane) : Prog (TpuEff nD τ sig (Elt F) Λ₀ .tc) PUnit := do
  waitSent L 29 0
  waitSent L 29 1
  waitSent L 30 0
  waitSent L 30 1

/-- Signal both neighbours that one has started, and wait for both to have. -/
def meet (left right : Dev nD) : Prog (TpuEff nD τ sig (Elt F) Λ₀ .tc) PUnit := do
  semSignalWord left (SemArray.scalar (sig.barrier 0 rfl) : Sems sig S_).sem 1#32
  semSignalWord right (SemArray.scalar (sig.barrier 0 rfl) : Sems sig S_).sem 1#32
  semWaitWord (SemArray.scalar (sig.barrier 0 rfl) : Sems sig S_).sem 2#32

/-- All of the body after the neighbours are known. -/
def ring (A B : Lane) (left right : Dev nD) (x : Memref sig .tc .vmem S4096x128 .i8) (w : Memref sig .tc .vmem S128x2048 .i8)
    (sx sw : Memref sig .tc .smem S1 .f32) (out : Memref sig .tc .vmem S128x2048 .f32) :
    Prog (TpuEff nD τ sig (Elt F) Λ₀ .tc) PUnit := do
  meet left right
  let a : Elt F .f32 ← smemLoad sx (Rect.unit (s := S1) ![0] S1.size inb_S1_S1_0) numel1_S1 rfl
  let b : Elt F .f32 ← smemLoad sw (Rect.unit (s := S1) ![0] S1.size inb_S1_S1_0) numel1_S1 rfl
  start A x w
  start B x w
  send A right 0 0
  send B left 0 0
  send A right 0 1
  send B left 0 1
  hop A B left right x w true 0 (by decide)
  credit A B left right
  hops A B left right x w 28 1 (by decide)
  hop A B left right x w false 29 (by decide)
  lastHop A B x w out (Scalar.mulf (F := F) a b)
  drain A
  drain B

/-- The body: read the two neighbours' numbers, check that they are devices, and run the ring. -/
def body (nb : Memref sig .tc .smem S2 .i32) (A B : Lane) (x : Memref sig .tc .vmem S4096x128 .i8) (w : Memref sig .tc .vmem S128x2048 .i8)
    (sx sw : Memref sig .tc .smem S1 .f32) (out : Memref sig .tc .vmem S128x2048 .f32) :
    Prog (TpuEff nD τ sig (Elt F) Λ₀ .tc) PUnit := do
  let v0 : Elt F .i32 ← smemLoad nb (Rect.unit (s := S2) ![0] S1.size inb_S2_S1_0) numel1_S1 rfl
  have h0 : k0_chk1 v0 := (← Prog.lift (TpuEff.assume (k0_chk1 v0) (k0_chk1.dec v0))).down
  let v1 : Elt F .i32 ← smemLoad nb (Rect.unit (s := S2) ![1] S1.size inb_S2_S1_1) numel1_S1 rfl
  have h1 : k0_chk2 v1 := (← Prog.lift (TpuEff.assume (k0_chk2 v1) (k0_chk2.dec v1))).down
  ring A B ⟨k0_dev1 v0, k0_dev1_lt v0 h0⟩ ⟨k0_dev2 v1, k0_dev2_lt v1 h1⟩ x w sx sw out

end Cert.KernelIdeal.Ring
-- ==== Proof.Lanes.lean ====
/-
  The two lanes, the ring they run round, and the flits of their buffers.

  Device `c` sits at position `pos c` of the ring; lane 0 sends to the next position, lane 1 to the
  one before. A FLIT of a two-slot buffer is a slot's 512-column half; holding it at contents `v` is
  `Held`: a load reads `v`, a store replaces it, and a copy of it is that flit of the next device's
  landing buffer held at the same contents.
-/
module

public import proofs.«01_k».proof.Proof.Body
public import Idealize.ShloMosaic.Lib.Pipeline.Regions
public import Idealize.ShloMosaic.Lib.Pipeline.Kit
public import Idealize.ShloMosaic.Lib.Rounds
public import Idealize.ShloMosaic.Lib.Release
public import Idealize.ShloMosaic.Lib.Memref

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

/-! ## The ring -/

/-- The device at a position of the ring. -/
def ringAt : Fin 32 → Dev nD :=
  ![0, 8, 16, 24, 27, 19, 11, 12, 20, 28, 31, 23, 15, 7, 4, 3,
    2, 5, 6, 14, 22, 30, 29, 21, 13, 10, 18, 26, 25, 17, 9, 1]

/-- A device's position on the ring. -/
def pos : Dev nD → Fin 32 :=
  ![0, 31, 16, 15, 14, 17, 18, 13, 1, 30, 25, 6, 7, 24, 19, 12,
    2, 29, 26, 5, 8, 23, 20, 11, 3, 28, 27, 4, 9, 22, 21, 10]

theorem pos_ringAt (p : Fin 32) : pos (ringAt p) = p := by revert p; decide
theorem ringAt_pos (c : Dev nD) : ringAt (pos c) = c := by revert c; decide

/-- Whom a device's lane sends to. -/
def dst (d : Fin 2) (c : Dev nD) : Dev nD := if d = 0 then ringAt (pos c + 1) else ringAt (pos c - 1)

/-- Whom a device's lane receives from. -/
def src (d : Fin 2) (c : Dev nD) : Dev nD := if d = 0 then ringAt (pos c - 1) else ringAt (pos c + 1)

theorem src_dst (d : Fin 2) (c : Dev nD) : src d (dst d c) = c := by revert d c; decide
theorem dst_src (d : Fin 2) (c : Dev nD) : dst d (src d c) = c := by revert d c; decide
/-- The two lanes run in opposite directions. -/
theorem dst_rev (d : Fin 2) (c : Dev nD) : dst (1 - d) c = src d c := by revert d c; decide
theorem src_rev (d : Fin 2) (c : Dev nD) : src (1 - d) c = dst d c := by revert d c; decide

/-- The chunk of rows a device's lane adds into at step `k`: step 0 is its first product, step
    `h + 1` the product of hop `h`. -/
def chunk (d : Fin 2) (c : Dev nD) (k : Fin 32) : Dev nD :=
  if d = 0 then ringAt (pos c - 1 - k) else ringAt (pos c + 1 + k)

/-! ## The lanes -/

/-- The two lanes' buffers and semaphores. -/
def lane : Fin 2 → Lane
  | 0 => ⟨Memref.whole cc0_scratch0, Memref.whole cc0_scratch1, cc0_scratch4, cc0_scratch5, cc0_scratch8,
      Memref.whole cc0_stg1_0, 0⟩
  | 1 => ⟨Memref.whole cc0_scratch2, Memref.whole cc0_scratch3, cc0_scratch6, cc0_scratch7, cc0_scratch9,
      Memref.whole cc0_stg2_0, 1⟩

theorem lane_half (d : Fin 2) : (lane d).half = d := by fin_cases d <;> rfl

/-- The barrier's semaphore. -/
abbrev barS : Sem sig := (SemArray.scalar (sig.barrier 0 rfl) : Sems sig S_).sem

/-- What a semaphore of the protocol is for: meeting the neighbours, being paid credits, a copy
    having been sent, a copy having landed. -/
inductive Role where
  /-- The barrier. -/
  | bar
  /-- Lane `d`'s credits. -/
  | credit (d : Fin 2)
  /-- Lane `d`'s copies from slot `s`, flit `f`. -/
  | sent (d s f : Fin 2)
  /-- Lane `d`'s copies into slot `s`, flit `f`. -/
  | landed (d s f : Fin 2)
  deriving DecidableEq

/-- The semaphore of a role. -/
def Role.sem : Role → SemLoc sig
  | .bar => .reg barS
  | .credit d => .reg (lane d).cr.sem
  | .sent d s f => .dma (flitSem (lane d).ss s f)
  | .landed d s f => .dma (flitSem (lane d).rs s f)

/-- The role of a semaphore, if it has one. -/
def roleOf : SemLoc sig → Option Role
  | .reg i => if i.val = 0 then some (.credit 0) else if i.val = 1 then some (.credit 1) else some .bar
  | .dma i =>
    if i.val < 8 then none
    else
      let s : Fin 2 := ⟨i.val / 2 % 2, Nat.mod_lt _ Nat.two_pos⟩
      let f : Fin 2 := ⟨i.val % 2, Nat.mod_lt _ Nat.two_pos⟩
      if i.val < 12 then some (.sent 0 s f) else if i.val < 16 then some (.landed 0 s f)
      else if i.val < 20 then some (.sent 1 s f) else some (.landed 1 s f)

theorem roleOf_sem (x : Role) : roleOf x.sem = some x := by
  cases x with
  | bar => decide
  | credit d => revert d; decide
  | sent d s f => revert d s f; decide
  | landed d s f => revert d s f; decide

theorem Role.sem_inj {x y : Role} (h : x.sem = y.sem) : x = y := by
  have := congrArg roleOf h
  rw [roleOf_sem, roleOf_sem] at this
  exact Option.some.inj this

/-- Device `c`'s semaphore of a role. -/
abbrev cell (c : Dev nD) (x : Role) : GSem nD τ sig := ((c : Thread nD τ), x.sem)

theorem cell_inj {c c' : Dev nD} {x y : Role} (h : cell c x = cell c' y) : c = c' ∧ x = y :=
  ⟨congrArg (fun g : GSem nD τ sig => g.1.1) h, Role.sem_inj (congrArg Prod.snd h)⟩

/-! ## Held flits -/

variable {F : FTy → Type}

/-- The protocol's ghost state beside the staging's: the rounds of the cells, and the slots of the
    landing buffers as their readers release them. A slot is named by its reader, lane and number. -/
abbrev UU : Type := UR sig nD τ × (URounds (GSem nD τ sig) ℕ × USlots (Dev nD × Fin 2 × Fin 2))

local notation "𝕄" => MT nD τ sig ℕ (Elt F) ℕ UU ℕ

/-- The contents of a flit. -/
abbrev FlitVec (F : FTy → Type) : Type := Vec F S1x128x512 .i32

/-- The memref of a flit. -/
abbrev flitM (m : Memref sig .tc .vmem S2x128x1024 .i32) (s f : Fin 2) :
    Memref sig .tc .vmem S1x128x512 .i32 := m.slice (flitRect s f) (fun _ => rfl)

/-- Device `c` holds flit `f` of slot `s` of a buffer at contents `v`. -/
def Held (c : Dev nD) (m : Memref sig .tc .vmem S2x128x1024 .i32) (s f : Fin 2) (v : FlitVec F) : sProp 𝕄 :=
  owns (c : Thread nD τ) (flitM m s f) fullShare v

instance held_storable (c : Dev nD) (m : Memref sig .tc .vmem S2x128x1024 .i32) (s f : Fin 2) (v : FlitVec F) :
    Storable (upEmb : UEmb _ 𝕄) (Held c m s f v) := by unfold Held; infer_instance

/-- A flit is held once. -/
theorem held_held_false (c : Dev nD) (m : Memref sig .tc .vmem S2x128x1024 .i32) (s f : Fin 2) (v w : FlitVec F) :
    iprop(Held c m s f v ∗ Held c m s f w) ⊢ (⌜False⌝ : sProp 𝕄) := by
  obtain ⟨i, hi⟩ := (flitM m s f).view.set_nonempty (by decide)
  unfold Held owns
  iintro ⟨⟨%g, -, Hg⟩, ⟨%g', -, Hg'⟩⟩
  iapply (pointsTo_full_full_false (ℓ := (flitM m s f).view.loc (c : Thread nD τ)) (I := (flitM m s f).view.set)
    (J := (flitM m s f).view.set) (f := g) (g := g') (i := i) hi hi)
  isplitl [Hg] <;> iassumption

/-- The copies' view of a flit places the same elements. -/
theorem flitRef_set (m : Memref sig .tc .vmem S2x128x1024 .i32) (s f : Fin 2) :
    (flitRef m s f).view.set = (flitM m s f).view.set :=
  View.set_reshape ..

/-- What a flit reads as, from what the copies' view of it reads as. -/
theorem read_of_flitRef (m : Memref sig .tc .vmem S2x128x1024 .i32) (s f : Fin 2) {Val : EltTy → Type}
    (g : m.view.ty.Contents Val) (x : S1x128x512.Idx) :
    (flitM m s f).view.read Val g x
      = (flitRef m s f).view.read Val g ((Shape.reshapeEquiv squeezes_S1x128x512_S128x512.numel_eq).symm x) := by
  rw [show (flitRef m s f).view.read Val g ((Shape.reshapeEquiv squeezes_S1x128x512_S128x512.numel_eq).symm x)
    = (flitM m s f).view.read Val g (Shape.reshapeEquiv squeezes_S1x128x512_S128x512.numel_eq
        ((Shape.reshapeEquiv squeezes_S1x128x512_S128x512.numel_eq).symm x)) from rfl, Equiv.apply_symm_apply]

/-- A copy between flits carries the contents. -/
theorem read_landed (m m' : Memref sig .tc .vmem S2x128x1024 .i32) (s f : Fin 2) {Val : EltTy → Type}
    (g : m.view.ty.Contents Val) (g' : m'.view.ty.Contents Val) :
    (flitM m' s f).view.read Val ((flitRef m' s f).view.write Val g' ((flitRef m s f).view.read Val g) Finset.univ)
      = (flitM m s f).view.read Val g := by
  funext x
  rw [read_of_flitRef, View.read_write_univ, read_of_flitRef]

/-! ## Running a piece of the body -/

abbrev 𝒱₀ : Variants := Variants.none

variable [FloatOps F]

/-- Device `c` runs `p`, ending in `Q`. -/
abbrev Runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- One piece after another. -/
theorem runs_bind {α β : Type} (c : Dev nD) (p : Prog (TpuEff nD τ sig (Elt F) Λ₀ .tc) α)
    (k : α → Prog (TpuEff nD τ sig (Elt F) Λ₀ .tc) β) (Q : β → sProp 𝕄) :
    Runs c p (fun a => Runs c (k a) Q) ⊢ Runs c (p >>= k) Q :=
  Entails.of_eq (wp_bind ..).symm

/-- A piece that only returns. -/
theorem runs_pure {α : Type} (c : Dev nD) (a : α) (Q : α → sProp 𝕄) :
    Q a ⊢ Runs c (pure a : Prog (TpuEff nD τ sig (Elt F) Λ₀ .tc) α) Q := by
  show _ ⊢ wp _ _ _ (Prog.ret a) _
  rw [wp_ret]
  iintro H; imodintro; iexact H

/-- A ghost step after a piece. -/
theorem runs_fupd {α : Type} (c : Dev nD) (p : Prog (TpuEff nD τ sig (Elt F) Λ₀ .tc) α) (Q : α → sProp 𝕄) :
    Runs c p (fun a => iprop(|={Set.univ}=> Q a)) ⊢ Runs c p Q := wp_fupd _ _ _ p Q

/-- A load of a held flit reads its contents. -/
theorem runs_loadFlit (c : Dev nD) (m : Memref sig .tc .vmem S2x128x1024 .i32) (s f : Fin 2) (v : FlitVec F)
    (Q : FlitVec F → sProp 𝕄) :
    Held c m s f v ⊢ iprop((Held c m s f v -∗ Q v) -∗ Runs c (loadFlit m s f) Q) := by
  unfold Held owns loadFlit Prog.lift
  iintro ⟨%g, %hg, Hg⟩ Hk
  iapply (wp_load_rect 𝒱₀ (c : Thread nD τ) none Set.univ (m := m) (r := flitRect s f)
    (S := (flitM m s f).view.set) (q := fullShare) (f := g) (Finset.Subset.refl _)) $$ Hg
  iintro Hg
  iapply (runs_pure c)
  rw [show (m.access (flitRect s f)).read (Elt F) g = v from hg]
  iapply Hk
  iexists g
  isplitr; · ipureintro; exact hg
  iexact Hg

/-- A store to a held flit replaces its contents. -/
theorem runs_storeFlit (c : Dev nD) (m : Memref sig .tc .vmem S2x128x1024 .i32) (s f : Fin 2) (v w : FlitVec F)
    (hx) (hm) (Q : PUnit → sProp 𝕄) :
    Held c m s f v ⊢ iprop((Held c m s f w -∗ Q ⟨⟩)
      -∗ Runs c (Prog.lift (.store m (flitRect s f) w Finset.univ hx hm)) Q) := by
  unfold Held owns Prog.lift
  iintro ⟨%g, -, Hg⟩ Hk
  iapply (wp_store 𝒱₀ (c : Thread nD τ) none Set.univ (m := m) (r := flitRect s f)
    (S := (flitM m s f).view.set) (f := g) (Finset.Subset.refl _)) $$ Hg
  iintro Hg
  iapply (runs_pure c)
  iapply Hk
  iexists _
  isplitr
  · ipureintro; exact View.read_write_univ (v := (flitM m s f).view) g w
  iexact Hg

end Cert.KernelIdeal.Ring
-- ==== Proof.Schedule.lean ====
/-
  The protocol: who pays which semaphore, in which round, with what.

  Copy `k` of a lane (`k = 0 … 30`) goes from slot `k % 2` to slot `k % 2`, in round `k / 2` of that
  slot's cells. Copying pays the sender's own `sent` cell with the flit it read, and the receiver's
  `landed` cell with the landing flit at the same contents. A device meeting a neighbour, and paying
  it a credit, tells it which landing slots it has released (`Avail`), a fact that only grows, so
  whichever of several credits a wait consumes, the sender learns what it needs.
-/
module

public import proofs.«01_k».proof.Proof.Lanes
public import Mathlib.Algebra.BigOperators.Intervals
public import Mathlib.Tactic.Abel

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type}

local notation "𝕄" => MT nD τ sig ℕ (Elt F) ℕ UU ℕ

/-- The staging's rounds in the ghost state. -/
abbrev EP : Emb (UR sig nD τ) (MT nD τ sig ℕ (Elt F) ℕ UU ℕ) := embL
/-- The protocol's rounds in the ghost state. -/
def ER : Emb (URounds (GSem nD τ sig) ℕ) (MT nD τ sig ℕ (Elt F) ℕ UU ℕ) :=
  (Emb.inl : Emb _ (URounds (GSem nD τ sig) ℕ × USlots (Dev nD × Fin 2 × Fin 2))).trans embR
/-- The landing slots in the ghost state. -/
def ES : Emb (USlots (Dev nD × Fin 2 × Fin 2)) (MT nD τ sig ℕ (Elt F) ℕ UU ℕ) :=
  (Emb.inr : Emb _ (URounds (GSem nD τ sig) ℕ × USlots (Dev nD × Fin 2 × Fin 2))).trans embR

instance ER_landsIn : (ER : Emb _ 𝕄).LandsIn (upEmb : UEmb _ 𝕄) := by unfold ER; infer_instance
instance ES_landsIn : (ES : Emb _ 𝕄).LandsIn (upEmb : UEmb _ 𝕄) := by unfold ES; infer_instance

/-- What one copy of a flit adds to a semaphore. -/
def N : ℕ := (flitRef (lane 0).acc 0 0).view.dmaCredit

theorem N_pos : 0 < N := View.dmaCredit_pos _ (by decide)

theorem credit_acc (d s f : Fin 2) : (flitRef (lane d).acc s f).view.dmaCredit = N := by
  fin_cases d <;> rfl
theorem credit_rcv (d s f : Fin 2) : (flitRef (lane d).rcv s f).view.dmaCredit = N := by
  fin_cases d <;> rfl

/-! ## What a device tells its sender -/

/-- Device `x` has released its landing slot for copy `k` of lane `d`, and its cells of that slot are
    ready for the copy's two flits. -/
def MaySend (x : Dev nD) (d : Fin 2) (k : ℕ) : sProp 𝕄 :=
  iprop(released ES (x, d, par k) (k / 2 + 1)
    ∗ reached ER (cell x (.landed d (par k) 0)) (k / 2) ∗ reached ER (cell x (.landed d (par k) 1)) (k / 2))

instance maySend_persistent (x : Dev nD) (d : Fin 2) (k : ℕ) : BI.Persistent (MaySend x d k : sProp 𝕄) := by
  unfold MaySend; infer_instance
instance maySend_storable (x : Dev nD) (d : Fin 2) (k : ℕ) :
    Storable (upEmb : UEmb _ 𝕄) (MaySend x d k : sProp 𝕄) := by unfold MaySend; infer_instance

theorem par_add_two (k : ℕ) : par (k + 2) = par k := Fin.ext (Nat.add_mod_right k 2)

/-- A slot released for a copy was released for the copy two before. -/
theorem maySend_two (x : Dev nD) (d : Fin 2) (k : ℕ) : MaySend x d (k + 2) ⊢ (MaySend x d k : sProp 𝕄) := by
  unfold MaySend
  rw [par_add_two, show (k + 2) / 2 = k / 2 + 1 from Nat.add_div_right k Nat.two_pos]
  exact BIClass.sep_mono (released_mono ES (Nat.le_succ _))
    (BIClass.sep_mono (reached_mono ER (Nat.le_succ _)) (reached_mono ER (Nat.le_succ _)))

/-- Both slots of lane `d` of device `x` are released, up to copies `i` and `i + 1`. -/
def Avail (x : Dev nD) (d : Fin 2) (i : ℕ) : sProp 𝕄 := iprop(MaySend x d i ∗ MaySend x d (i + 1))

instance avail_persistent (x : Dev nD) (d : Fin 2) (i : ℕ) : BI.Persistent (Avail x d i : sProp 𝕄) := by
  unfold Avail; infer_instance
instance avail_storable (x : Dev nD) (d : Fin 2) (i : ℕ) :
    Storable (upEmb : UEmb _ 𝕄) (Avail x d i : sProp 𝕄) := by unfold Avail; infer_instance

theorem avail_succ (x : Dev nD) (d : Fin 2) (j : ℕ) : Avail x d (j + 1) ⊢ (Avail x d j : sProp 𝕄) := by
  unfold Avail
  iintro ⟨H1, H2⟩
  isplitl [H2]
  · iapply (maySend_two (F := F) x d j); iexact H2
  iexact H1

/-- What was said of a later hop holds of an earlier one. -/
theorem avail_mono (x : Dev nD) (d : Fin 2) {i j : ℕ} (h : i ≤ j) : Avail x d j ⊢ (Avail x d i : sProp 𝕄) := by
  induction j, h using Nat.le_induction with
  | base => exact BI.Entails.refl _
  | succ j _ ih => exact (avail_succ x d j).trans ih

/-! ## The schedule -/

/-- The duties of a role's cell in a round. -/
def dutiesOf : Option Role → ℕ → Finset ℕ
  | some .bar, r => if r = 0 then {0, 1} else ∅
  | some (.credit _), r => if r = 0 then Finset.range 29 else ∅
  | some (.sent _ s _), r => if 2 * r + s.val < 31 then {0} else ∅
  | some (.landed _ s _), r => if 2 * r + s.val < 31 then {0} else ∅
  | none, _ => ∅

/-- What one duty of a role's cell adds to it. -/
def amountOf : Option Role → ℕ
  | some (.sent _ _ _) => N
  | some (.landed _ _ _) => N
  | _ => 1

variable (part : Fin 2 → Dev nD → Fin 2 → ℕ → FlitVec F)

/-- What a duty of a role's cell of device `c` comes with. -/
def payloadOf (c : Dev nD) : Option Role → ℕ → ℕ → sProp 𝕄
  | some .bar, _, u =>
    let d : Fin 2 := ⟨u % 2, Nat.mod_lt _ Nat.two_pos⟩
    iprop(Avail (dst d c) d 0 ∗ reached ER (cell (dst d c) (.credit (1 - d))) 0)
  | some (.credit d), _, j => Avail (dst d c) d (j + 1)
  | some (.sent d s f), r, _ => Held c (lane d).acc s f (part d c f (2 * r + s.val))
  | some (.landed d s f), r, _ => Held c (lane d).rcv s f (part d (src d c) f (2 * r + s.val))
  | none, _, _ => iprop(emp)

/-- The schedule of every cell: only the cells of the tensor cores are paid. -/
def sched : Rounds.Schedule (GSem nD τ sig) ℕ 𝕄 where
  duties g r := if g.1.2 = .tc then dutiesOf (roleOf g.2) r else ∅
  unitless _ := False
  amount g _ _ := amountOf (roleOf g.2)
  payload g r u := payloadOf part g.1.1 (roleOf g.2) r u
  amount_pos g _ _ _ := by
    show 0 < amountOf (roleOf g.2)
    unfold amountOf
    split
    · exact N_pos
    · exact N_pos
    · exact Nat.one_pos

instance sched_storable (g : GSem nD τ sig) (r u : ℕ) :
    Storable (upEmb : UEmb _ 𝕄) ((sched (F := F) part).payload g r u) := by
  show Storable upEmb (payloadOf part g.1.1 (roleOf g.2) r u)
  unfold payloadOf
  split <;> infer_instance

section Facts

variable (c : Dev nD)

theorem duties_cell (x : Role) (r : ℕ) : (sched (F := F) part).duties (cell c x) r = dutiesOf (some x) r := by
  show (if (cell c x).1.2 = .tc then dutiesOf (roleOf x.sem) r else ∅) = _
  rw [if_pos rfl, roleOf_sem]

theorem amount_cell (x : Role) (r u : ℕ) : (sched (F := F) part).amount (cell c x) r u = amountOf (some x) := by
  show amountOf (roleOf x.sem) = _
  rw [roleOf_sem]

theorem payload_cell (x : Role) (r u : ℕ) :
    (sched (F := F) part).payload (cell c x) r u = payloadOf part c (some x) r u := by
  show payloadOf part c (roleOf x.sem) r u = _
  rw [roleOf_sem]

theorem expect_cell (x : Role) (r : ℕ) :
    (sched (F := F) part).expect (cell c x) r = (dutiesOf (some x) r).card * amountOf (some x) := by
  unfold Schedule.expect Schedule.amountOf
  rw [duties_cell, Finset.sum_congr rfl (fun u _ => amount_cell part c x r u), Finset.sum_const, smul_eq_mul]

theorem two_half (k : ℕ) : 2 * (k / 2) + (par k).val = k := by
  show 2 * (k / 2) + k % 2 = k
  omega

/-- Copy `k` has its one duty on the cells of its slot. -/
theorem duties_sent {d f : Fin 2} {k : ℕ} (hk : k < 31) :
    (sched (F := F) part).duties (cell c (.sent d (par k) f)) (k / 2) = {0} := by
  rw [duties_cell]; exact if_pos (by rw [two_half]; exact hk)
theorem duties_landed {d f : Fin 2} {k : ℕ} (hk : k < 31) :
    (sched (F := F) part).duties (cell c (.landed d (par k) f)) (k / 2) = {0} := by
  rw [duties_cell]; exact if_pos (by rw [two_half]; exact hk)
theorem duties_credit (d : Fin 2) : (sched (F := F) part).duties (cell c (.credit d)) 0 = Finset.range 29 := by
  rw [duties_cell]; rfl
theorem duties_bar : (sched (F := F) part).duties (cell c .bar) 0 = {0, 1} := by rw [duties_cell]; rfl

theorem expect_sent {d f : Fin 2} {k : ℕ} (hk : k < 31) :
    (sched (F := F) part).expect (cell c (.sent d (par k) f)) (k / 2) = N := by
  rw [expect_cell, show dutiesOf (some (.sent d (par k) f)) (k / 2) = {0} from if_pos (by rw [two_half]; exact hk)]
  exact Nat.one_mul _
theorem expect_landed {d f : Fin 2} {k : ℕ} (hk : k < 31) :
    (sched (F := F) part).expect (cell c (.landed d (par k) f)) (k / 2) = N := by
  rw [expect_cell, show dutiesOf (some (.landed d (par k) f)) (k / 2) = {0} from if_pos (by rw [two_half]; exact hk)]
  exact Nat.one_mul _
theorem expect_credit (d : Fin 2) : (sched (F := F) part).expect (cell c (.credit d)) 0 = 29 := by
  rw [expect_cell]; rfl
theorem expect_bar : (sched (F := F) part).expect (cell c .bar) 0 = 2 := by
  rw [expect_cell]; rfl

theorem payload_sent (d f : Fin 2) (k u : ℕ) :
    (sched (F := F) part).payload (cell c (.sent d (par k) f)) (k / 2) u
      = Held c (lane d).acc (par k) f (part d c f k) := by
  rw [payload_cell]; dsimp only [payloadOf]; rw [two_half]
theorem payload_landed (d f : Fin 2) (k u : ℕ) :
    (sched (F := F) part).payload (cell c (.landed d (par k) f)) (k / 2) u
      = Held c (lane d).rcv (par k) f (part d (src d c) f k) := by
  rw [payload_cell]; dsimp only [payloadOf]; rw [two_half]
theorem payload_credit (d : Fin 2) (j : ℕ) :
    (sched (F := F) part).payload (cell c (.credit d)) 0 j = Avail (dst d c) d (j + 1) := by
  rw [payload_cell]; rfl
theorem payload_bar (d : Fin 2) :
    (sched (F := F) part).payload (cell c .bar) 0 d.val
      = iprop(Avail (dst d c) d 0 ∗ reached ER (cell (dst d c) (.credit (1 - d))) 0) := by
  rw [payload_cell]; fin_cases d <;> rfl

theorem rest_sent {d f : Fin 2} {k : ℕ} (hk : k < 31) :
    bigSep ((sched (F := F) part).duties (cell c (.sent d (par k) f)) (k / 2) \ ∅)
        (fun u => (sched (F := F) part).payload (cell c (.sent d (par k) f)) (k / 2) u)
      = Held c (lane d).acc (par k) f (part d c f k) := by
  rw [Finset.sdiff_empty, duties_sent part c hk, bigSep_singleton, payload_sent]
theorem rest_landed {d f : Fin 2} {k : ℕ} (hk : k < 31) :
    bigSep ((sched (F := F) part).duties (cell c (.landed d (par k) f)) (k / 2) \ ∅)
        (fun u => (sched (F := F) part).payload (cell c (.landed d (par k) f)) (k / 2) u)
      = Held c (lane d).rcv (par k) f (part d (src d c) f k) := by
  rw [Finset.sdiff_empty, duties_landed part c hk, bigSep_singleton, payload_landed]
theorem rest_bar :
    bigSep ((sched (F := F) part).duties (cell c .bar) 0 \ ∅)
        (fun u => (sched (F := F) part).payload (cell c .bar) 0 u)
      = iprop((Avail (dst 0 c) 0 0 ∗ reached ER (cell (dst 0 c) (.credit 1)) 0)
        ∗ (Avail (dst 1 c) 1 0 ∗ reached ER (cell (dst 1 c) (.credit 0)) 0)) := by
  rw [Finset.sdiff_empty, duties_bar, bigSep_insert (by decide), bigSep_singleton,
    show (sched (F := F) part).payload (cell c .bar) 0 0 = _ from payload_bar part c 0,
    show (sched (F := F) part).payload (cell c .bar) 0 1 = _ from payload_bar part c 1]
  rfl

/-- After its last copy a cell is paid no more. -/
theorem duties_after {x : Role} {R : ℕ}
    (h : match x with
      | .bar => 1 ≤ R | .credit _ => 1 ≤ R | .sent _ s _ => 31 ≤ 2 * R + s.val | .landed _ s _ => 31 ≤ 2 * R + s.val) :
    ∀ r, R ≤ r → (sched (F := F) part).duties (cell c x) r = ∅ := fun r hr => by
  rw [duties_cell]
  cases x <;> exact if_neg (by dsimp only at h; omega)

end Facts

/-! ## What a device owes, and the order of the waits -/

/-- Owed for copy `k` of lane `d`, flit `f`: the receiver's cell. -/
abbrev dueSend (c : Dev nD) (d f : Fin 2) (k : ℕ) : CellTallies nD τ sig ℕ :=
  tallyAt (cell (dst d c) (.landed d (par k) f)) k N
/-- Owed for credit `j` of lane `d`: the feeder's cell. -/
abbrev dueCredit (c : Dev nD) (d : Fin 2) (j : ℕ) : CellTallies nD τ sig ℕ :=
  tallyAt (cell (src d c) (.credit d)) j 1
/-- Owed for meeting the feeder of lane `d`. -/
abbrev dueBar (c : Dev nD) (d : Fin 2) : CellTallies nD τ sig ℕ := tallyAt (cell (src d c) .bar) 0 1

/-- Owed for one copy of both lanes and both flits, in the order they are started, last first. -/
def dueSends (c : Dev nD) (k : ℕ) : CellTallies nD τ sig ℕ :=
  dueSend c 1 1 k + dueSend c 0 1 k + dueSend c 1 0 k + dueSend c 0 0 k
/-- Owed for one hop's credits, last first. -/
def dueCredits (c : Dev nD) (j : ℕ) : CellTallies nD τ sig ℕ := dueCredit c 1 j + dueCredit c 0 j

/-- Owed from hop `h` on: a copy and a credit per hop, but hop 29 pays no credit and hop 30 nothing. -/
def dueFrom (c : Dev nD) (h : ℕ) : CellTallies nD τ sig ℕ :=
  (∑ k ∈ Finset.Ico (h + 1) 31, dueSends c k) + ∑ j ∈ Finset.Ico h 29, dueCredits c j

/-- All a device owes at the start. -/
def dueAll (c : Dev nD) : CellTallies nD τ sig ℕ :=
  dueFrom c 0 + dueSends c 0 + dueBar c 1 + dueBar c 0

theorem dueFrom_hop (c : Dev nD) {h : ℕ} (hh : h < 29) :
    dueFrom c h = dueFrom c (h + 1) + dueCredits c h + dueSends c (h + 1) := by
  unfold dueFrom
  rw [Finset.sum_eq_sum_Ico_succ_bot (by omega : h + 1 < 31), Finset.sum_eq_sum_Ico_succ_bot hh]
  abel
theorem dueFrom_last (c : Dev nD) : dueFrom c 29 = dueSends c 30 := by
  unfold dueFrom
  rw [show Finset.Ico (29 + 1) 31 = {30} from rfl, show Finset.Ico 29 29 = (∅ : Finset ℕ) from rfl,
    Finset.sum_singleton, Finset.sum_empty, add_zero]
theorem dueFrom_none (c : Dev nD) : dueFrom c 30 = 0 := by
  unfold dueFrom
  rw [show Finset.Ico (30 + 1) 31 = (∅ : Finset ℕ) from rfl, show Finset.Ico 30 29 = (∅ : Finset ℕ) from rfl,
    Finset.sum_empty, Finset.sum_empty, add_zero]

/-- The indices a cell's credit may carry: one per copy or credit. -/
def L (g : GSem nD τ sig) : Finset ℕ := if g.1.2 = .tc then Finset.range 32 else ∅

/-- The order of the waits: a device waits only for what ranks below everything it still owes. -/
def lvOf : Option Role → ℕ → ℕ
  | some .bar, _ => 1
  | some (.landed _ _ _), k => 2 * k + 4
  | some (.credit _), j => 2 * j + 5
  | _, _ => 0

/-- The rank of a credit of a cell. -/
def lv (g : GSem nD τ sig) (i : ℕ) : ℕ := lvOf (roleOf g.2) i

theorem L_of_ne (g : GSem nD τ sig) (h : g.1.2 ≠ .tc) : L g = ∅ := if_neg h
theorem L_tc (c : Dev nD) (sm : SemLoc sig) : L ((c : Thread nD τ), sm) = Finset.range 32 := if_pos rfl
theorem lv_cell (c : Dev nD) (x : Role) (i : ℕ) : lv (cell c x) i = lvOf (some x) i := by
  show lvOf (roleOf x.sem) i = _
  rw [roleOf_sem]

/-- Everything in `O` ranks above `b`. -/
def Above (b : ℕ) (O : CellTallies nD τ sig ℕ) : Prop := ∀ g i, 0 < O g i → i ∈ L g ∧ b < lv g i

theorem above_zero (b : ℕ) : Above b 0 := fun _ _ h => absurd h (Nat.lt_irrefl 0)
theorem above_add {b : ℕ} {O O' : CellTallies nD τ sig ℕ} (h : Above b O) (h' : Above b O') : Above b (O + O') :=
  fun g i hg => by
    rw [Pi.add_apply, Finsupp.add_apply] at hg
    rcases Nat.add_pos_iff_pos_or_pos.mp hg with hg | hg
    · exact h g i hg
    · exact h' g i hg
theorem above_sum {b : ℕ} {S : Finset ℕ} {O : ℕ → CellTallies nD τ sig ℕ} (h : ∀ k ∈ S, Above b (O k)) :
    Above b (∑ k ∈ S, O k) :=
  Finset.sum_induction _ (Above b) (fun _ _ => above_add) (above_zero b) h
theorem above_mono {b b' : ℕ} {O : CellTallies nD τ sig ℕ} (hb : b' ≤ b) (h : Above b O) : Above b' O :=
  fun g i hg => ⟨(h g i hg).1, lt_of_le_of_lt hb (h g i hg).2⟩
theorem above_tally {b : ℕ} (c : Dev nD) (x : Role) {i n : ℕ} (hi : i < 32) (hb : b < lvOf (some x) i) :
    Above b (tallyAt (cell c x) i n) := fun g j hg => by
  rw [tallyAt_apply] at hg
  by_cases h : g = cell c x ∧ j = i
  · obtain ⟨rfl, rfl⟩ := h
    exact ⟨by rw [L_tc]; exact Finset.mem_range.mpr hi, by rw [lv_cell]; exact hb⟩
  · rw [if_neg h] at hg; exact absurd hg (Nat.lt_irrefl 0)

theorem above_send (c : Dev nD) (d f : Fin 2) {b k : ℕ} (hk : k < 31) (hb : b < 2 * k + 4) : Above b (dueSend c d f k) :=
  above_tally _ _ (by omega) hb
theorem above_credit (c : Dev nD) (d : Fin 2) {b j : ℕ} (hj : j < 29) (hb : b < 2 * j + 5) : Above b (dueCredit c d j) :=
  above_tally _ _ (by omega) hb
theorem above_sends (c : Dev nD) {b k : ℕ} (hk : k < 31) (hb : b < 2 * k + 4) : Above b (dueSends c k) :=
  above_add (above_add (above_add (above_send c 1 1 hk hb) (above_send c 0 1 hk hb)) (above_send c 1 0 hk hb))
    (above_send c 0 0 hk hb)
theorem above_credits (c : Dev nD) {b j : ℕ} (hj : j < 29) (hb : b < 2 * j + 5) : Above b (dueCredits c j) :=
  above_add (above_credit c 1 hj hb) (above_credit c 0 hj hb)
/-- From hop `h` on, what is owed ranks above the landing of copy `h`. -/
theorem above_from (c : Dev nD) (h : ℕ) : Above (2 * h + 4) (dueFrom c h) :=
  above_add
    (above_sum fun k hk => above_sends c (Finset.mem_Ico.mp hk).2 (by have := (Finset.mem_Ico.mp hk).1; omega))
    (above_sum fun j hj => above_credits c (Finset.mem_Ico.mp hj).2 (by have := (Finset.mem_Ico.mp hj).1; omega))

/-- The order of the waits, as everyone knows it. -/
def Levels : sProp 𝕄 := levAts L lv

instance levels_persistent : BI.Persistent (Levels : sProp 𝕄) := by unfold Levels; infer_instance

/-- A device may wait for what ranks below everything it owes. -/
theorem mayWait (c : Dev nD) (x : Role) (i : ℕ) (hi : i < 32) {b : ℕ} (hb : lvOf (some x) i = b)
    {O : CellTallies nD τ sig ℕ} (h : Above b O) : (Levels : sProp 𝕄) ⊢ MayWait (c : Thread nD τ) x.sem i O :=
  MayOwe.of_cut (L := L) (lev := lv) b
    (fun p hp => by rw [Finset.mem_singleton.mp hp, L_tc]; exact Finset.mem_range.mpr hi)
    (fun g u hg => (h g u hg).1)
    (fun p hp => by rw [Finset.mem_singleton.mp hp]; exact le_of_eq ((lv_cell c x i).trans hb))
    (fun g u hg => (h g u hg).2)

end Cert.KernelIdeal.Ring
-- ==== Proof.Ops.lean ====
/-
  One operation of the protocol at a time: what a device gives and gets at a wait, a copy, a signal.
-/
module

public import proofs.«01_k».proof.Proof.Schedule
public import Idealize.SL.BI.BigOpNat

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type}

local notation "𝕄" => MT nD τ sig ℕ (Elt F) ℕ UU ℕ

instance : Fintype Role where
  elems := {.bar, .credit 0, .credit 1,
    .sent 0 0 0, .sent 0 0 1, .sent 0 1 0, .sent 0 1 1, .sent 1 0 0, .sent 1 0 1, .sent 1 1 0, .sent 1 1 1,
    .landed 0 0 0, .landed 0 0 1, .landed 0 1 0, .landed 0 1 1, .landed 1 0 0, .landed 1 0 1, .landed 1 1 0, .landed 1 1 1}
  complete x := by
    cases x with
    | bar => decide
    | credit d => revert d; decide
    | sent d s f => revert d s f; decide
    | landed d s f => revert d s f; decide

/-- What lies in a released landing slot: its two flits, at any contents. -/
def Slot (k : Dev nD × Fin 2 × Fin 2) : sProp 𝕄 :=
  iprop((∃ v, Held k.1 (lane k.2.1).rcv k.2.2 0 v) ∗ ∃ v, Held k.1 (lane k.2.1).rcv k.2.2 1 v)

instance slot_storable (k : Dev nD × Fin 2 × Fin 2) : Storable (upEmb : UEmb _ 𝕄) (Slot (F := F) k) := by
  unfold Slot; infer_instance

/-- A slot is in one place. -/
theorem slot_slot_false (k : Dev nD × Fin 2 × Fin 2) : iprop(Slot k ∗ Slot k) ⊢ (False : sProp 𝕄) := by
  unfold Slot
  iintro ⟨⟨⟨%v, H⟩, -⟩, ⟨%w, H'⟩, -⟩
  ihave Hf := (held_held_false k.1 (lane k.2.1).rcv k.2.2 0 v w) $$ [H H']
  · isplitl [H] <;> iassumption
  icases Hf with %hf
  exact hf.elim

variable (part : Fin 2 → Dev nD → Fin 2 → ℕ → FlitVec F) (K : GSem nD τ sig → ℕ) (Ks : Dev nD × Fin 2 × Fin 2 → ℕ)

/-- What everyone knows: the order of the waits, every cell's schedule, and every landing slot's rule. -/
def Known : sProp 𝕄 :=
  iprop((Levels : sProp 𝕄)
    ∗ bigSep (Finset.univ : Finset (Dev nD × Role)) (fun p => cellInv ER (sched part) (K (cell p.1 p.2)) (cell p.1 p.2))
    ∗ bigSep (Finset.univ : Finset (Dev nD × Fin 2 × Fin 2)) (fun k => slotInv ES (Ks k) k (Slot k)))

instance known_persistent : BI.Persistent (Known part K Ks) := by unfold Known; infer_instance

theorem known_lev : Known part K Ks ⊢ (Levels : sProp 𝕄) := by
  unfold Known; iintro ⟨H, -⟩; iexact H
theorem known_cell (c : Dev nD) (x : Role) : Known part K Ks ⊢ cellInv ER (sched part) (K (cell c x)) (cell c x) := by
  have h : (bigSep (Finset.univ : Finset (Dev nD × Role)) (fun p => cellInv ER (sched part) (K (cell p.1 p.2)) (cell p.1 p.2)))
      ⊢ cellInv ER (sched part) (K (cell c x)) (cell c x) := bigSep_elim (i := (c, x)) (Finset.mem_univ _)
  unfold Known; iintro ⟨-, H, -⟩
  iapply h; iexact H
theorem known_slot (k : Dev nD × Fin 2 × Fin 2) : Known part K Ks ⊢ slotInv ES (Ks k) k (Slot k) := by
  have h : (bigSep (Finset.univ : Finset (Dev nD × Fin 2 × Fin 2)) (fun k => slotInv ES (Ks k) k (Slot (F := F) k)))
      ⊢ slotInv ES (Ks k) k (Slot k) := bigSep_elim (i := k) (Finset.mem_univ _)
  unfold Known; iintro ⟨-, -, H⟩
  iapply h; iexact H

/-- A device may wait for what ranks below everything it owes. -/
theorem known_mayWait (c : Dev nD) (x : Role) (i : ℕ) (hi : i < 32) {b : ℕ} (hb : lvOf (some x) i = b)
    {O : CellTallies nD τ sig ℕ} (h : Above b O) : Known part K Ks ⊢ MayWait (c : Thread nD τ) x.sem i O := by
  have hm := mayWait (F := F) c x i hi hb h
  unfold Known; iintro ⟨H, -⟩
  iapply hm; iexact H

/-- Device `c` owes `O`, whatever it has waited for. -/
def Owes (c : Dev nD) (O : CellTallies nD τ sig ℕ) : sProp 𝕄 := iprop(∃ W, owes (c : Thread nD τ) O W)

/-- Where a device stands on its cell of a role: round `r`, nothing taken. -/
abbrev At (c : Dev nD) (x : Role) (r : ℕ) : sProp 𝕄 := atPos ER (cell c x) r ∅ 0
/-- Round `r` of a cell has begun. -/
abbrev Begun (c : Dev nD) (x : Role) (r : ℕ) : sProp 𝕄 := reached ER (cell c x) r
/-- The right to pay duty `u` of round `r` of a cell. -/
abbrev Tok (c : Dev nD) (x : Role) (r u : ℕ) : sProp 𝕄 := dutyTok ER (cell c x) r u
/-- What is to come on a cell. -/
abbrev Due (c : Dev nD) (x : Role) (i n : ℕ) : sProp 𝕄 := cred (tallyAt (cell c x) i n)

variable [FloatOps F]

/-- A copy has landed: its flit, at what the sender read. -/
theorem runs_waitLanded (c : Dev nD) (d f : Fin 2) (k : ℕ) (hk : k < 31) {O : CellTallies nD τ sig ℕ}
    (hO : Above (2 * k + 4) O) (Q : PUnit → sProp 𝕄) :
    iprop(Known part K Ks ∗ Owes c O ∗ Due c (.landed d (par k) f) k N ∗ At c (.landed d (par k) f) (k / 2))
      ⊢ iprop((Owes c O ∗ At c (.landed d (par k) f) (k / 2 + 1) ∗ Begun c (.landed d (par k) f) (k / 2 + 1)
            ∗ Held c (lane d).rcv (par k) f (part d (src d c) f k) -∗ Q ⟨⟩)
          -∗ Runs c (waitLanded (lane d) k f) Q) := by
  unfold Owes
  iintro ⟨#HK, ⟨%W, HO⟩, Hc, Hat⟩ Hk
  have hcr := credit_rcv d (par k) f
  unfold waitLanded Prog.lift
  iapply (Rounds.wp_wait_rest_token 𝒱₀ ER (sched part) (c : Thread nD τ) none (κ := K (cell c (.landed d (par k) f)))
      (wpE_waitDma2_eq (src := flitRef (lane d).acc (par k) f) (dst := flitRef (lane d).rcv (par k) f) 𝒱₀ (c : Thread nD τ) none Set.univ)
      (Set.mem_univ _) k (O := O) (W := W) (R := k / 2) (m := 0) (T := ∅)
      (by rw [hcr]; exact (Nat.zero_add N).trans (expect_landed part c hk).symm)) $$ [HO Hc Hat]
  · isplitr; · iapply (known_cell part K Ks c (.landed d (par k) f)); iexact HK
    isplitl [Hc]; · rw [hcr]; iexact Hc
    isplitl [HO]; · iexact HO
    isplitr
    · iapply (known_mayWait part K Ks c (.landed d (par k) f) k (by omega) rfl hO); iexact HK
    iexact Hat
  iintro ⟨HO, Hat, Hr, Hp⟩
  iapply (runs_pure c)
  iapply Hk
  isplitl [HO]; · iexists _; iexact HO
  isplitl [Hat]; · iexact Hat
  isplitl [Hr]; · iexact Hr
  iapply (Entails.of_eq (rest_landed part c (d := d) (f := f) hk)); iexact Hp

/-- One's own copy has been read out: its flit comes back. -/
theorem runs_waitSent (c : Dev nD) (d f : Fin 2) (k : ℕ) (hk : k < 31) {O : CellTallies nD τ sig ℕ}
    (hO : Above 0 O) (Q : PUnit → sProp 𝕄) :
    iprop(Known part K Ks ∗ Owes c O ∗ Due c (.sent d (par k) f) 0 N ∗ At c (.sent d (par k) f) (k / 2))
      ⊢ iprop((Owes c O ∗ At c (.sent d (par k) f) (k / 2 + 1) ∗ Begun c (.sent d (par k) f) (k / 2 + 1)
            ∗ Held c (lane d).acc (par k) f (part d c f k) -∗ Q ⟨⟩)
          -∗ Runs c (waitSent (lane d) k f) Q) := by
  unfold Owes
  iintro ⟨#HK, ⟨%W, HO⟩, Hc, Hat⟩ Hk
  have hcr := credit_acc d (par k) f
  unfold waitSent Prog.lift
  iapply (Rounds.wp_wait_rest_token 𝒱₀ ER (sched part) (c : Thread nD τ) none (κ := K (cell c (.sent d (par k) f)))
      (wpE_waitDma2_eq (src := flitRef (lane d).rcv (par k) f) (dst := flitRef (lane d).acc (par k) f) 𝒱₀ (c : Thread nD τ) none Set.univ)
      (Set.mem_univ _) 0 (O := O) (W := W) (R := k / 2) (m := 0) (T := ∅)
      (by rw [hcr]; exact (Nat.zero_add N).trans (expect_sent part c hk).symm)) $$ [HO Hc Hat]
  · isplitr; · iapply (known_cell part K Ks c (.sent d (par k) f)); iexact HK
    isplitl [Hc]; · rw [hcr]; iexact Hc
    isplitl [HO]; · iexact HO
    isplitr
    · iapply (known_mayWait part K Ks c (.sent d (par k) f) 0 (by omega) rfl hO); iexact HK
    iexact Hat
  iintro ⟨HO, Hat, Hr, Hp⟩
  iapply (runs_pure c)
  iapply Hk
  isplitl [HO]; · iexists _; iexact HO
  isplitl [Hat]; · iexact Hat
  isplitl [Hr]; · iexact Hr
  iapply (Entails.of_eq (rest_sent part c (d := d) (f := f) hk)); iexact Hp

/-- Starting copy `k` of a flit: the sender's flit and the receiver's flit go into the copy. -/
theorem runs_send (c : Dev nD) (d f : Fin 2) (k : ℕ) (hk : k < 31) (O : CellTallies nD τ sig ℕ)
    (w : FlitVec F) (Q : PUnit → sProp 𝕄) :
    iprop(Known part K Ks ∗ Owes c (O + dueSend c d f k) ∗ Held c (lane d).acc (par k) f (part d c f k)
        ∗ Held (dst d c) (lane d).rcv (par k) f w
        ∗ Tok c (.sent d (par k) f) (k / 2) 0 ∗ Begun c (.sent d (par k) f) (k / 2)
        ∗ Tok (dst d c) (.landed d (par k) f) (k / 2) 0 ∗ Begun (dst d c) (.landed d (par k) f) (k / 2))
      ⊢ iprop((Owes c O ∗ Due c (.sent d (par k) f) 0 N -∗ Q ⟨⟩)
          -∗ Runs c (send (lane d) (dst d c) k f) Q) := by
  unfold Owes
  iintro ⟨#HK, ⟨%W, HO⟩, Hs, Hd, Ht1, Hr1, Ht2, Hr2⟩ Hk
  unfold Held owns
  icases Hs with ⟨%gs, %hgs, Hs⟩
  icases Hd with ⟨%gd, -, Hd⟩
  unfold send Prog.lift
  iapply (Rounds.wp_send_pointsTo 𝒱₀ ER (sched part) (c : Thread nD τ) none (c' := (dst d c : Thread nD τ))
      (src := flitRef (lane d).acc (par k) f) (dst := flitRef (lane d).rcv (par k) f)
      (sS := .dma (flitSem (lane d).ss (par k) f)) (sem := .dma (flitSem (lane d).rs (par k) f)) (q := fullShare)
      (fs := gs) (κ₁ := K (cell c (.sent d (par k) f))) (κ₂ := K (cell (dst d c) (.landed d (par k) f)))
      (r₁ := k / 2) (r₂ := k / 2) (d₁ := 0) (d₂ := 0) (fd := gd)
      (by rw [show ((c : Thread nD τ), SemLoc.dma (flitSem (lane d).ss (par k) f)) = cell c (.sent d (par k) f) from rfl,
            duties_sent part c hk]; exact Finset.mem_singleton_self _)
      (by rw [show ((dst d c : Thread nD τ), SemLoc.dma (flitSem (lane d).rs (par k) f)) = cell (dst d c) (.landed d (par k) f) from rfl,
            duties_landed part (dst d c) hk]; exact Finset.mem_singleton_self _)
      k 0 N (credit_rcv d (par k) f) (amount_cell part c (.sent d (par k) f) _ _) (amount_cell part (dst d c) (.landed d (par k) f) _ _)
      O rfl (W := W)
      (by
        rw [show (sched part).payload ((c : Thread nD τ), SemLoc.dma (flitSem (lane d).ss (par k) f)) (k / 2) 0 = _
          from payload_sent part c d f k 0]
        unfold Held owns
        rw [flitRef_set]
        iintro H
        iexists gs
        isplitr; · ipureintro; exact hgs
        iexact H)
      (by
        rw [show (sched part).payload ((dst d c : Thread nD τ), SemLoc.dma (flitSem (lane d).rs (par k) f)) (k / 2) 0 = _
          from payload_landed part (dst d c) d f k 0]
        unfold Held owns
        rw [flitRef_set, src_dst]
        iintro H
        iexists _
        isplitr
        · ipureintro; exact (read_landed (lane d).acc (lane d).rcv (par k) f gs gd).trans hgs
        iexact H)) $$ [HO Hs Hd Ht1 Hr1 Ht2 Hr2]
  · isplitr; · iapply (known_cell part K Ks c (.sent d (par k) f)); iexact HK
    isplitr; · iapply (known_cell part K Ks (dst d c) (.landed d (par k) f)); iexact HK
    isplitl [Hs]; · rw [flitRef_set]; iexact Hs
    isplitl [Hd]; · rw [flitRef_set]; iexact Hd
    isplitl [HO]; · iexact HO
    isplitl [Ht1]; · iexact Ht1
    isplitl [Hr1]; · iexact Hr1
    isplitl [Ht2]; · iexact Ht2
    iexact Hr2
  iintro ⟨Hc, HO⟩
  iapply (runs_pure c)
  iapply Hk
  isplitl [HO]; · iexists _; iexact HO
  iexact Hc

/-- Paying a regular cell one duty: credit or barrier. -/
theorem runs_signal (c c' : Dev nD) (sem : Sem sig) (x : Role) (hx : x.sem = .reg sem) (r u i : ℕ)
    (hu : u ∈ dutiesOf (some x) r) (ha : amountOf (some x) = 1) (O : CellTallies nD τ sig ℕ) (Q : PUnit → sProp 𝕄) :
    iprop(Known part K Ks ∗ Owes c (O + tallyAt (cell c' x) i 1) ∗ Tok c' x r u ∗ payloadOf part c' (some x) r u ∗ Begun c' x r)
      ⊢ iprop((Owes c O -∗ Q ⟨⟩) -∗ Runs c (semSignalWord c' sem 1#32) Q) := by
  unfold Owes
  iintro ⟨#HK, ⟨%W, HO⟩, Ht, Hp, Hr⟩ Hk
  unfold semSignalWord
  iapply (Rounds.wp_signal 𝒱₀ ER (sched part) (c : Thread nD τ) none (dst := (c' : Thread nD τ)) (sem := sem) (r := r) (d := u)
      (κ := K (cell c' x)) (k' := 1)
      (by rw [← hx]; rw [duties_cell]; exact hu) (by rw [← hx]; exact (amount_cell part c' x r u).trans ha) i O (by rw [← hx]) (W := W))
    $$ [HO Ht Hp Hr]
  · rw [← hx]
    isplitr; · iapply (known_cell part K Ks c' x); iexact HK
    isplitl [HO]; · iexact HO
    isplitl [Ht]; · iexact Ht
    isplitl [Hp]; · rw [payload_cell]; iexact Hp
    iexact Hr
  iintro HO
  iapply (runs_pure c)
  iapply Hk
  iexists _; iexact HO

/-- Both neighbours have started. -/
theorem runs_waitBar (c : Dev nD) {O : CellTallies nD τ sig ℕ} (hO : Above 1 O) (Q : PUnit → sProp 𝕄) :
    iprop(Known part K Ks ∗ Owes c O ∗ Due c .bar 0 2 ∗ At c .bar 0)
      ⊢ iprop((Owes c O ∗ At c .bar 1
            ∗ (Avail (dst 0 c) 0 0 ∗ Begun (dst 0 c) (.credit 1) 0) ∗ (Avail (dst 1 c) 1 0 ∗ Begun (dst 1 c) (.credit 0) 0) -∗ Q ⟨⟩)
          -∗ Runs c (semWaitWord barS 2#32) Q) := by
  unfold Owes
  iintro ⟨#HK, ⟨%W, HO⟩, Hc, Hat⟩ Hk
  unfold semWaitWord
  iapply (Rounds.wp_wait_rest_token 𝒱₀ ER (sched part) (c : Thread nD τ) none (κ := K (cell c .bar)) (k' := 2)
      (wpE_semWait_eq 𝒱₀ (c : Thread nD τ) none Set.univ) (Set.mem_univ _) 0 (O := O) (W := W) (R := 0) (m := 0) (T := ∅)
      ((Nat.zero_add 2).trans (expect_bar part c).symm)) $$ [HO Hc Hat]
  · isplitr; · iapply (known_cell part K Ks c .bar); iexact HK
    isplitl [Hc]; · iexact Hc
    isplitl [HO]; · iexact HO
    isplitr; · iapply (known_mayWait part K Ks c .bar 0 (by omega) rfl hO); iexact HK
    iexact Hat
  iintro ⟨HO, Hat, -, Hp⟩
  iapply (runs_pure c)
  iapply Hk
  isplitl [HO]; · iexists _; iexact HO
  isplitl [Hat]; · iexact Hat
  iapply (Entails.of_eq (rest_bar part c)); iexact Hp

/-! ## Credits -/

/-- Where a device stands on a lane's credits after `m` waits: some `m` or more of the payments are
    known of, unless it was the last wait. -/
def Credits (c : Dev nD) (d : Fin 2) (m : ℕ) : sProp 𝕄 :=
  iprop(bigSep (Finset.Ico m 29) (fun j => Due c (.credit d) j 1)
    ∗ if m = 29 then At c (.credit d) 1
      else iprop(∃ T : Finset ℕ, ⌜T ⊆ Finset.range 29⌝ ∗ atPos ER (cell c (.credit d)) 0 T m
        ∗ bigSep T (fun j => Avail (dst d c) d (j + 1))))

/-- `m + 1` distinct payments include one of number `m` or later. -/
theorem exists_ge_of_card {S : Finset ℕ} {m : ℕ} (h : m < S.card) : ∃ j ∈ S, m ≤ j := by
  by_contra hn
  have : S ⊆ Finset.range m := fun j hj => by
    rw [Finset.mem_range]
    by_contra hj'
    exact hn ⟨j, hj, Nat.le_of_not_lt hj'⟩
  exact absurd (Finset.card_le_card this) (by rw [Finset.card_range]; omega)

/-- A credit: the receiver has released its slots up to the next two copies. -/
theorem runs_waitCredit (c : Dev nD) (d : Fin 2) (m : ℕ) (hm : m < 29) {O : CellTallies nD τ sig ℕ}
    (hO : Above (2 * m + 5) O) (Q : PUnit → sProp 𝕄) :
    iprop(Known part K Ks ∗ Owes c O ∗ Credits c d m)
      ⊢ iprop((Owes c O ∗ Credits c d (m + 1) ∗ Avail (dst d c) d (m + 1) -∗ Q ⟨⟩)
          -∗ Runs c (semWaitWord (lane d).cr.sem 1#32) Q) := by
  unfold Owes Credits
  rw [if_neg (by omega : ¬ m = 29), Idealize.SL.BI.bigSep_Ico_succ_bot hm]
  iintro ⟨#HK, ⟨%W, HO⟩, ⟨Hc, Hcs⟩, %T, %hT, Hat, #HT⟩ Hk
  unfold semWaitWord
  rcases Nat.lt_or_ge m 28 with h28 | h28
  · -- some wait before the last: the payments seen number at least `m + 1`
    iapply (Rounds.wp_wait 𝒱₀ ER (sched part) (c : Thread nD τ) none (κ := K (cell c (.credit d))) (k' := 1)
        (wpE_semWait_eq 𝒱₀ (c : Thread nD τ) none Set.univ) (Set.mem_univ _) {((Role.credit d).sem, m)} (cr := Finsupp.single m 1)
        (O := O) (W := W) (R := 0) (m := m) (T := T)
        (Util.total_single ..) (image_single_subset (Role.credit d).sem m 1)) $$ [HO Hc Hat]
    · isplitr; · iapply (known_cell part K Ks c (.credit d)); iexact HK
      isplitl [Hc]; · iexact Hc
      isplitl [HO]; · iexact HO
      isplitr; · iapply (known_mayWait part K Ks c (.credit d) m (by omega) rfl hO); iexact HK
      iexact Hat
    iintro %S ⟨%hS, HO, Hat, Hp⟩
    obtain ⟨hTS, hSD, hle⟩ := hS
    rw [show ((c : Thread nD τ), SemLoc.reg (lane d).cr.sem) = cell c (.credit d) from rfl] at hSD hle
    rw [duties_credit] at hSD hle
    rw [expect_credit, Finset.card_sdiff_of_subset hSD, Finset.card_range] at hle
    have hcard : m < S.card := by
      have := Finset.card_le_card hSD
      rw [Finset.card_range] at this
      omega
    obtain ⟨j, hj, hmj⟩ := exists_ge_of_card hcard
    have hall : iprop(bigSep T (fun j => Avail (dst d c) d (j + 1))
        ∗ bigSep (S \ T) (fun u => (sched part).payload (cell c (.credit d)) 0 u))
        ⊢ (bigSep S (fun j => Avail (dst d c) d (j + 1)) : sProp 𝕄) := by
      rw [bigSep_congr (fun u _ => payload_credit part c d u)]
      exact Entails.of_eq ((bigSep_union Finset.disjoint_sdiff).symm.trans (by rw [Finset.union_sdiff_of_subset hTS]))
    ihave #HS := hall $$ [HT Hp]
    · isplitr; · iexact HT
      iexact Hp
    iapply (runs_pure c)
    iapply Hk
    isplitl [HO]; · iexists _; iexact HO
    isplitl [Hcs Hat]
    · isplitl [Hcs]; · iexact Hcs
      rw [if_neg (by omega : ¬ m + 1 = 29)]
      iexists S
      isplitr; · ipureintro; exact hSD
      isplitl [Hat]; · iexact Hat
      iexact HS
    have hone : (bigSep S (fun j => Avail (dst d c) d (j + 1)) : sProp 𝕄) ⊢ Avail (dst d c) d (j + 1) := bigSep_elim hj
    iapply (hone.trans (avail_mono (F := F) (dst d c) d (Nat.succ_le_succ hmj)))
    iexact HS
  · -- the last wait takes every payment
    obtain rfl : m = 28 := by omega
    iapply (Rounds.wp_wait_rest_token 𝒱₀ ER (sched part) (c : Thread nD τ) none (κ := K (cell c (.credit d))) (k' := 1)
        (wpE_semWait_eq 𝒱₀ (c : Thread nD τ) none Set.univ) (Set.mem_univ _) 28 (O := O) (W := W) (R := 0) (m := 28) (T := T)
        (expect_credit part c d).symm) $$ [HO Hc Hat]
    · isplitr; · iapply (known_cell part K Ks c (.credit d)); iexact HK
      isplitl [Hc]; · iexact Hc
      isplitl [HO]; · iexact HO
      isplitr; · iapply (known_mayWait part K Ks c (.credit d) 28 (by omega) rfl hO); iexact HK
      iexact Hat
    iintro ⟨HO, Hat, -, Hp⟩
    have hall : iprop(bigSep T (fun j => Avail (dst d c) d (j + 1))
        ∗ bigSep ((sched part).duties (cell c (.credit d)) 0 \ T) (fun u => (sched part).payload (cell c (.credit d)) 0 u))
        ⊢ (bigSep (Finset.range 29) (fun j => Avail (dst d c) d (j + 1)) : sProp 𝕄) := by
      rw [bigSep_congr (fun u _ => payload_credit part c d u), duties_credit]
      exact Entails.of_eq ((bigSep_union Finset.disjoint_sdiff).symm.trans (by rw [Finset.union_sdiff_of_subset hT]))
    ihave #HS := hall $$ [HT Hp]
    · isplitr; · iexact HT
      iexact Hp
    iapply (runs_pure c)
    iapply Hk
    isplitl [HO]; · iexists _; iexact HO
    isplitl [Hcs Hat]
    · isplitl [Hcs]; · iexact Hcs
      rw [if_pos rfl]
      iexact Hat
    have hone : (bigSep (Finset.range 29) (fun j => Avail (dst d c) d (j + 1)) : sProp 𝕄) ⊢ Avail (dst d c) d (28 + 1) :=
      bigSep_elim (Finset.mem_range.mpr (by omega : 28 < 29))
    iapply hone; iexact HS

end Cert.KernelIdeal.Ring
-- ==== Proof.Flit.lean ====
/-
  One flit of one hop: what a device holds of a flit before and after it.

  Of each flit a device keeps at most two copies in flight. Before hop `h` copy `h` has been started,
  copy `h - 1` (which uses the slot of copy `h + 1`) may still be read out, and copy `h` of the feeder
  is about to land. The hop waits for the landing, takes back the older slot, adds, and starts
  copy `h + 1`.
-/
module

public import proofs.«01_k».proof.Proof.Ops

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type}

local notation "𝕄" => MT nD τ sig ℕ (Elt F) ℕ UU ℕ

/-! ## The partial sums -/

/-- Flit `f` of a product, as a slot holds it. -/
def cut (f : Fin 2) (p : IVec S128x1024 32) : FlitVec F :=
  (shapeCast S1x128x512 (extractStridedSlice S128x512 ![0, 512 * f.val] p (slices_flit f))
    shapeCasts_S128x512_S1x128x512 : IVec S1x128x512 32)

/-- The partial sum that lane `d` of device `c` sends as copy `k`, flit `f`, from the products of the
    devices: its first product, and from then on what arrived plus its next product. -/
def partOf (pv : Fin 2 → Dev nD → ℕ → IVec S128x1024 32) (d : Fin 2) : Dev nD → Fin 2 → ℕ → FlitVec F
  | c, f, 0 => cut f (pv d c 0)
  | c, f, k + 1 =>
    (shapeCast S1x128x512 (added (F := F) f (pv d c (k + 1)) (partOf pv d (src d c) f k))
      shapeCasts_S128x512_S1x128x512 : IVec S1x128x512 32)

variable (pv : Fin 2 → Dev nD → ℕ → IVec S128x1024 32) (K : GSem nD τ sig → ℕ) (Ks : Dev nD × Fin 2 × Fin 2 → ℕ)

/-! ## What a device holds of a flit -/

/-- Copy `k` of a flit has been started, and may still be read out. -/
def Flying (c : Dev nD) (d f : Fin 2) (k : ℕ) : sProp 𝕄 :=
  iprop(Due c (.sent d (par k) f) 0 N ∗ At c (.sent d (par k) f) (k / 2))

/-- The slot of copy `h + 1`: at first free, then in copy `h - 1`. -/
def Back (c : Dev nD) (d f : Fin 2) : ℕ → sProp 𝕄
  | 0 => iprop((∃ v, Held c (lane d).acc (par 1) f v) ∗ At c (.sent d (par 1) f) 0 ∗ Begun c (.sent d (par 1) f) 0)
  | k + 1 => Flying c d f k

/-- Where a device stands on the cells of copy `k`'s landing. -/
abbrev Landing (c : Dev nD) (d f : Fin 2) (k : ℕ) : sProp 𝕄 := At c (.landed d (par k) f) (k / 2)

/-- What is yet to land from copy `h` on. -/
def Coming (c : Dev nD) (d f : Fin 2) (h : ℕ) : sProp 𝕄 :=
  bigSep (Finset.Ico h 31) (fun k => Due c (.landed d (par k) f) k N)

/-- The rights to start the copies from `h` on. -/
def Rights (c : Dev nD) (d f : Fin 2) (h : ℕ) : sProp 𝕄 :=
  bigSep (Finset.Ico h 31) (fun k => iprop(Tok c (.sent d (par k) f) (k / 2) 0 ∗ Tok (dst d c) (.landed d (par k) f) (k / 2) 0))

/-- All a device holds of a flit before hop `h`. -/
def FlitAt (c : Dev nD) (d f : Fin 2) (h : ℕ) : sProp 𝕄 :=
  iprop(Back c d f h ∗ Flying c d f h ∗ Landing c d f h ∗ Landing c d f (h + 1) ∗ Coming c d f h ∗ Rights c d f (h + 1))

/-- A flit that has landed and been read: it may be given back. -/
def Got (c : Dev nD) (d f : Fin 2) (h : ℕ) : sProp 𝕄 :=
  iprop((∃ v, Held c (lane d).rcv (par h) f v) ∗ Begun c (.landed d (par h) f) (h / 2 + 1))

/-- The rights to take the landing slots of the next device for the copies from `h` on. -/
def Takes (c : Dev nD) (d : Fin 2) (h : ℕ) : sProp 𝕄 :=
  bigSep (Finset.Ico h 31) (fun k => writeTok ES (dst d c, d, par k) (k / 2 + 1))

/-- Where a lane stands on its credits before hop `h`: at first all are to come, and the meeting has
    told that the first two slots are free. -/
def Paid (c : Dev nD) (d : Fin 2) : ℕ → sProp 𝕄
  | 0 => iprop(Credits c d 0 ∗ Avail (dst d c) d 0)
  | h + 1 => Credits c d h

/-- The second flit's half of the next device's slot, taken with the first's. -/
def Spare (c : Dev nD) (d : Fin 2) (k : ℕ) : sProp 𝕄 :=
  iprop((∃ v, Held (dst d c) (lane d).rcv (par k) 1 v) ∗ Begun (dst d c) (.landed d (par k) 1) (k / 2))

theorem half_add_two (k : ℕ) : (k + 2) / 2 = k / 2 + 1 := Nat.add_div_right k Nat.two_pos

theorem landing_two (c : Dev nD) (d f : Fin 2) (k : ℕ) :
    (At c (.landed d (par k) f) (k / 2 + 1) : sProp 𝕄) = Landing c d f (k + 2) := by
  unfold Landing; rw [par_add_two, half_add_two]

theorem flying_back (c : Dev nD) (d f : Fin 2) (k : ℕ) : Flying c d f k ⊢ (Back c d f (k + 1) : sProp 𝕄) :=
  Entails.of_eq rfl

theorem coming_succ (c : Dev nD) (d f : Fin 2) {h : ℕ} (hh : h < 31) :
    (Coming c d f h : sProp 𝕄) = iprop(Due c (.landed d (par h) f) h N ∗ Coming c d f (h + 1)) := by
  unfold Coming; exact Idealize.SL.BI.bigSep_Ico_succ_bot hh _

theorem rights_succ (c : Dev nD) (d f : Fin 2) {h : ℕ} (hh : h < 31) :
    (Rights c d f h : sProp 𝕄)
      = iprop((Tok c (.sent d (par h) f) (h / 2) 0 ∗ Tok (dst d c) (.landed d (par h) f) (h / 2) 0) ∗ Rights c d f (h + 1)) := by
  unfold Rights; exact Idealize.SL.BI.bigSep_Ico_succ_bot hh _

theorem takes_succ (c : Dev nD) (d : Fin 2) {h : ℕ} (hh : h < 31) :
    (Takes c d h : sProp 𝕄) = iprop(writeTok ES (dst d c, d, par h) (h / 2 + 1) ∗ Takes c d (h + 1)) := by
  unfold Takes; exact Idealize.SL.BI.bigSep_Ico_succ_bot hh _

variable [FloatOps F]

/-! ## The pieces -/

/-- The wait for the older copy of one's own: none at the first hop. -/
def older (A : Lane) (h : ℕ) (f : Fin 2) : Prog (TpuEff nD τ sig (Elt F) Λ₀ .tc) PUnit :=
  if h = 0 then pure ⟨⟩ else waitSent A (h + 1) f

/-- The wait for a credit: of the first flit, and none at the first hop. -/
def paid (A : Lane) (h : ℕ) (f : Fin 2) : Prog (TpuEff nD τ sig (Elt F) Λ₀ .tc) PUnit :=
  if f = 0 then (if h = 0 then pure ⟨⟩ else semWaitWord A.cr.sem 1#32) else pure ⟨⟩

/-- A flit lands and is read. -/
theorem runs_arrive (c : Dev nD) (d f : Fin 2) (h : ℕ) (hh : h < 31) {O : CellTallies nD τ sig ℕ}
    (hO : Above (2 * h + 4) O) (Q : FlitVec F → sProp 𝕄) :
    iprop(Known (partOf pv) K Ks ∗ Owes c O ∗ Landing c d f h ∗ Coming c d f h)
      ⊢ iprop((Owes c O ∗ Landing c d f (h + 2) ∗ Coming c d f (h + 1) ∗ Got c d f h -∗ Q (partOf pv d (src d c) f h))
          -∗ Runs c (waitLanded (lane d) h f >>= fun _ => loadFlit (lane d).rcv (par h) f) Q) := by
  rw [coming_succ c d f hh, ← landing_two c d f h]
  iintro ⟨#HK, HO, Hat, Hc, Hcs⟩ Hk
  iapply (runs_bind c)
  iapply (runs_waitLanded (partOf pv) K Ks c d f h hh hO) $$ [HO Hat Hc]
  · isplitr; · iexact HK
    isplitl [HO]; · iexact HO
    isplitl [Hc]; · iexact Hc
    iexact Hat
  iintro ⟨HO, Hat, Hr, Hv⟩
  iapply (runs_loadFlit c (lane d).rcv (par h) f (partOf pv d (src d c) f h)) $$ Hv
  iintro Hv
  iapply Hk
  isplitl [HO]; · iexact HO
  isplitl [Hat]; · iexact Hat
  isplitl [Hcs]; · iexact Hcs
  unfold Got
  isplitl [Hv]; · iexists _; iexact Hv
  iexact Hr

/-- Taking the next device's landing slot for copy `k`. -/
theorem take_slot (c : Dev nD) (d : Fin 2) (k : ℕ) :
    iprop(Known (partOf pv) K Ks ∗ MaySend (dst d c) d k ∗ writeTok ES (dst d c, d, par k) (k / 2 + 1))
      ⊢ (|={Set.univ}=> ((∃ v, Held (dst d c) (lane d).rcv (par k) 0 v) ∗ Begun (dst d c) (.landed d (par k) 0) (k / 2)
          ∗ Spare c d k) : sProp 𝕄) := by
  unfold MaySend
  iintro ⟨#HK, ⟨Hrel, Hr0, Hr1⟩, Ht⟩
  imod (slot_take ES (k := (dst d c, d, par k)) (S := Slot (dst d c, d, par k)) (Set.mem_univ (Ks (dst d c, d, par k))) (k / 2 + 1))
    $$ [Hrel Ht] with HS
  · isplitr; · iapply (known_slot (partOf pv) K Ks (dst d c, d, par k)); iexact HK
    isplitl [Hrel]; · iexact Hrel
    iexact Ht
  unfold Slot Spare
  icases HS with ⟨H0, H1⟩
  imodintro
  isplitl [H0]; · iexact H0
  isplitl [Hr0]; · iexact Hr0
  isplitl [H1]; · iexact H1
  iexact Hr1

/-- The older slot comes back. -/
theorem runs_back (c : Dev nD) (d f : Fin 2) (h : ℕ) (hh : h < 31) {O : CellTallies nD τ sig ℕ}
    (hO : Above 0 O) (Q : PUnit → sProp 𝕄) :
    iprop(Known (partOf pv) K Ks ∗ Owes c O ∗ Flying c d f h)
      ⊢ iprop((Owes c O ∗ (∃ v, Held c (lane d).acc (par (h + 2)) f v) ∗ At c (.sent d (par (h + 2)) f) ((h + 2) / 2)
            ∗ Begun c (.sent d (par (h + 2)) f) ((h + 2) / 2) -∗ Q ⟨⟩)
          -∗ Runs c (waitSent (lane d) (h + 2) f) Q) := by
  have hw : (waitSent (lane d) (h + 2) f : Prog (TpuEff nD τ sig (Elt F) Λ₀ .tc) PUnit) = waitSent (lane d) h f := by
    exact congrArg (fun s : Fin 2 => (Prog.lift (.waitDma2 (flitSem (lane d).ss s f) (flitRef (lane d).rcv s f)
      (flitRef (lane d).acc s f) ((View.wordExact_bits rfl).reshape _ _) ((View.wordExact_bits rfl).reshape _ _)) :
        Prog (TpuEff nD τ sig (Elt F) Λ₀ .tc) PUnit)) (par_add_two h)
  rw [hw, par_add_two, half_add_two]
  unfold Flying
  iintro ⟨#HK, HO, Hc, Hat⟩ Hk
  iapply (runs_waitSent (partOf pv) K Ks c d f h hh hO) $$ [HO Hc Hat]
  · isplitr; · iexact HK
    isplitl [HO]; · iexact HO
    isplitl [Hc]; · iexact Hc
    iexact Hat
  iintro ⟨HO, Hat, Hr, Hv⟩
  iapply Hk
  isplitl [HO]; · iexact HO
  isplitl [Hv]; · iexists _; iexact Hv
  isplitl [Hat]; · iexact Hat
  iexact Hr

/-- Adding into a slot and sending it: the sum goes where the older copy was, and on. Between the two
    the lane may wait (`w`), for what `P` gives it. -/
theorem runs_forward (c : Dev nD) (d f : Fin 2) (h : ℕ) (hh : h + 1 < 31)
    (w : Prog (TpuEff nD τ sig (Elt F) Λ₀ .tc) PUnit) (P R : sProp 𝕄) (O : CellTallies nD τ sig ℕ)
    (hw : ∀ Q : PUnit → sProp 𝕄, P ⊢ iprop((R ∗ Owes c (O + dueSend c d f (h + 1))
        ∗ (∃ v, Held (dst d c) (lane d).rcv (par (h + 1)) f v)
        ∗ Begun (dst d c) (.landed d (par (h + 1)) f) ((h + 1) / 2) -∗ Q ⟨⟩) -∗ Runs c w Q))
    (hx) (hm) (Q : PUnit → sProp 𝕄) :
    iprop(Known (partOf pv) K Ks ∗ P ∗ (∃ v, Held c (lane d).acc (par (h + 1)) f v)
        ∗ At c (.sent d (par (h + 1)) f) ((h + 1) / 2) ∗ Begun c (.sent d (par (h + 1)) f) ((h + 1) / 2) ∗ Rights c d f (h + 1))
      ⊢ iprop((R ∗ Owes c O ∗ Flying c d f (h + 1) ∗ Rights c d f (h + 2) -∗ Q ⟨⟩)
          -∗ Runs c (do
            let _ ← loadFlit (F := F) (lane d).acc (par (h + 1)) f
            Prog.lift (.store (lane d).acc (flitRect (par (h + 1)) f)
              (shapeCast S1x128x512 (added (F := F) f (pv d c (h + 1)) (partOf pv d (src d c) f h)) shapeCasts_S128x512_S1x128x512 : IVec S1x128x512 32)
              Finset.univ hx hm)
            w
            send (lane d) (dst d c) (h + 1) f) Q) := by
  rw [rights_succ c d f hh]
  iintro ⟨#HK, HP, ⟨%v, Hv⟩, Hat, Hr, ⟨Ht1, Ht2⟩, HR⟩ Hk
  iapply (runs_bind c)
  iapply (runs_loadFlit c (lane d).acc (par (h + 1)) f v) $$ Hv
  iintro Hv
  iapply (runs_bind c)
  iapply (runs_storeFlit c (lane d).acc (par (h + 1)) f v (partOf pv d c f (h + 1)) hx hm) $$ Hv
  iintro Hv
  iapply (runs_bind c)
  iapply (hw _) $$ HP
  iintro ⟨HRr, HO, ⟨%u, Hu⟩, Hru⟩
  iapply (runs_send (partOf pv) K Ks c d f (h + 1) hh O u) $$ [HO Hv Hu Ht1 Hr Ht2 Hru]
  · isplitr; · iexact HK
    isplitl [HO]; · iexact HO
    isplitl [Hv]; · iexact Hv
    isplitl [Hu]; · iexact Hu
    isplitl [Ht1]; · iexact Ht1
    isplitl [Hr]; · iexact Hr
    isplitl [Ht2]; · iexact Ht2
    iexact Hru
  iintro ⟨HO, Hc⟩
  iapply Hk
  isplitl [HRr]; · iexact HRr
  isplitl [HO]; · iexact HO
  isplitl [Hc Hat]
  · unfold Flying
    isplitl [Hc]; · iexact Hc
    iexact Hat
  iexact HR

/-- The first flit waits for a credit, unless it is the first hop's, and takes the next device's slot. -/
theorem runs_takeCredit (c : Dev nD) (d : Fin 2) (h : ℕ) (hh : h + 1 < 31) {O : CellTallies nD τ sig ℕ}
    (hO : Above (2 * h + 4) O) (Q : PUnit → sProp 𝕄) :
    iprop(Known (partOf pv) K Ks ∗ Owes c O ∗ Paid c d h ∗ Takes c d (h + 1))
      ⊢ iprop(((Paid c d (h + 1) ∗ Takes c d (h + 2) ∗ Spare c d (h + 1)) ∗ Owes c O
          ∗ (∃ v, Held (dst d c) (lane d).rcv (par (h + 1)) 0 v)
          ∗ Begun (dst d c) (.landed d (par (h + 1)) 0) ((h + 1) / 2) -∗ Q ⟨⟩)
        -∗ Runs c (paid (lane d) h 0) Q) := by
  unfold paid
  rw [if_pos rfl]
  rw [takes_succ c d hh]
  cases h with
  | zero =>
    rw [if_pos rfl]
    unfold Paid Avail
    iintro ⟨#HK, HO, ⟨Hc, -, Hm⟩, Ht, Hts⟩ Hk
    imod (take_slot pv K Ks c d 1) $$ [Hm Ht] with ⟨H0, Hr0, HS⟩
    · isplitr; · iexact HK
      isplitl [Hm]; · iexact Hm
      iexact Ht
    iapply (runs_pure c)
    iapply Hk
    isplitl [Hc Hts HS]
    · isplitl [Hc]; · iexact Hc
      isplitl [Hts]; · iexact Hts
      iexact HS
    isplitl [HO]; · iexact HO
    isplitl [H0]; · iexact H0
    iexact Hr0
  | succ m =>
    rw [if_neg (Nat.succ_ne_zero m)]
    unfold Paid
    iintro ⟨#HK, HO, Hc, Ht, Hts⟩ Hk
    iapply (runs_fupd c)
    iapply (runs_waitCredit (partOf pv) K Ks c d m (by omega) (above_mono (by omega) hO)) $$ [HO Hc]
    · isplitr; · iexact HK
      isplitl [HO]; · iexact HO
      iexact Hc
    unfold Avail
    iintro ⟨HO, Hc, -, Hm⟩
    imod (take_slot pv K Ks c d (m + 1 + 1)) $$ [Hm Ht] with ⟨H0, Hr0, HS⟩
    · isplitr; · iexact HK
      isplitl [Hm]; · iexact Hm
      iexact Ht
    imodintro
    iapply Hk
    isplitl [Hc Hts HS]
    · isplitl [Hc]; · iexact Hc
      isplitl [Hts]; · iexact Hts
      iexact HS
    isplitl [HO]; · iexact HO
    isplitl [H0]; · iexact H0
    iexact Hr0

/-- The older slot is there: at the first hop from the start, later when its copy has been read out. -/
theorem runs_older (c : Dev nD) (d f : Fin 2) (h : ℕ) (hh : h < 31) {O : CellTallies nD τ sig ℕ}
    (hO : Above 0 O) (Q : PUnit → sProp 𝕄) :
    iprop(Known (partOf pv) K Ks ∗ Owes c O ∗ Back c d f h)
      ⊢ iprop((Owes c O ∗ (∃ v, Held c (lane d).acc (par (h + 1)) f v) ∗ At c (.sent d (par (h + 1)) f) ((h + 1) / 2)
            ∗ Begun c (.sent d (par (h + 1)) f) ((h + 1) / 2) -∗ Q ⟨⟩)
          -∗ Runs c (older (lane d) h f) Q) := by
  unfold older
  cases h with
  | zero =>
    rw [if_pos rfl]
    unfold Back
    iintro ⟨-, HO, Hv, Hat, Hr⟩ Hk
    iapply (runs_pure c)
    iapply Hk
    isplitl [HO]; · iexact HO
    isplitl [Hv]; · iexact Hv
    isplitl [Hat]; · iexact Hat
    iexact Hr
  | succ m =>
    rw [if_neg (Nat.succ_ne_zero m)]
    unfold Back
    exact runs_back pv K Ks c d f m (by omega) hO Q

/-- The body's text of a flit, its two waits told apart by the hop's number. -/
theorem flit_eq (A : Lane) (to' : Dev nD) (h : ℕ) (f : Fin 2) (p : IVec S128x1024 32) :
    (flit A to' (decide (h = 0)) h f p : Prog (TpuEff nD τ sig (Elt F) Λ₀ .tc) PUnit) = (do
      let r ← waitLanded A h f >>= fun _ => loadFlit A.rcv (par h) f
      older A h f
      let _ ← loadFlit (F := F) A.acc (par (h + 1)) f
      Prog.lift (.store A.acc (flitRect (par (h + 1)) f)
        (shapeCast S1x128x512 (added (F := F) f p r) shapeCasts_S128x512_S1x128x512 : IVec S1x128x512 32)
        Finset.univ (View.stores_vmem_bits_univ h_S1x128x512 rfl) (.inl rfl))
      paid A h f
      send A to' (h + 1) f) := by
  unfold flit
  rw [bind_assoc]
  cases h with
  | zero => match f with
    | 0 => rfl
    | 1 => rfl
  | succ m => match f with
    | 0 => rfl
    | 1 => rfl

/-- The first flit of hop `h`. -/
theorem runs_flit0 (c : Dev nD) (d : Fin 2) (h : ℕ) (hh : h + 1 < 31) (O : CellTallies nD τ sig ℕ)
    (hO : Above (2 * h + 4) O) (Q : PUnit → sProp 𝕄) :
    iprop(Known (partOf pv) K Ks ∗ Owes c (O + dueSend c d 0 (h + 1)) ∗ FlitAt c d 0 h ∗ Paid c d h ∗ Takes c d (h + 1))
      ⊢ iprop((Owes c O ∗ FlitAt c d 0 (h + 1) ∗ Got c d 0 h ∗ Paid c d (h + 1) ∗ Takes c d (h + 2) ∗ Spare c d (h + 1) -∗ Q ⟨⟩)
          -∗ Runs c (flit (lane d) (dst d c) (decide (h = 0)) h 0 (pv d c (h + 1))) Q) := by
  have hO' : Above (2 * h + 4) (O + dueSend c d 0 (h + 1)) := above_add hO (above_send c d 0 hh (by omega))
  rw [flit_eq]
  unfold FlitAt
  iintro ⟨#HK, HO, ⟨Hb, Hf, Hl, Hl1, Hc, HR⟩, HP, HT⟩ Hk
  iapply (runs_bind c)
  iapply (runs_arrive pv K Ks c d 0 h (by omega) hO') $$ [HO Hl Hc]
  · isplitr; · iexact HK
    isplitl [HO]; · iexact HO
    isplitl [Hl]; · iexact Hl
    iexact Hc
  iintro ⟨HO, Hl2, Hc, HG⟩
  iapply (runs_bind c)
  iapply (runs_older pv K Ks c d 0 h (by omega) (above_mono (Nat.zero_le _) hO')) $$ [HO Hb]
  · isplitr; · iexact HK
    isplitl [HO]; · iexact HO
    iexact Hb
  iintro ⟨HO, Hv, Hat, Hr⟩
  iapply (runs_forward pv K Ks c d 0 h hh _ _ _ O (runs_takeCredit pv K Ks c d h hh hO')) $$ [HO HP HT Hv Hat Hr HR]
  · isplitr; · iexact HK
    isplitl [HO HP HT]
    · isplitr; · iexact HK
      isplitl [HO]; · iexact HO
      isplitl [HP]; · iexact HP
      iexact HT
    isplitl [Hv]; · iexact Hv
    isplitl [Hat]; · iexact Hat
    isplitl [Hr]; · iexact Hr
    iexact HR
  iintro ⟨⟨HP, HT, HS⟩, HO, Hf1, HR⟩
  iapply Hk
  isplitl [HO]; · iexact HO
  isplitl [Hf Hl2 Hl1 Hc Hf1 HR]
  · isplitl [Hf]; · iapply (flying_back c d _ h); iexact Hf
    isplitl [Hf1]; · iexact Hf1
    isplitl [Hl1]; · iexact Hl1
    isplitl [Hl2]; · iexact Hl2
    isplitl [Hc]; · iexact Hc
    iexact HR
  isplitl [HG]; · iexact HG
  isplitl [HP]; · iexact HP
  isplitl [HT]; · iexact HT
  iexact HS

/-- The second flit of hop `h`: the next device's slot is already taken. -/
theorem runs_flit1 (c : Dev nD) (d : Fin 2) (h : ℕ) (hh : h + 1 < 31) (O : CellTallies nD τ sig ℕ)
    (hO : Above (2 * h + 4) O) (Q : PUnit → sProp 𝕄) :
    iprop(Known (partOf pv) K Ks ∗ Owes c (O + dueSend c d 1 (h + 1)) ∗ FlitAt c d 1 h ∗ Spare c d (h + 1))
      ⊢ iprop((Owes c O ∗ FlitAt c d 1 (h + 1) ∗ Got c d 1 h -∗ Q ⟨⟩)
          -∗ Runs c (flit (lane d) (dst d c) (decide (h = 0)) h 1 (pv d c (h + 1))) Q) := by
  have hO' : Above (2 * h + 4) (O + dueSend c d 1 (h + 1)) := above_add hO (above_send c d 1 hh (by omega))
  have hw (Q : PUnit → sProp 𝕄) : iprop(Owes c (O + dueSend c d 1 (h + 1)) ∗ Spare c d (h + 1))
      ⊢ iprop((emp ∗ Owes c (O + dueSend c d 1 (h + 1)) ∗ (∃ v, Held (dst d c) (lane d).rcv (par (h + 1)) 1 v)
          ∗ Begun (dst d c) (.landed d (par (h + 1)) 1) ((h + 1) / 2) -∗ Q ⟨⟩)
        -∗ Runs c (paid (lane d) h 1) Q) := by
    unfold paid
    rw [if_neg (by decide)]
    unfold Spare
    iintro ⟨HO, Hv, Hr⟩ Hk
    iapply (runs_pure c)
    iapply Hk
    isplitr; · iempintro
    isplitl [HO]; · iexact HO
    isplitl [Hv]; · iexact Hv
    iexact Hr
  rw [flit_eq]
  unfold FlitAt
  iintro ⟨#HK, HO, ⟨Hb, Hf, Hl, Hl1, Hc, HR⟩, HS⟩ Hk
  iapply (runs_bind c)
  iapply (runs_arrive pv K Ks c d 1 h (by omega) hO') $$ [HO Hl Hc]
  · isplitr; · iexact HK
    isplitl [HO]; · iexact HO
    isplitl [Hl]; · iexact Hl
    iexact Hc
  iintro ⟨HO, Hl2, Hc, HG⟩
  iapply (runs_bind c)
  iapply (runs_older pv K Ks c d 1 h (by omega) (above_mono (Nat.zero_le _) hO')) $$ [HO Hb]
  · isplitr; · iexact HK
    isplitl [HO]; · iexact HO
    iexact Hb
  iintro ⟨HO, Hv, Hat, Hr⟩
  iapply (runs_forward pv K Ks c d 1 h hh _ _ _ O hw) $$ [HO HS Hv Hat Hr HR]
  · isplitr; · iexact HK
    isplitl [HO HS]
    · isplitl [HO]; · iexact HO
      iexact HS
    isplitl [Hv]; · iexact Hv
    isplitl [Hat]; · iexact Hat
    isplitl [Hr]; · iexact Hr
    iexact HR
  iintro ⟨-, HO, Hf1, HR⟩
  iapply Hk
  isplitl [HO]; · iexact HO
  isplitl [Hf Hl2 Hl1 Hc Hf1 HR]
  · isplitl [Hf]; · iapply (flying_back c d _ h); iexact Hf
    isplitl [Hf1]; · iexact Hf1
    isplitl [Hl1]; · iexact Hl1
    isplitl [Hl2]; · iexact Hl2
    isplitl [Hc]; · iexact Hc
    iexact HR
  iexact HG

end Cert.KernelIdeal.Ring
-- ==== Proof.Inputs.lean ====
/-
  The operations on whole buffers: reading a number or a block of one, storing a block of one, and the
  product of a chunk of `x` with half of the columns of `w`.
-/
module

public import proofs.«01_k».proof.Proof.Flit

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type}

local notation "𝕄" => MT nD τ sig ℕ (Elt F) ℕ UU ℕ

variable [FloatOps F]

/-- A load of a block of an owned buffer reads that block. -/
theorem runs_loadBlock (c : Dev nD) {sh : Shape} {e : EltTy} (m : Memref sig .tc .vmem sh e)
    (r : Rect sh) (X : Vec F sh e) (hl) (Q : Vec F r.shape e → sProp 𝕄) :
    owns (c : Thread nD τ) m fullShare X
      ⊢ iprop((owns (c : Thread nD τ) m fullShare X -∗ Q (fun i => X (r.emb i)))
        -∗ Runs c (Prog.lift (.load m r.toLoadRect hl)) Q) := by
  unfold owns Prog.lift
  iintro ⟨%g, %hg, Hg⟩ Hk
  iapply (wp_load_rect 𝒱₀ (c : Thread nD τ) none Set.univ (m := m) (r := r)
    (S := m.view.set) (q := fullShare) (f := g) (View.set_slice_subset ..)) $$ Hg
  iintro Hg
  iapply (runs_pure c)
  rw [show (m.access r).read (Elt F) g = fun i => X (r.emb i) by
    rw [← hg]; rfl]
  iapply Hk
  iexists g
  isplitr; · ipureintro; exact hg
  iexact Hg

/-- A store to a block replaces the block. -/
theorem runs_storeBlock (c : Dev nD) {sh : Shape} {e : EltTy} (m : Memref sig .tc .vmem sh e)
    (r : Rect sh) (hr) (v w : Vec F r.shape e) (hx) (hm) (Q : PUnit → sProp 𝕄) :
    owns (c : Thread nD τ) (m.slice r hr) fullShare v
      ⊢ iprop((owns (c : Thread nD τ) (m.slice r hr) fullShare w -∗ Q ⟨⟩)
        -∗ Runs c (Prog.lift (.store m r w Finset.univ hx hm)) Q) := by
  unfold owns Prog.lift
  iintro ⟨%g, -, Hg⟩ Hk
  iapply (wp_store 𝒱₀ (c : Thread nD τ) none Set.univ (m := m) (r := r)
    (S := (m.slice r hr).view.set) (f := g) (Finset.Subset.refl _)) $$ Hg
  iintro Hg
  iapply (runs_pure c)
  iapply Hk
  iexists _
  isplitr
  · ipureintro; exact View.read_write_univ (v := (m.slice r hr).view) g w
  iexact Hg

/-- A load of a block held by itself. -/
theorem runs_loadPiece (c : Dev nD) {sh : Shape} {e : EltTy} (m : Memref sig .tc .vmem sh e)
    (r : Rect sh) (hr) (v : Vec F r.shape e) (hl) (Q : Vec F r.shape e → sProp 𝕄) :
    owns (c : Thread nD τ) (m.slice r hr) fullShare v
      ⊢ iprop((owns (c : Thread nD τ) (m.slice r hr) fullShare v -∗ Q v)
        -∗ Runs c (Prog.lift (.load m r.toLoadRect hl)) Q) := by
  unfold owns Prog.lift
  iintro ⟨%g, %hg, Hg⟩ Hk
  iapply (wp_load_rect 𝒱₀ (c : Thread nD τ) none Set.univ (m := m) (r := r)
    (S := (m.slice r hr).view.set) (q := fullShare) (f := g) (Finset.Subset.refl _)) $$ Hg
  iintro Hg
  iapply (runs_pure c)
  rw [show (m.access r).read (Elt F) g = v from hg]
  iapply Hk
  iexists g
  isplitr; · ipureintro; exact hg
  iexact Hg

/-- A number of an owned table. -/
theorem runs_number (c : Dev nD) {sh : Shape} {e : EltTy} (m : Memref sig .tc .smem sh e)
    (r : Rect sh) (h1 : r.shape.numel = 1) (hp) (X : Vec F sh e) (Q : Elt F e → sProp 𝕄) :
    owns (c : Thread nD τ) m fullShare X
      ⊢ iprop((owns (c : Thread nD τ) m fullShare X
          -∗ Q (X (r.emb (Shape.Idx.first (by rw [h1]; exact Nat.one_pos)))))
        -∗ Runs c (smemLoad m r h1 hp) Q) := by
  unfold owns smemLoad
  iintro ⟨%g, %hg, Hg⟩ Hk
  iapply (wp_smemLoadElt 𝒱₀ (c : Thread nD τ) none Set.univ (m := m) (r := r)
    (S := m.view.set) (q := fullShare) (f := g) (View.set_slice_subset ..)) $$ Hg
  iintro Hg
  iapply (runs_pure c)
  rw [show (m.access r).read (Elt F) g (Shape.Idx.first _) = X (r.emb (Shape.Idx.first _)) by
    rw [← hg]; rfl]
  iapply Hk
  iexists g
  isplitr; · ipureintro; exact hg
  iexact Hg

/-- An assumption that holds. -/
theorem runs_assume (c : Dev nD) {P : Prop} {dec : Decidable P} (h : P) (Q : PLift P → sProp 𝕄) :
    Q ⟨h⟩ ⊢ Runs c (Prog.lift (TpuEff.assume P dec)) Q := by
  unfold Prog.lift
  exact (runs_pure c (⟨h⟩ : PLift P) Q).trans (wp_assume 𝒱₀ (c : Thread nD τ) none Set.univ h)

/-! ## The products -/

theorem inb_chunk (r : Fin 32) :
    ∀ a, (![128 * r.val, 0] : Fin 2 → Nat) a + S128x128.size a ≤ S4096x128.size a := by
  revert r; decide

/-- The rows of chunk `r`. -/
abbrev chunkRect (r : Fin 32) : Rect S4096x128 :=
  Rect.unit (s := S4096x128) ![128 * r.val, 0] S128x128.size (inb_chunk r)

/-- The columns of half `d`. -/
abbrev halfRect (d : Fin 2) : Rect S128x2048 :=
  Rect.unit (s := S128x2048) ![0, 1024 * d.val] S128x1024.size (inb_half d)

/-- The number of a device, as a table holds it. -/
def word (r : Fin 32) : Elt F .i32 := BitVec.ofNat 32 r.val

theorem off_word (r : Fin 32) : k0_off1 (BitVec.ofNat 32 r.val) = ![128 * r.val, 0] := by
  revert r; decide

theorem chk_word (r : Fin 32) : k0_chk3 (BitVec.ofNat 32 r.val) := by
  unfold k0_chk3
  rw [off_word]
  exact inb_chunk r

/-- The product of chunk `r` of `x` with half `d` of `w`. -/
def prodOf (x : Vec F S4096x128 .i8) (w : Vec F S128x2048 .i8) (d : Fin 2) (r : Fin 32) : IVec S128x1024 32 :=
  k0_pay5 (F := F) (fun i => x ((chunkRect r).emb i)) (fun i => w ((halfRect d).emb i))

/-- The devices' inputs. -/
structure Ins (F : FTy → Type) where
  /-- `x`, by device. -/
  x : Dev nD → Vec F S4096x128 .i8
  /-- `w`, by device. -/
  w : Dev nD → Vec F S128x2048 .i8
  /-- The scales' product, by device. -/
  sc : Dev nD → F .f32

/-- The products of the lanes, by step. -/
def Ins.pv (I : Ins F) (d : Fin 2) (c : Dev nD) (k : ℕ) : IVec S128x1024 32 :=
  prodOf (I.x c) (I.w c) d (chunk d c (Fin.ofNat 32 k))

/-- The chunk table of lane `d` of device `c`. -/
def tabOf (d : Fin 2) (c : Dev nD) : Vec F S32 .i32 := fun i => word (F := F) (chunk d c (i 0))

/-- `x` and `w` as the body sees them. -/
abbrev xM : Memref sig .tc .vmem S4096x128 .i8 := Memref.whole cc0_stg3_0
/-- The weights. -/
abbrev wM : Memref sig .tc .vmem S128x2048 .i8 := Memref.whole cc0_stg4_0

/-- Device `c` holds the inputs of its products. -/
def Held4 (I : Ins F) (c : Dev nD) : sProp 𝕄 :=
  iprop(owns (c : Thread nD τ) (lane 0).tab fullShare (tabOf 0 c) ∗ owns (c : Thread nD τ) (lane 1).tab fullShare (tabOf 1 c)
    ∗ owns (c : Thread nD τ) xM fullShare (I.x c) ∗ owns (c : Thread nD τ) wM fullShare (I.w c))

/-- What a product does once its chunk number is known to be good. -/
def productOf (A : Lane) (x : Memref sig .tc .vmem S4096x128 .i8) (w : Memref sig .tc .vmem S128x2048 .i8)
    (v : Elt F .i32) (hw : PLift (k0_chk3 v)) : Prog (TpuEff nD τ sig (Elt F) Λ₀ .tc) (IVec S128x1024 32) := do
  let a : Vec F S128x128 .i8 ← Prog.lift (.load x (Rect.unit (s := S4096x128) (k0_off1 v) S128x128.size (k0_off1_inb v hw.down)).toLoadRect (View.loadsAt_vmem h_S128x128))
  let b : Vec F S128x1024 .i8 ← Prog.lift (.load w (Rect.unit (s := S128x2048) ![0, 1024 * A.half.val] S128x1024.size (inb_half A.half)).toLoadRect (View.loadsAt_vmem h_S128x1024))
  pure (k0_pay5 (F := F) a b)

theorem product_eq (A : Lane) (x : Memref sig .tc .vmem S4096x128 .i8) (w : Memref sig .tc .vmem S128x2048 .i8)
    (h : Fin 32) : (product A x w h : Prog (TpuEff nD τ sig (Elt F) Λ₀ .tc) (IVec S128x1024 32)) = (do
      let v : Elt F .i32 ← smemLoad A.tab (Rect.unit (s := S32) ![h.val] S1.size (inb_hop h)) numel1_S1 rfl
      let hw ← Prog.lift (TpuEff.assume (k0_chk3 v) (k0_chk3.dec v))
      productOf A x w v hw) := rfl

/-- A product reads the rows its table names. -/
theorem runs_productAt (c : Dev nD) (I : Ins F) (d : Fin 2) (k : Fin 32) (Q : IVec S128x1024 32 → sProp 𝕄) :
    iprop(owns (c : Thread nD τ) (lane d).tab fullShare (tabOf d c)
        ∗ owns (c : Thread nD τ) xM fullShare (I.x c) ∗ owns (c : Thread nD τ) wM fullShare (I.w c))
      ⊢ iprop((owns (c : Thread nD τ) (lane d).tab fullShare (tabOf d c)
          ∗ owns (c : Thread nD τ) xM fullShare (I.x c) ∗ owns (c : Thread nD τ) wM fullShare (I.w c)
          -∗ Q (prodOf (I.x c) (I.w c) d (chunk d c k)))
        -∗ Runs c (product (F := F) (lane d) xM wM k) Q) := by
  have hrd : ∀ h1, (tabOf d c : Vec F S32 .i32) ((Rect.unit (s := S32) ![k.val] S1.size (inb_hop k)).emb (Shape.Idx.first h1))
      = word (F := F) (chunk d c k) := fun h1 => by
    unfold tabOf
    congr 2
  have hrect (v : Elt F .i32) (hv : v = word (F := F) (chunk d c k)) (hw : k0_chk3 v) (Q' : Vec F S128x128 .i8 → sProp 𝕄) :
      owns (c : Thread nD τ) xM fullShare (I.x c)
        ⊢ iprop((owns (c : Thread nD τ) xM fullShare (I.x c) -∗ Q' (fun i => I.x c ((chunkRect (chunk d c k)).emb i)))
          -∗ Runs c (Prog.lift (.load xM (Rect.unit (s := S4096x128) (k0_off1 v) S128x128.size (k0_off1_inb v hw)).toLoadRect
              (View.loadsAt_vmem h_S128x128))) Q') := by
    subst hv
    have key : ∀ (o : Fin 2 → Nat) (ho : o = ![128 * (chunk d c k).val, 0])
        (hi : ∀ a, o a + S128x128.size a ≤ S4096x128.size a),
        owns (c : Thread nD τ) xM fullShare (I.x c)
        ⊢ iprop((owns (c : Thread nD τ) xM fullShare (I.x c) -∗ Q' (fun i => I.x c ((chunkRect (chunk d c k)).emb i)))
          -∗ Runs c (Prog.lift (.load xM (Rect.unit (s := S4096x128) o S128x128.size hi).toLoadRect
              (View.loadsAt_vmem h_S128x128))) Q') := by
      intro o ho hi
      subst ho
      exact runs_loadBlock c xM (chunkRect (chunk d c k)) (I.x c) _ Q'
    exact key _ (off_word _) _
  have hhalf (b : Fin 2) (hb : b = d) (Q' : Vec F S128x1024 .i8 → sProp 𝕄) :
      owns (c : Thread nD τ) wM fullShare (I.w c)
        ⊢ iprop((owns (c : Thread nD τ) wM fullShare (I.w c) -∗ Q' (fun i => I.w c ((halfRect d).emb i)))
          -∗ Runs c (Prog.lift (.load wM (Rect.unit (s := S128x2048) ![0, 1024 * b.val] S128x1024.size (inb_half b)).toLoadRect
              (View.loadsAt_vmem h_S128x1024))) Q') := by
    subst hb
    exact runs_loadBlock c wM (halfRect b) (I.w c) _ Q'
  rw [product_eq]
  unfold prodOf
  iintro ⟨Ht, Hx, Hw⟩ Hk
  iapply (runs_bind c)
  iapply (runs_number c (lane d).tab (Rect.unit (s := S32) ![k.val] S1.size (inb_hop k)) numel1_S1 rfl (tabOf d c)) $$ Ht
  iintro Ht
  rw [hrd]
  iapply (runs_bind c)
  have hass (Q : PLift (k0_chk3 (word (F := F) (chunk d c k))) → sProp 𝕄) :=
    runs_assume c (dec := k0_chk3.dec (word (F := F) (chunk d c k))) (chk_word (chunk d c k)) Q
  iapply (hass _)
  unfold productOf
  iapply (runs_bind c)
  iapply (hrect (word (F := F) (chunk d c k)) rfl (chk_word (chunk d c k)) _) $$ Hx
  iintro Hx
  iapply (runs_bind c)
  iapply (hhalf (lane d).half (lane_half d) _) $$ Hw
  iintro Hw
  iapply (runs_pure c)
  iapply Hk
  isplitl [Ht]; · iexact Ht
  isplitl [Hx]; · iexact Hx
  iexact Hw

/-- The product of step `k`. -/
theorem runs_product (c : Dev nD) (I : Ins F) (d : Fin 2) (k : Fin 32) (Q : IVec S128x1024 32 → sProp 𝕄) :
    Held4 I c ⊢ iprop((Held4 I c -∗ Q (I.pv d c k.val)) -∗ Runs c (product (F := F) (lane d) xM wM k) Q) := by
  have hk : I.pv d c k.val = prodOf (I.x c) (I.w c) d (chunk d c k) := by
    unfold Ins.pv
    rw [show Fin.ofNat 32 k.val = k from Fin.ext (Nat.mod_eq_of_lt k.isLt)]
  rw [hk]
  unfold Held4
  clear hk
  obtain rfl | rfl : d = 0 ∨ d = 1 := by revert d; decide
  · iintro ⟨H0, H1, Hx, Hw⟩ Hk
    iapply (runs_productAt c I 0 k Q) $$ [H0 Hx Hw]
    · isplitl [H0]; · iexact H0
      isplitl [Hx]; · iexact Hx
      iexact Hw
    iintro ⟨H0, Hx, Hw⟩
    iapply Hk
    isplitl [H0]; · iexact H0
    isplitl [H1]; · iexact H1
    isplitl [Hx]; · iexact Hx
    iexact Hw
  · iintro ⟨H0, H1, Hx, Hw⟩ Hk
    iapply (runs_productAt c I 1 k Q) $$ [H1 Hx Hw]
    · isplitl [H1]; · iexact H1
      isplitl [Hx]; · iexact Hx
      iexact Hw
    iintro ⟨H1, Hx, Hw⟩
    iapply Hk
    isplitl [H0]; · iexact H0
    isplitl [H1]; · iexact H1
    isplitl [Hx]; · iexact Hx
    iexact Hw

end Cert.KernelIdeal.Ring
-- ==== Proof.Hop.lean ====
/-
  One hop of the ring, its credits, and the hops in turn.
-/
module

public import proofs.«01_k».proof.Proof.Inputs

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type}

local notation "𝕄" => MT nD τ sig ℕ (Elt F) ℕ UU ℕ

/-- What a lane's copies stand at before hop `h`. -/
def Copies (c : Dev nD) (d : Fin 2) (h : ℕ) : sProp 𝕄 :=
  iprop(FlitAt c d 0 h ∗ FlitAt c d 1 h ∗ Paid c d h ∗ Takes c d (h + 1))

/-- What a lane pays its feeder with from hop `h` on: where it stands on its two landing slots, and
    the rights to pay. -/
def Pays (c : Dev nD) (d : Fin 2) (h : ℕ) : sProp 𝕄 :=
  iprop(readerAt ES (c, d, par h) (h / 2 + 1) ∗ readerAt ES (c, d, par (h + 1)) ((h + 1) / 2 + 1)
    ∗ MaySend c d (h + 1) ∗ bigSep (Finset.Ico h 29) (fun j => Tok (src d c) (.credit d) 0 j)
    ∗ Begun (src d c) (.credit d) 0)

/-- Both flits of a landing slot have been read. -/
def Read2 (c : Dev nD) (d : Fin 2) (h : ℕ) : sProp 𝕄 := iprop(Got c d 0 h ∗ Got c d 1 h)

variable (K : GSem nD τ sig → ℕ) (Ks : Dev nD × Fin 2 × Fin 2 → ℕ)

variable [FloatOps F]

/-- What everyone knows, of the devices' inputs. -/
abbrev KnownOf (I : Ins F) : sProp 𝕄 := Known (partOf I.pv) K Ks

/-- One hop of both lanes. -/
theorem runs_hop (I : Ins F) (c : Dev nD) (h : ℕ) (hh : h + 1 < 31) (O : CellTallies nD τ sig ℕ)
    (hO : Above (2 * h + 4) O) (Q : PUnit → sProp 𝕄) :
    iprop(KnownOf K Ks I ∗ Owes c (O + dueSends c (h + 1)) ∗ Held4 I c ∗ Copies c 0 h ∗ Copies c 1 h)
      ⊢ iprop((Owes c O ∗ Held4 I c ∗ (Copies c 0 (h + 1) ∗ Read2 c 0 h) ∗ (Copies c 1 (h + 1) ∗ Read2 c 1 h) -∗ Q ⟨⟩)
          -∗ Runs c (hop (F := F) (lane 0) (lane 1) (dst 1 c) (dst 0 c) xM wM (decide (h = 0)) h (by omega)) Q) := by
  have h11 : Above (2 * h + 4) (O + dueSend c 1 1 (h + 1)) := above_add hO (above_send c 1 1 hh (by omega))
  have h01 : Above (2 * h + 4) (O + dueSend c 1 1 (h + 1) + dueSend c 0 1 (h + 1)) :=
    above_add h11 (above_send c 0 1 hh (by omega))
  have h10 : Above (2 * h + 4) (O + dueSend c 1 1 (h + 1) + dueSend c 0 1 (h + 1) + dueSend c 1 0 (h + 1)) :=
    above_add h01 (above_send c 1 0 hh (by omega))
  rw [show O + dueSends c (h + 1)
    = O + dueSend c 1 1 (h + 1) + dueSend c 0 1 (h + 1) + dueSend c 1 0 (h + 1) + dueSend c 0 0 (h + 1) by
      unfold dueSends; simp only [add_assoc]]
  unfold hop Copies Read2
  iintro ⟨#HK, HO, HI, ⟨Ha0, Ha1, HaP, HaT⟩, ⟨Hb0, Hb1, HbP, HbT⟩⟩ Hk
  iapply (runs_bind c)
  iapply (runs_product c I 0 _) $$ HI
  iintro HI
  iapply (runs_bind c)
  iapply (runs_product c I 1 _) $$ HI
  iintro HI
  iapply (runs_bind c)
  iapply (runs_flit0 I.pv K Ks c 0 h hh _ h10) $$ [HO Ha0 HaP HaT]
  · isplitr; · iexact HK
    isplitl [HO]; · iexact HO
    isplitl [Ha0]; · iexact Ha0
    isplitl [HaP]; · iexact HaP
    iexact HaT
  iintro ⟨HO, Ha0, HaG0, HaP, HaT, HaS⟩
  iapply (runs_bind c)
  iapply (runs_flit0 I.pv K Ks c 1 h hh _ h01) $$ [HO Hb0 HbP HbT]
  · isplitr; · iexact HK
    isplitl [HO]; · iexact HO
    isplitl [Hb0]; · iexact Hb0
    isplitl [HbP]; · iexact HbP
    iexact HbT
  iintro ⟨HO, Hb0, HbG0, HbP, HbT, HbS⟩
  iapply (runs_bind c)
  iapply (runs_flit1 I.pv K Ks c 0 h hh _ h11) $$ [HO Ha1 HaS]
  · isplitr; · iexact HK
    isplitl [HO]; · iexact HO
    isplitl [Ha1]; · iexact Ha1
    iexact HaS
  iintro ⟨HO, Ha1, HaG1⟩
  iapply (runs_flit1 I.pv K Ks c 1 h hh _ hO) $$ [HO Hb1 HbS]
  · isplitr; · iexact HK
    isplitl [HO]; · iexact HO
    isplitl [Hb1]; · iexact Hb1
    iexact HbS
  iintro ⟨HO, Hb1, HbG1⟩
  iapply Hk
  isplitl [HO]; · iexact HO
  isplitl [HI]; · iexact HI
  isplitl [Ha0 Ha1 HaP HaT HaG0 HaG1]
  · isplitl [Ha0 Ha1 HaP HaT]
    · isplitl [Ha0]; · iexact Ha0
      isplitl [Ha1]; · iexact Ha1
      isplitl [HaP]; · iexact HaP
      iexact HaT
    isplitl [HaG0]; · iexact HaG0
    iexact HaG1
  isplitl [Hb0 Hb1 HbP HbT]
  · isplitl [Hb0]; · iexact Hb0
    isplitl [Hb1]; · iexact Hb1
    isplitl [HbP]; · iexact HbP
    iexact HbT
  isplitl [HbG0]; · iexact HbG0
  iexact HbG1

/-- A landing slot that has been read is released, for the copy two later. -/
theorem release (I : Ins F) (c : Dev nD) (d : Fin 2) (h : ℕ) :
    iprop(KnownOf K Ks I ∗ readerAt ES (c, d, par h) (h / 2 + 1) ∗ Read2 c d h)
      ⊢ (|={Set.univ}=> (readerAt ES (c, d, par (h + 2)) ((h + 2) / 2 + 1) ∗ MaySend c d (h + 2)) : sProp 𝕄) := by
  rw [half_add_two]
  unfold MaySend Read2 Got
  rw [par_add_two, half_add_two]
  iintro ⟨#HK, Hr, ⟨⟨H0, #Hb0⟩, ⟨H1, #Hb1⟩⟩⟩
  imod (slot_release ES (k := (c, d, par h)) (S := Slot (c, d, par h)) (Set.mem_univ (Ks (c, d, par h)))
    (slot_slot_false (c, d, par h)) (h / 2 + 1)) $$ [Hr H0 H1] with ⟨Hr, Hrel⟩
  · isplitr; · iapply (known_slot (partOf I.pv) K Ks (c, d, par h)); iexact HK
    isplitl [Hr]; · iexact Hr
    unfold Slot
    isplitl [H0]; · iexact H0
    iexact H1
  imodintro
  isplitl [Hr]; · iexact Hr
  isplitl [Hrel]; · iexact Hrel
  isplitr; · iexact Hb0
  iexact Hb1

/-- Paying the feeder of a lane its credit for hop `h`. -/
theorem runs_pay (I : Ins F) (c : Dev nD) (d : Fin 2) (h : ℕ) (hh : h < 29) (O : CellTallies nD τ sig ℕ)
    (Q : PUnit → sProp 𝕄) :
    iprop(KnownOf K Ks I ∗ Owes c (O + dueCredit c d h) ∗ Read2 c d h ∗ Pays c d h)
      ⊢ iprop((Owes c O ∗ Pays c d (h + 1) -∗ Q ⟨⟩)
          -∗ Runs c (semSignalWord (src d c) (lane d).cr.sem 1#32) Q) := by
  have hpay : (payloadOf (partOf I.pv) (src d c) (some (.credit d)) 0 h : sProp 𝕄) = Avail c d (h + 1) := by
    show Avail (dst d (src d c)) d (h + 1) = _
    rw [dst_src]
  unfold Pays
  rw [Idealize.SL.BI.bigSep_Ico_succ_bot hh]
  iintro ⟨#HK, HO, HG, ⟨Hr, Hr1, #Hm, ⟨Ht, Hts⟩, #Hb⟩⟩ Hk
  imod (release K Ks I c d h) $$ [Hr HG] with ⟨Hr, #Hm2⟩
  · isplitr; · iexact HK
    isplitl [Hr]; · iexact Hr
    iexact HG
  iapply (runs_signal (partOf I.pv) K Ks c (src d c) (lane d).cr.sem (.credit d) rfl 0 h h
    (Finset.mem_range.mpr hh) rfl O) $$ [HO Ht]
  · isplitr; · iexact HK
    isplitl [HO]; · iexact HO
    isplitl [Ht]; · iexact Ht
    isplitr
    · rw [hpay]
      unfold Avail
      isplitr; · iexact Hm
      iexact Hm2
    iexact Hb
  iintro HO
  iapply Hk
  isplitl [HO]; · iexact HO
  isplitl [Hr1]; · iexact Hr1
  isplitl [Hr]; · iexact Hr
  isplitr; · iexact Hm2
  isplitl [Hts]; · iexact Hts
  iexact Hb

/-- A lane before hop `h`. -/
def LaneAt (c : Dev nD) (d : Fin 2) (h : ℕ) : sProp 𝕄 := iprop(Copies c d h ∗ Pays c d h)

/-- The credits of hop `h`, to both feeders. -/
theorem runs_credit (I : Ins F) (c : Dev nD) (h : ℕ) (hh : h < 29) (O : CellTallies nD τ sig ℕ)
    (Q : PUnit → sProp 𝕄) :
    iprop(KnownOf K Ks I ∗ Owes c (O + dueCredits c h) ∗ (Read2 c 0 h ∗ Pays c 0 h) ∗ (Read2 c 1 h ∗ Pays c 1 h))
      ⊢ iprop((Owes c O ∗ Pays c 0 (h + 1) ∗ Pays c 1 (h + 1) -∗ Q ⟨⟩)
          -∗ Runs c (credit (F := F) (lane 0) (lane 1) (dst 1 c) (dst 0 c)) Q) := by
  have hl : dst 1 c = src 0 c := dst_rev 0 c
  have hr : dst 0 c = src 1 c := dst_rev 1 c
  rw [hl, hr, show O + dueCredits c h = O + dueCredit c 1 h + dueCredit c 0 h by unfold dueCredits; rw [add_assoc]]
  unfold credit
  iintro ⟨#HK, HO, ⟨HaR, HaP⟩, ⟨HbR, HbP⟩⟩ Hk
  iapply (runs_bind c)
  iapply (runs_pay K Ks I c 0 h hh _) $$ [HO HaR HaP]
  · isplitr; · iexact HK
    isplitl [HO]; · iexact HO
    isplitl [HaR]; · iexact HaR
    iexact HaP
  iintro ⟨HO, HaP⟩
  iapply (runs_pay K Ks I c 1 h hh _) $$ [HO HbR HbP]
  · isplitr; · iexact HK
    isplitl [HO]; · iexact HO
    isplitl [HbR]; · iexact HbR
    iexact HbP
  iintro ⟨HO, HbP⟩
  iapply Hk
  isplitl [HO]; · iexact HO
  isplitl [HaP]; · iexact HaP
  iexact HbP

/-- A hop and its credits: both lanes move on by one. -/
theorem runs_step (I : Ins F) (c : Dev nD) (h : ℕ) (hh : h < 29) (Q : PUnit → sProp 𝕄) :
    iprop(KnownOf K Ks I ∗ Owes c (dueFrom c h) ∗ Held4 I c ∗ LaneAt c 0 h ∗ LaneAt c 1 h)
      ⊢ iprop((Owes c (dueFrom c (h + 1)) ∗ Held4 I c ∗ LaneAt c 0 (h + 1) ∗ LaneAt c 1 (h + 1) -∗ Q ⟨⟩)
          -∗ Runs c (do
            hop (F := F) (lane 0) (lane 1) (dst 1 c) (dst 0 c) xM wM (decide (h = 0)) h (by omega)
            credit (F := F) (lane 0) (lane 1) (dst 1 c) (dst 0 c)) Q) := by
  have hO : Above (2 * h + 4) (dueFrom c (h + 1) + dueCredits c h) :=
    above_add (above_mono (by omega) (above_from c (h + 1))) (above_credits c hh (by omega))
  rw [dueFrom_hop c hh]
  unfold LaneAt
  iintro ⟨#HK, HO, HI, ⟨HaC, HaP⟩, ⟨HbC, HbP⟩⟩ Hk
  iapply (runs_bind c)
  iapply (runs_hop K Ks I c h (by omega) _ hO) $$ [HO HI HaC HbC]
  · isplitr; · iexact HK
    isplitl [HO]; · iexact HO
    isplitl [HI]; · iexact HI
    isplitl [HaC]; · iexact HaC
    iexact HbC
  iintro ⟨HO, HI, ⟨HaC, HaR⟩, ⟨HbC, HbR⟩⟩
  iapply (runs_credit K Ks I c h hh _) $$ [HO HaR HaP HbR HbP]
  · isplitr; · iexact HK
    isplitl [HO]; · iexact HO
    isplitl [HaR HaP]
    · isplitl [HaR]; · iexact HaR
      iexact HaP
    isplitl [HbR]; · iexact HbR
    iexact HbP
  iintro ⟨HO, HaP, HbP⟩
  iapply Hk
  isplitl [HO]; · iexact HO
  isplitl [HI]; · iexact HI
  isplitl [HaC HaP]
  · isplitl [HaC]; · iexact HaC
    iexact HaP
  isplitl [HbC]; · iexact HbC
  iexact HbP

/-- The hops from `h` on, `n` of them. -/
theorem runs_hops (I : Ins F) (c : Dev nD) (n : ℕ) : ∀ (h e : ℕ) (hh : n + h < 31) (_ : n + h = e) (_ : e ≤ 29) (_ : 0 < h) (Q : PUnit → sProp 𝕄),
    iprop(KnownOf K Ks I ∗ Owes c (dueFrom c h) ∗ Held4 I c ∗ LaneAt c 0 h ∗ LaneAt c 1 h)
      ⊢ iprop((Owes c (dueFrom c e) ∗ Held4 I c ∗ LaneAt c 0 e ∗ LaneAt c 1 e -∗ Q ⟨⟩)
          -∗ Runs c (hops (F := F) (lane 0) (lane 1) (dst 1 c) (dst 0 c) xM wM n h hh) Q) := by
  induction n with
  | zero =>
    intro h e hh he _ _ Q
    rw [Nat.zero_add] at he
    subst he
    unfold hops
    iintro ⟨-, HO, HI, Ha, Hb⟩ Hk
    iapply (runs_pure c)
    iapply Hk
    isplitl [HO]; · iexact HO
    isplitl [HI]; · iexact HI
    isplitl [Ha]; · iexact Ha
    iexact Hb
  | succ n ih =>
    intro h e hh he hn h0 Q
    have hstep := runs_step K Ks I c h (by omega)
    rw [decide_eq_false (by omega : ¬ h = 0)] at hstep
    have hrest := ih (h + 1) e (by omega) (by omega) hn (by omega)
    unfold hops
    rw [← bind_assoc]
    iintro ⟨#HK, HO, HI, Ha, Hb⟩ Hk
    iapply (runs_bind c)
    iapply (hstep _) $$ [HO HI Ha Hb]
    · isplitr; · iexact HK
      isplitl [HO]; · iexact HO
      isplitl [HI]; · iexact HI
      isplitl [Ha]; · iexact Ha
      iexact Hb
    iintro ⟨HO, HI, Ha, Hb⟩
    iapply (hrest _) $$ [HO HI Ha Hb]
    · isplitr; · iexact HK
      isplitl [HO]; · iexact HO
      isplitl [HI]; · iexact HI
      isplitl [Ha]; · iexact Ha
      iexact Hb
    iexact Hk

end Cert.KernelIdeal.Ring
-- ==== Proof.Start.lean ====
/-
  The beginning of the ring: meeting the neighbours, the first products, and the first copies.
-/
module

public import proofs.«01_k».proof.Proof.Hop
public import Idealize.ShloMosaic.Lib.ValueLayout

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.ValueIdx
open Cert.KernelIdeal.Gen

variable {F : FTy → Type}

local notation "𝕄" => MT nD τ sig ℕ (Elt F) ℕ UU ℕ

/-! ## The whole of slot 0 -/

/-- The elements of a block are where it places its own. -/
theorem mem_rect {s : Shape} {r : Rect s} {i : s.Idx} : i ∈ r.set ↔ ∃ x, r.emb x = i := by
  rw [← Rect.map_emb_univ, Finset.mem_map]
  exact ⟨fun ⟨x, _, h⟩ => ⟨x, h⟩, fun ⟨x, h⟩ => ⟨x, Finset.mem_univ x, h⟩⟩

/-- Slot 0 of a buffer. -/
abbrev slotRect : Rect S2x128x1024 :=
  Rect.unit (s := S2x128x1024) ![0, 0, 0] S1x128x1024.size inb_S2x128x1024_S1x128x1024_0_0_0

/-- Where an element of flit `f` lies in its slot. -/
def inSlot (f : Fin 2) (x : S1x128x512.Idx) : S1x128x1024.Idx :=
  ix3 (0 : Fin 1) (⟨(x 1).val, (x 1).isLt⟩ : Fin 128)
    (⟨512 * f.val + (x 2).val, by have h : (x 2).val < 512 := (x 2).isLt; have := f.isLt; omega⟩ : Fin 1024)

theorem slot_emb (f : Fin 2) (x : S1x128x512.Idx) : slotRect.emb (inSlot f x) = (flitRect 0 f).emb x := by
  funext a
  have h0 : (x 0).val = 0 := Nat.lt_one_iff.mp (x 0).isLt
  refine Fin.ext ?_
  match a with
  | ⟨0, _⟩ =>
    show 0 + 1 * 0 = 0 + 1 * (x 0).val
    rw [h0]
  | ⟨1, _⟩ =>
    show 0 + 1 * (x 1).val = 0 + 1 * (x 1).val
    rfl
  | ⟨2, _⟩ =>
    show 0 + 1 * (512 * f.val + (x 2).val) = 512 * f.val + 1 * (x 2).val
    omega

/-- Which flit an element of slot 0 lies in. -/
theorem slot_cover (y : S1x128x1024.Idx) : ∃ f x, inSlot f x = y := by
  have h0 : (y 0).val = 0 := Nat.lt_one_iff.mp (y 0).isLt
  have h2 : (y 2).val < 1024 := (y 2).isLt
  refine ⟨⟨(y 2).val / 512, by omega⟩, ix3 (0 : Fin 1) (⟨(y 1).val, (y 1).isLt⟩ : Fin 128) (⟨(y 2).val % 512, by omega⟩ : Fin 512), ?_⟩
  funext a
  refine Fin.ext ?_
  match a with
  | ⟨0, _⟩ => exact h0.symm
  | ⟨1, _⟩ => rfl
  | ⟨2, _⟩ =>
    show 512 * ((y 2).val / 512) + (y 2).val % 512 = (y 2).val
    omega

/-- A product as slot 0 holds it, at a flit: the flit's columns. -/
theorem cut_apply (f : Fin 2) (p : IVec S128x1024 32) (x : S1x128x512.Idx) :
    (shapeCast S1x128x1024 p shapeCasts_S128x1024_S1x128x1024 : IVec S1x128x1024 32) (inSlot f x) = cut (F := F) f p x := by
  obtain ⟨u, i, j, rfl⟩ : ∃ (u : Fin 1) (i : Fin 128) (j : Fin 512), x = ix3 u i j :=
    ⟨x 0, x 1, x 2, by funext a; match a with | ⟨0, _⟩ => rfl | ⟨1, _⟩ => rfl | ⟨2, _⟩ => rfl⟩
  unfold cut inSlot
  rw [shapeCast_ab_1ab_apply, shapeCast_ab_1ab_apply]
  unfold extractStridedSlice
  congr 1
  funext a
  refine Fin.ext ?_
  match a with
  | ⟨0, _⟩ =>
    show i.val = 0 + i.val
    omega
  | ⟨1, _⟩ => rfl

theorem flits_disjoint (m : Memref sig .tc .vmem S2x128x1024 .i32) :
    Disjoint (flitM m 0 0).view.set (flitM m 0 1).view.set := by
  rw [show (flitM m 0 0).view.set = (flitRect 0 0).set.map m.view.emb from View.set_slice ..,
    show (flitM m 0 1).view.set = (flitRect 0 1).set.map m.view.emb from View.set_slice ..,
    Finset.disjoint_map]
  refine Finset.disjoint_left.mpr fun i h0 h1 => ?_
  obtain ⟨x, rfl⟩ := mem_rect.mp h0
  obtain ⟨y, hy⟩ := mem_rect.mp h1
  have := congrArg (fun z : S2x128x1024.Idx => (z 2).val) hy
  have hx : (x 2).val < 512 := (x 2).isLt
  have h : 512 * 1 + 1 * (y 2).val = 512 * 0 + 1 * (x 2).val := this
  omega

theorem zero_or_one (f : Fin 2) : f = 0 ∨ f = 1 := by revert f; decide

theorem slot_subset (m : Memref sig .tc .vmem S2x128x1024 .i32) :
    (m.view.slice slotRect).set ⊆ (flitM m 0 0).view.set ∪ (flitM m 0 1).view.set := by
  intro i hi
  rw [View.set_slice] at hi
  obtain ⟨z, hz, rfl⟩ := Finset.mem_map.mp hi
  obtain ⟨y, rfl⟩ := mem_rect.mp hz
  obtain ⟨f, x, rfl⟩ := slot_cover y
  rw [slot_emb]
  have key : m.view.emb ((flitRect 0 f).emb x) ∈ (flitM m 0 f).view.set := by
    rw [show (flitM m 0 f).view.set = (flitRect 0 f).set.map m.view.emb from View.set_slice ..]
    exact Finset.mem_map_of_mem _ (mem_rect.mpr ⟨x, rfl⟩)
  obtain rfl | rfl := zero_or_one f
  · exact Finset.mem_union_left _ key
  · exact Finset.mem_union_right _ key

variable [FloatOps F]

/-- The load and store of a product into slot 0, as its two flits. -/
theorem runs_fillSlot (c : Dev nD) (m : Memref sig .tc .vmem S2x128x1024 .i32) (p : IVec S128x1024 32)
    (hl) (hx) (hm) (Q : PUnit → sProp 𝕄) :
    iprop((∃ v, Held c m 0 0 v) ∗ ∃ v, Held c m 0 1 v)
      ⊢ iprop((Held c m 0 0 (cut 0 p) ∗ Held c m 0 1 (cut 1 p) -∗ Q ⟨⟩)
        -∗ Runs c (do
          let _v : Vec F S1x128x1024 .i32 ← Prog.lift (.load m slotRect.toLoadRect hl)
          Prog.lift (.store m slotRect
            (shapeCast S1x128x1024 p shapeCasts_S128x1024_S1x128x1024 : IVec S1x128x1024 32) Finset.univ hx hm)) Q) := by
  have hread (f : Fin 2) (g : m.view.ty.Contents (Elt F)) :
      (flitM m 0 f).view.read (Elt F) ((m.access slotRect).write (Elt F) g
        (shapeCast S1x128x1024 p shapeCasts_S128x1024_S1x128x1024 : IVec S1x128x1024 32) Finset.univ) = cut f p := by
    funext x
    rw [← cut_apply]
    have h1 : ∀ G : m.view.ty.Contents (Elt F), (flitM m 0 f).view.read (Elt F) G x
        = (m.access slotRect).read (Elt F) G (inSlot f x) := fun G => by
      show m.view.read (Elt F) G ((flitRect 0 f).emb x) = m.view.read (Elt F) G (slotRect.emb (inSlot f x))
      rw [slot_emb]
    rw [h1]
    exact congrFun (View.read_write_univ (v := m.access slotRect) g _) (inSlot f x)
  unfold Held owns Prog.lift
  iintro ⟨⟨%v, %g, -, H0⟩, ⟨%w, %g', -, H1⟩⟩ Hk
  ihave H := (pointsTo_join (ℓ := m.view.loc (c : Thread nD τ)) (flits_disjoint m) (f := g) (g := g')) $$ [H0 H1]
  · isplitl [H0]; · iexact H0
    iexact H1
  iapply (runs_bind c)
  iapply (wp_load_rect 𝒱₀ (c : Thread nD τ) none Set.univ (m := m) (r := slotRect)
    (S := (flitM m 0 0).view.set ∪ (flitM m 0 1).view.set) (q := fullShare) (slot_subset m)) $$ H
  iintro H
  iapply (runs_pure c)
  iapply (wp_store 𝒱₀ (c : Thread nD τ) none Set.univ (m := m) (r := slotRect)
    (S := (flitM m 0 0).view.set ∪ (flitM m 0 1).view.set) ((Finset.Subset.trans (View.setOn_subset_set _ _) (slot_subset m)))) $$ H
  iintro H
  ihave ⟨H0, H1⟩ := ((pointsTo_union (ℓ := m.view.loc (c : Thread nD τ)) (q := fullShare) (flits_disjoint m)).1) $$ H
  iapply (runs_pure c)
  iapply Hk
  isplitl [H0]
  · iexists _
    isplitr; · ipureintro; exact hread 0 ((flitM m 0 1).view.set.piecewise g' g)
    iexact H0
  iexists _
  isplitr; · ipureintro; exact hread 1 ((flitM m 0 1).view.set.piecewise g' g)
  iexact H1

end Cert.KernelIdeal.Ring
-- ==== Proof.Begin.lean ====
/-
  From a device's fresh cells and buffers to the state before hop 0: releasing the landing slots,
  meeting the neighbours, the first products and the first copies.
-/
module

public import proofs.«01_k».proof.Proof.Start

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type}

local notation "𝕄" => MT nD τ sig ℕ (Elt F) ℕ UU ℕ

/-! ## Meeting -/

/-- What a device tells the neighbour that lane `d` receives from: its landing slots are free, and
    the credits of the other lane, which it is paid by that neighbour, have begun. -/
abbrev Ready (c : Dev nD) (d : Fin 2) : sProp 𝕄 := iprop(Avail c d 0 ∗ Begun c (.credit (1 - d)) 0)

variable (K : GSem nD τ sig → ℕ) (Ks : Dev nD × Fin 2 × Fin 2 → ℕ)

/-- Releasing a lane's two landing slots for the first two copies. -/
theorem release_first (part : Fin 2 → Dev nD → Fin 2 → ℕ → FlitVec F) (c : Dev nD) (d : Fin 2) :
    iprop(Known part K Ks ∗ (readerAt ES (c, d, par 0) 0 ∗ Slot (c, d, par 0)) ∗ (readerAt ES (c, d, par 1) 0 ∗ Slot (c, d, par 1))
        ∗ (Begun c (.landed d (par 0) 0) 0 ∗ Begun c (.landed d (par 0) 1) 0)
        ∗ (Begun c (.landed d (par 1) 0) 0 ∗ Begun c (.landed d (par 1) 1) 0))
      ⊢ (|={Set.univ}=> (readerAt ES (c, d, par 0) 1 ∗ readerAt ES (c, d, par 1) 1 ∗ Avail c d 0) : sProp 𝕄) := by
  unfold Avail MaySend
  iintro ⟨#HK, ⟨Hr0, HS0⟩, ⟨Hr1, HS1⟩, ⟨Hb00, Hb01⟩, ⟨Hb10, Hb11⟩⟩
  imod (slot_release ES (k := (c, d, par 0)) (S := Slot (c, d, par 0)) (Set.mem_univ (Ks (c, d, par 0)))
    (slot_slot_false (c, d, par 0)) 0) $$ [Hr0 HS0] with ⟨Hr0, Hrel0⟩
  · isplitr; · iapply (known_slot part K Ks (c, d, par 0)); iexact HK
    isplitl [Hr0]; · iexact Hr0
    iexact HS0
  imod (slot_release ES (k := (c, d, par 1)) (S := Slot (c, d, par 1)) (Set.mem_univ (Ks (c, d, par 1)))
    (slot_slot_false (c, d, par 1)) 0) $$ [Hr1 HS1] with ⟨Hr1, Hrel1⟩
  · isplitr; · iapply (known_slot part K Ks (c, d, par 1)); iexact HK
    isplitl [Hr1]; · iexact Hr1
    iexact HS1
  imodintro
  isplitl [Hr0]; · iexact Hr0
  isplitl [Hr1]; · iexact Hr1
  isplitl [Hrel0 Hb00 Hb01]
  · isplitl [Hrel0]; · iexact Hrel0
    isplitl [Hb00]; · iexact Hb00
    iexact Hb01
  isplitl [Hrel1]; · iexact Hrel1
  isplitl [Hb10]; · iexact Hb10
  iexact Hb11

variable [FloatOps F]

/-- Meeting the neighbours: each is told that one is ready, and tells that it is. -/
theorem runs_meet (I : Ins F) (c : Dev nD) {O : CellTallies nD τ sig ℕ} (hO : Above 1 O) (Q : PUnit → sProp 𝕄) :
    iprop(KnownOf K Ks I ∗ Owes c (O + dueBar c 1 + dueBar c 0)
        ∗ (Tok (src 0 c) .bar 0 0 ∗ Begun (src 0 c) .bar 0 ∗ Ready c 0)
        ∗ (Tok (src 1 c) .bar 0 1 ∗ Begun (src 1 c) .bar 0 ∗ Ready c 1)
        ∗ Due c .bar 0 2 ∗ At c .bar 0)
      ⊢ iprop((Owes c O ∗ At c .bar 1
            ∗ (Avail (dst 0 c) 0 0 ∗ Begun (src 1 c) (.credit 1) 0) ∗ (Avail (dst 1 c) 1 0 ∗ Begun (src 0 c) (.credit 0) 0) -∗ Q ⟨⟩)
          -∗ Runs c (meet (F := F) (dst 1 c) (dst 0 c)) Q) := by
  have hl : dst 1 c = src 0 c := dst_rev 0 c
  have hr : dst 0 c = src 1 c := dst_rev 1 c
  have hp0 : (payloadOf (partOf I.pv) (src 0 c) (some .bar) 0 0 : sProp 𝕄) = Ready c 0 := by
    show iprop(Avail (dst 0 (src 0 c)) 0 0 ∗ Begun (dst 0 (src 0 c)) (.credit (1 - 0)) 0) = _
    rw [dst_src]
  have hp1 : (payloadOf (partOf I.pv) (src 1 c) (some .bar) 0 1 : sProp 𝕄) = Ready c 1 := by
    show iprop(Avail (dst 1 (src 1 c)) 1 0 ∗ Begun (dst 1 (src 1 c)) (.credit (1 - 1)) 0) = _
    rw [dst_src]
  have hw := runs_waitBar (partOf I.pv) K Ks c hO Q
  rw [hl, hr] at hw ⊢
  unfold meet
  iintro ⟨#HK, HO, ⟨Ht0, Hb0, HR0⟩, ⟨Ht1, Hb1, HR1⟩, Hc, Hat⟩ Hk
  iapply (runs_bind c)
  iapply (runs_signal (partOf I.pv) K Ks c (src 0 c) barS .bar rfl 0 0 0 (by decide) rfl (O + dueBar c 1)) $$ [HO Ht0 Hb0 HR0]
  · isplitr; · iexact HK
    isplitl [HO]; · iexact HO
    isplitl [Ht0]; · iexact Ht0
    isplitl [HR0]; · rw [hp0]; iexact HR0
    iexact Hb0
  iintro HO
  iapply (runs_bind c)
  iapply (runs_signal (partOf I.pv) K Ks c (src 1 c) barS .bar rfl 0 1 0 (by decide) rfl O) $$ [HO Ht1 Hb1 HR1]
  · isplitr; · iexact HK
    isplitl [HO]; · iexact HO
    isplitl [Ht1]; · iexact Ht1
    isplitl [HR1]; · rw [hp1]; iexact HR1
    iexact Hb1
  iintro HO
  iapply hw $$ [HO Hc Hat]
  · isplitr; · iexact HK
    isplitl [HO]; · iexact HO
    isplitl [Hc]; · iexact Hc
    iexact Hat
  iexact Hk

/-! ## The first products and copies -/

/-- The first partial product of a lane. -/
theorem runs_start (I : Ins F) (c : Dev nD) (d : Fin 2) (Q : PUnit → sProp 𝕄) :
    iprop(Held4 I c ∗ (∃ v, Held c (lane d).acc (par 0) 0 v) ∗ ∃ v, Held c (lane d).acc (par 0) 1 v)
      ⊢ iprop((Held4 I c ∗ Held c (lane d).acc (par 0) 0 (partOf I.pv d c 0 0)
            ∗ Held c (lane d).acc (par 0) 1 (partOf I.pv d c 1 0) -∗ Q ⟨⟩)
          -∗ Runs c (start (F := F) (lane d) xM wM) Q) := by
  rw [show par 0 = (0 : Fin 2) from rfl]
  unfold start
  iintro ⟨HI, H0, H1⟩ Hk
  iapply (runs_bind c)
  iapply (runs_product c I d 0) $$ HI
  iintro HI
  iapply (runs_fillSlot c (lane d).acc (I.pv d c 0)) $$ [H0 H1]
  · isplitl [H0]; · iexact H0
    iexact H1
  iintro ⟨H0, H1⟩
  iapply Hk
  isplitl [HI]; · iexact HI
  isplitl [H0]; · iexact H0
  iexact H1

/-- A flit whose first product is in place, and whose cells are fresh. -/
def Filled (I : Ins F) (c : Dev nD) (d f : Fin 2) : sProp 𝕄 :=
  iprop(Held c (lane d).acc (par 0) f (partOf I.pv d c f 0) ∗ (∃ v, Held c (lane d).acc (par 1) f v)
    ∗ (At c (.sent d (par 0) f) 0 ∗ Begun c (.sent d (par 0) f) 0)
    ∗ (At c (.sent d (par 1) f) 0 ∗ Begun c (.sent d (par 1) f) 0)
    ∗ (At c (.landed d (par 0) f) 0 ∗ At c (.landed d (par 1) f) 0)
    ∗ Coming c d f 0 ∗ Rights c d f 0)

/-- Starting the first copy of a flit. -/
theorem runs_sendFirst (I : Ins F) (c : Dev nD) (d f : Fin 2) (O : CellTallies nD τ sig ℕ) (Q : PUnit → sProp 𝕄) :
    iprop(KnownOf K Ks I ∗ Owes c (O + dueSend c d f 0) ∗ Filled I c d f
        ∗ (∃ v, Held (dst d c) (lane d).rcv (par 0) f v) ∗ Begun (dst d c) (.landed d (par 0) f) 0)
      ⊢ iprop((Owes c O ∗ FlitAt c d f 0 -∗ Q ⟨⟩) -∗ Runs c (send (lane d) (dst d c) 0 f) Q) := by
  unfold Filled
  rw [rights_succ c d f (by decide : 0 < 31)]
  iintro ⟨#HK, HO, ⟨Ha, Ha1, ⟨Hat, Hb⟩, ⟨Hat1, Hb1⟩, ⟨Hl0, Hl1⟩, HC, ⟨Ht1, Ht2⟩, HR⟩, ⟨%u, Hu⟩, Hbd⟩ Hk
  iapply (runs_send (partOf I.pv) K Ks c d f 0 (by decide) O u) $$ [HO Ha Hu Ht1 Hb Ht2 Hbd]
  · isplitr; · iexact HK
    isplitl [HO]; · iexact HO
    isplitl [Ha]; · iexact Ha
    isplitl [Hu]; · iexact Hu
    isplitl [Ht1]; · iexact Ht1
    isplitl [Hb]; · iexact Hb
    isplitl [Ht2]; · iexact Ht2
    iexact Hbd
  iintro ⟨HO, Hd⟩
  iapply Hk
  isplitl [HO]; · iexact HO
  unfold FlitAt Back Flying
  isplitl [Ha1 Hat1 Hb1]
  · isplitl [Ha1]; · iexact Ha1
    isplitl [Hat1]; · iexact Hat1
    iexact Hb1
  isplitl [Hd Hat]
  · isplitl [Hd]; · iexact Hd
    iexact Hat
  isplitl [Hl0]; · iexact Hl0
  isplitl [Hl1]; · iexact Hl1
  isplitl [HC]; · iexact HC
  iexact HR

/-- A fresh flit: its slots are free. -/
def Fresh (c : Dev nD) (d f : Fin 2) : sProp 𝕄 :=
  iprop((At c (.sent d (par 0) f) 0 ∗ Begun c (.sent d (par 0) f) 0)
    ∗ (At c (.sent d (par 1) f) 0 ∗ Begun c (.sent d (par 1) f) 0)
    ∗ (At c (.landed d (par 0) f) 0 ∗ At c (.landed d (par 1) f) 0)
    ∗ Coming c d f 0 ∗ Rights c d f 0)

/-- A device holds all four flits of a buffer, at any contents. -/
def Flits (c : Dev nD) (m : Memref sig .tc .vmem S2x128x1024 .i32) : sProp 𝕄 :=
  iprop(((∃ v, Held c m (par 0) 0 v) ∗ ∃ v, Held c m (par 0) 1 v) ∗ ((∃ v, Held c m (par 1) 0 v) ∗ ∃ v, Held c m (par 1) 1 v))

/-- No credit has been waited for. -/
theorem credits_zero (c : Dev nD) (d : Fin 2) :
    iprop(bigSep (Finset.Ico 0 29) (fun j => Due c (.credit d) j 1) ∗ At c (.credit d) 0) ⊢ (Credits c d 0 : sProp 𝕄) := by
  unfold Credits
  rw [if_neg (by decide : ¬ (0 : ℕ) = 29)]
  iintro ⟨Hd, Ha⟩
  isplitl [Hd]; · iexact Hd
  iexists (∅ : Finset ℕ)
  isplitr; · ipureintro; exact Finset.empty_subset _
  isplitl [Ha]; · iexact Ha
  rw [bigSep_empty]
  iempintro

/-- What a lane holds, its neighbours met, before its first product. -/
def Met (c : Dev nD) (d : Fin 2) : sProp 𝕄 :=
  iprop(Flits c (lane d).acc ∗ Fresh c d 0 ∗ Fresh c d 1 ∗ Takes c d 0 ∗ Credits c d 0 ∗ Avail (dst d c) d 0 ∗ Pays c d 0)

/-- What a lane holds once its first product is in place and the next device's first slot is taken. -/
def Loaded (I : Ins F) (c : Dev nD) (d : Fin 2) : sProp 𝕄 :=
  iprop((Filled I c d 0 ∗ (∃ v, Held (dst d c) (lane d).rcv (par 0) 0 v) ∗ Begun (dst d c) (.landed d (par 0) 0) 0)
    ∗ (Filled I c d 1 ∗ (∃ v, Held (dst d c) (lane d).rcv (par 0) 1 v) ∗ Begun (dst d c) (.landed d (par 0) 1) 0)
    ∗ Paid c d 0 ∗ Takes c d 1 ∗ Pays c d 0)

theorem runs_startLane (I : Ins F) (c : Dev nD) (d : Fin 2) (Q : PUnit → sProp 𝕄) :
    iprop(KnownOf K Ks I ∗ Held4 I c ∗ Met c d)
      ⊢ iprop((Held4 I c ∗ Loaded I c d -∗ Q ⟨⟩) -∗ Runs c (start (F := F) (lane d) xM wM) Q) := by
  unfold Met Flits Fresh Loaded Filled Paid
  rw [takes_succ c d (by decide : 0 < 31)]
  have hav : Avail (dst d c) d 0 ⊢ (MaySend (dst d c) d 0 : sProp 𝕄) := by
    unfold Avail; iintro ⟨H, -⟩; iexact H
  iintro ⟨#HK, HI, ⟨⟨Ha0, Ha1⟩, ⟨Hc0, Hc1⟩⟩, ⟨Hs0, Ht0, Hl0, Hg0, HR0⟩, ⟨Hs1, Ht1, Hl1, Hg1, HR1⟩, ⟨Hw, HT⟩, HC, #HA, HP⟩ Hk
  imod (take_slot I.pv K Ks c d 0) $$ [Hw] with ⟨Hd0, Hb0, HS⟩
  · isplitr; · iexact HK
    isplitr; · iapply hav; iexact HA
    iexact Hw
  unfold Spare
  icases HS with ⟨Hd1, Hb1⟩
  iapply (runs_start I c d) $$ [HI Ha0 Ha1]
  · isplitl [HI]; · iexact HI
    isplitl [Ha0]; · iexact Ha0
    iexact Ha1
  iintro ⟨HI, Ha0, Ha1⟩
  iapply Hk
  isplitl [HI]; · iexact HI
  isplitl [Ha0 Hc0 Hs0 Ht0 Hl0 Hg0 HR0 Hd0 Hb0]
  · isplitl [Ha0 Hc0 Hs0 Ht0 Hl0 Hg0 HR0]
    · isplitl [Ha0]; · iexact Ha0
      isplitl [Hc0]; · iexact Hc0
      isplitl [Hs0]; · iexact Hs0
      isplitl [Ht0]; · iexact Ht0
      isplitl [Hl0]; · iexact Hl0
      isplitl [Hg0]; · iexact Hg0
      iexact HR0
    isplitl [Hd0]; · iexact Hd0
    iexact Hb0
  isplitl [Ha1 Hc1 Hs1 Ht1 Hl1 Hg1 HR1 Hd1 Hb1]
  · isplitl [Ha1 Hc1 Hs1 Ht1 Hl1 Hg1 HR1]
    · isplitl [Ha1]; · iexact Ha1
      isplitl [Hc1]; · iexact Hc1
      isplitl [Hs1]; · iexact Hs1
      isplitl [Ht1]; · iexact Ht1
      isplitl [Hl1]; · iexact Hl1
      isplitl [Hg1]; · iexact Hg1
      iexact HR1
    isplitl [Hd1]; · iexact Hd1
    iexact Hb1
  isplitl [HC]
  · isplitl [HC]; · iexact HC
    iexact HA
  isplitl [HT]; · iexact HT
  iexact HP

/-- The first products and the first copies of both lanes: then both are before hop 0. -/
theorem runs_begin (I : Ins F) (c : Dev nD) {O : CellTallies nD τ sig ℕ} (rest : Prog (TpuEff nD τ sig (Elt F) Λ₀ .tc) PUnit)
    (Q : PUnit → sProp 𝕄) :
    iprop(KnownOf K Ks I ∗ Owes c (O + dueSends c 0) ∗ Held4 I c ∗ Met c 0 ∗ Met c 1)
      ⊢ iprop((Owes c O ∗ Held4 I c ∗ LaneAt c 0 0 ∗ LaneAt c 1 0 -∗ Runs c rest Q)
          -∗ Runs c (do
            start (F := F) (lane 0) xM wM
            start (F := F) (lane 1) xM wM
            send (lane 0) (dst 0 c) 0 0
            send (lane 1) (dst 1 c) 0 0
            send (lane 0) (dst 0 c) 0 1
            send (lane 1) (dst 1 c) 0 1
            rest) Q) := by
  rw [show O + dueSends c 0 = O + dueSend c 1 1 0 + dueSend c 0 1 0 + dueSend c 1 0 0 + dueSend c 0 0 0 by
    unfold dueSends; simp only [add_assoc]]
  iintro ⟨#HK, HO, HI, Ha, Hb⟩ Hk
  iapply (runs_bind c)
  iapply (runs_startLane K Ks I c 0) $$ [HI Ha]
  · isplitr; · iexact HK
    isplitl [HI]; · iexact HI
    iexact Ha
  iintro ⟨HI, Ha⟩
  iapply (runs_bind c)
  iapply (runs_startLane K Ks I c 1) $$ [HI Hb]
  · isplitr; · iexact HK
    isplitl [HI]; · iexact HI
    iexact Hb
  iintro ⟨HI, Hb⟩
  unfold Loaded
  icases Ha with ⟨Ha0, Ha1, HaP, HaT, HaY⟩
  icases Hb with ⟨Hb0, Hb1, HbP, HbT, HbY⟩
  iapply (runs_bind c)
  iapply (runs_sendFirst K Ks I c 0 0 _) $$ [HO Ha0]
  · isplitr; · iexact HK
    isplitl [HO]; · iexact HO
    iexact Ha0
  iintro ⟨HO, Ha0⟩
  iapply (runs_bind c)
  iapply (runs_sendFirst K Ks I c 1 0 _) $$ [HO Hb0]
  · isplitr; · iexact HK
    isplitl [HO]; · iexact HO
    iexact Hb0
  iintro ⟨HO, Hb0⟩
  iapply (runs_bind c)
  iapply (runs_sendFirst K Ks I c 0 1 _) $$ [HO Ha1]
  · isplitr; · iexact HK
    isplitl [HO]; · iexact HO
    iexact Ha1
  iintro ⟨HO, Ha1⟩
  iapply (runs_bind c)
  iapply (runs_sendFirst K Ks I c 1 1 _) $$ [HO Hb1]
  · isplitr; · iexact HK
    isplitl [HO]; · iexact HO
    iexact Hb1
  iintro ⟨HO, Hb1⟩
  iapply Hk
  isplitl [HO]; · iexact HO
  isplitl [HI]; · iexact HI
  unfold LaneAt Copies
  isplitl [Ha0 Ha1 HaP HaT HaY]
  · isplitl [Ha0 Ha1 HaP HaT]
    · isplitl [Ha0]; · iexact Ha0
      isplitl [Ha1]; · iexact Ha1
      isplitl [HaP]; · iexact HaP
      iexact HaT
    iexact HaY
  isplitl [Hb0 Hb1 HbP HbT]
  · isplitl [Hb0]; · iexact Hb0
    isplitl [Hb1]; · iexact Hb1
    isplitl [HbP]; · iexact HbP
    iexact HbT
  iexact HbY

end Cert.KernelIdeal.Ring
-- ==== Proof.Finish.lean ====
/-
  The end of the ring: the last hop's totals, scaled, into the result, and the last copies read out.
-/
module

public import proofs.«01_k».proof.Proof.Begin

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type}

local notation "𝕄" => MT nD τ sig ℕ (Elt F) ℕ UU ℕ

/-- The block of the result that a lane's flit fills. -/
abbrev outRect (d f : Fin 2) : Rect S128x2048 :=
  Rect.unit (s := S128x2048) ![0, 1024 * d.val + 512 * f.val] S128x512.size (inb_out d f)

/-- The result as the body sees it. -/
abbrev outM : Memref sig .tc .vmem S128x2048 .f32 := Memref.whole cc0_stg7_0

/-- A block of the result. -/
abbrev OutAt (c : Dev nD) (d f : Fin 2) (v : Vec F S128x512 .f32) : sProp 𝕄 :=
  owns (c : Thread nD τ) (outM.slice (outRect d f) (fun _ => rfl)) fullShare v

/-- Where a flit's cells stand at the end. -/
def FlitEnd (c : Dev nD) (d f : Fin 2) : sProp 𝕄 :=
  iprop((At c (.sent d (par 0) f) 16 ∗ At c (.sent d (par 1) f) 15)
    ∗ (At c (.landed d (par 0) f) 16 ∗ At c (.landed d (par 1) f) 15))

/-- What a lane holds at the end. -/
def LaneEnd (c : Dev nD) (d : Fin 2) : sProp 𝕄 :=
  iprop(Flits c (lane d).acc ∗ Flits c (lane d).rcv ∗ FlitEnd c d 0 ∗ FlitEnd c d 1 ∗ At c (.credit d) 1)

/-- What a flit's cells stand at before the last hop, its landing apart. -/
def Ending (c : Dev nD) (d f : Fin 2) : sProp 𝕄 :=
  iprop(Flying c d f 29 ∗ Flying c d f 30 ∗ Landing c d f 31)

variable [FloatOps F]

/-- The total of a flit of the result, scaled. -/
def lastVal (I : Ins F) (c : Dev nD) (d f : Fin 2) : FVec F S128x512 .f32 :=
  mulf (sitofp .f32 (added (F := F) f (I.pv d c 31) (partOf I.pv d (src d c) f 30))) (broadcast S128x512 (I.sc c))

variable (K : GSem nD τ sig → ℕ) (Ks : Dev nD × Fin 2 × Fin 2 → ℕ)

/-- What is left of a flit before the last hop. -/
theorem flitAt_last (c : Dev nD) (d f : Fin 2) :
    FlitAt c d f 30 ⊢ (iprop(Ending c d f ∗ Landing c d f 30 ∗ Coming c d f 30) : sProp 𝕄) := by
  unfold FlitAt Ending Back
  iintro ⟨H1, H2, H3, H4, H5, -⟩
  isplitl [H1 H2 H4]
  · isplitl [H1]; · iexact H1
    isplitl [H2]; · iexact H2
    iexact H4
  isplitl [H3]; · iexact H3
  iexact H5

/-- A flit of the last hop. -/
theorem runs_lastFlit (I : Ins F) (c : Dev nD) (d f : Fin 2) (v : Vec F S128x512 .f32) (Q : PUnit → sProp 𝕄) :
    iprop(KnownOf K Ks I ∗ Owes c 0 ∗ (Landing c d f 30 ∗ Coming c d f 30) ∗ OutAt c d f v)
      ⊢ iprop((Owes c 0 ∗ (Landing c d f 32 ∗ Got c d f 30) ∗ OutAt c d f (lastVal I c d f) -∗ Q ⟨⟩)
          -∗ Runs c (lastFlit (F := F) (lane d) outM (I.sc c) f (I.pv d c 31)) Q) := by
  have hst (b : Fin 2) (hb : b = d) (w : Vec F S128x512 .f32) (Q : PUnit → sProp 𝕄) :
      OutAt c d f v ⊢ iprop((OutAt c d f w -∗ Q ⟨⟩) -∗ Runs c (do
        let _v : Vec F S128x512 .f32 ← Prog.lift (.load outM (Rect.unit (s := S128x2048) ![0, 1024 * b.val + 512 * f.val] S128x512.size (inb_out b f)).toLoadRect (View.loadsAt_vmem h_S128x512))
        Prog.lift (.store outM (Rect.unit (s := S128x2048) ![0, 1024 * b.val + 512 * f.val] S128x512.size (inb_out b f))
          w Finset.univ (View.stores_vmem_bits_univ h_S128x512 rfl) (.inl rfl))) Q) := by
    subst hb
    iintro H Hk
    iapply (runs_bind c)
    iapply (runs_loadPiece c outM (outRect b f) (fun _ => rfl) v) $$ H
    iintro H
    iapply (runs_storeBlock c outM (outRect b f) (fun _ => rfl) v w) $$ H
    iexact Hk
  have heq : lastFlit (F := F) (lane d) outM (I.sc c) f (I.pv d c 31) = (do
      let r ← waitLanded (lane d) 30 f >>= fun _ => loadFlit (lane d).rcv (par 30) f
      let _v : Vec F S128x512 .f32 ← Prog.lift (.load outM (Rect.unit (s := S128x2048) ![0, 1024 * (lane d).half.val + 512 * f.val] S128x512.size (inb_out (lane d).half f)).toLoadRect (View.loadsAt_vmem h_S128x512))
      Prog.lift (.store outM (Rect.unit (s := S128x2048) ![0, 1024 * (lane d).half.val + 512 * f.val] S128x512.size (inb_out (lane d).half f))
        (mulf (sitofp .f32 (added (F := F) f (I.pv d c 31) r)) (broadcast S128x512 (I.sc c)) : FVec F S128x512 .f32)
        Finset.univ (View.stores_vmem_bits_univ h_S128x512 rfl) (.inl rfl))) := by
    unfold lastFlit
    rw [bind_assoc]
  rw [heq]
  iintro ⟨#HK, HO, ⟨Hl, HC⟩, Hv⟩ Hk
  iapply (runs_bind c)
  iapply (runs_arrive I.pv K Ks c d f 30 (by decide) (above_zero _)) $$ [HO Hl HC]
  · isplitr; · iexact HK
    isplitl [HO]; · iexact HO
    isplitl [Hl]; · iexact Hl
    iexact HC
  iintro ⟨HO, Hl, -, HG⟩
  iapply (hst _ (lane_half d) _ _) $$ Hv
  iintro Hv
  iapply Hk
  isplitl [HO]; · iexact HO
  isplitl [Hl HG]
  · isplitl [Hl]; · iexact Hl
    iexact HG
  iexact Hv

/-- The blocks of the result, at any contents. -/
def Outs4 (c : Dev nD) : sProp 𝕄 :=
  iprop((∃ v, OutAt c 0 0 v) ∗ (∃ v, OutAt c 0 1 v) ∗ (∃ v, OutAt c 1 0 v) ∗ ∃ v, OutAt c 1 1 v)

/-- The blocks of the result, at the totals. -/
def Totals (I : Ins F) (c : Dev nD) : sProp 𝕄 :=
  iprop(OutAt c 0 0 (lastVal I c 0 0) ∗ OutAt c 0 1 (lastVal I c 0 1) ∗ OutAt c 1 0 (lastVal I c 1 0) ∗ OutAt c 1 1 (lastVal I c 1 1))

/-- What a lane is left with after the last hop. -/
def Spent (c : Dev nD) (d : Fin 2) : sProp 𝕄 :=
  iprop((Ending c d 0 ∗ Landing c d 0 32 ∗ Got c d 0 30) ∗ (Ending c d 1 ∗ Landing c d 1 32 ∗ Got c d 1 30))

/-- The last hop. -/
theorem runs_lastHop (I : Ins F) (c : Dev nD) (Q : PUnit → sProp 𝕄) :
    iprop(KnownOf K Ks I ∗ Owes c 0 ∗ Held4 I c ∗ (FlitAt c 0 0 30 ∗ FlitAt c 0 1 30) ∗ (FlitAt c 1 0 30 ∗ FlitAt c 1 1 30) ∗ Outs4 c)
      ⊢ iprop((Owes c 0 ∗ Held4 I c ∗ Spent c 0 ∗ Spent c 1 ∗ Totals I c -∗ Q ⟨⟩)
          -∗ Runs c (lastHop (F := F) (lane 0) (lane 1) xM wM outM (I.sc c)) Q) := by
  unfold lastHop Outs4 Totals Spent
  iintro ⟨#HK, HO, HI, ⟨Ha0, Ha1⟩, ⟨Hb0, Hb1⟩, ⟨%v00, H00⟩, ⟨%v01, H01⟩, ⟨%v10, H10⟩, ⟨%v11, H11⟩⟩ Hk
  ihave Ha0 := (flitAt_last (F := F) c 0 0) $$ Ha0
  icases Ha0 with ⟨Ha0, HaL0⟩
  ihave Ha1 := (flitAt_last (F := F) c 0 1) $$ Ha1
  icases Ha1 with ⟨Ha1, HaL1⟩
  ihave Hb0 := (flitAt_last (F := F) c 1 0) $$ Hb0
  icases Hb0 with ⟨Hb0, HbL0⟩
  ihave Hb1 := (flitAt_last (F := F) c 1 1) $$ Hb1
  icases Hb1 with ⟨Hb1, HbL1⟩
  iapply (runs_bind c)
  iapply (runs_product c I 0 _) $$ HI
  iintro HI
  iapply (runs_bind c)
  iapply (runs_product c I 1 _) $$ HI
  iintro HI
  iapply (runs_bind c)
  iapply (runs_lastFlit K Ks I c 0 0 v00) $$ [HO HaL0 H00]
  · isplitr; · iexact HK
    isplitl [HO]; · iexact HO
    isplitl [HaL0]; · iexact HaL0
    iexact H00
  iintro ⟨HO, HaL0, H00⟩
  iapply (runs_bind c)
  iapply (runs_lastFlit K Ks I c 1 0 v10) $$ [HO HbL0 H10]
  · isplitr; · iexact HK
    isplitl [HO]; · iexact HO
    isplitl [HbL0]; · iexact HbL0
    iexact H10
  iintro ⟨HO, HbL0, H10⟩
  iapply (runs_bind c)
  iapply (runs_lastFlit K Ks I c 0 1 v01) $$ [HO HaL1 H01]
  · isplitr; · iexact HK
    isplitl [HO]; · iexact HO
    isplitl [HaL1]; · iexact HaL1
    iexact H01
  iintro ⟨HO, HaL1, H01⟩
  iapply (runs_lastFlit K Ks I c 1 1 v11) $$ [HO HbL1 H11]
  · isplitr; · iexact HK
    isplitl [HO]; · iexact HO
    isplitl [HbL1]; · iexact HbL1
    iexact H11
  iintro ⟨HO, HbL1, H11⟩
  iapply Hk
  isplitl [HO]; · iexact HO
  isplitl [HI]; · iexact HI
  isplitl [Ha0 HaL0 Ha1 HaL1]
  · isplitl [Ha0 HaL0]
    · isplitl [Ha0]; · iexact Ha0
      iexact HaL0
    isplitl [Ha1]; · iexact Ha1
    iexact HaL1
  isplitl [Hb0 HbL0 Hb1 HbL1]
  · isplitl [Hb0 HbL0]
    · isplitl [Hb0]; · iexact Hb0
      iexact HbL0
    isplitl [Hb1]; · iexact Hb1
    iexact HbL1
  isplitl [H00]; · iexact H00
  isplitl [H01]; · iexact H01
  isplitl [H10]; · iexact H10
  iexact H11

/-- The last two copies of a lane come back. -/
theorem runs_drain (I : Ins F) (c : Dev nD) (d : Fin 2) (Q : PUnit → sProp 𝕄) :
    iprop(KnownOf K Ks I ∗ Owes c 0 ∗ Spent c d ∗ Read2 c d 29 ∗ Paid c d 30)
      ⊢ iprop((Owes c 0 ∗ LaneEnd c d -∗ Q ⟨⟩) -∗ Runs c (drain (F := F) (lane d)) Q) := by
  have hcr : Paid c d 30 ⊢ (At c (.credit d) 1 : sProp 𝕄) := by
    show (Credits c d 29 : sProp 𝕄) ⊢ _
    unfold Credits
    rw [if_pos rfl]
    iintro ⟨-, H⟩; iexact H
  unfold drain Spent Ending Read2
  iintro ⟨#HK, HO, ⟨⟨⟨Hx0, Hy0, Hz0⟩, Hw0, Hg0⟩, ⟨⟨Hx1, Hy1, Hz1⟩, Hw1, Hg1⟩⟩, ⟨Hr0, Hr1⟩, HP⟩ Hk
  unfold Flying
  icases Hx0 with ⟨Hx0, Hxa0⟩
  icases Hx1 with ⟨Hx1, Hxa1⟩
  icases Hy0 with ⟨Hy0, Hya0⟩
  icases Hy1 with ⟨Hy1, Hya1⟩
  iapply (runs_bind c)
  iapply (runs_waitSent (partOf I.pv) K Ks c d 0 29 (by decide) (above_zero _)) $$ [HO Hx0 Hxa0]
  · isplitr; · iexact HK
    isplitl [HO]; · iexact HO
    isplitl [Hx0]; · iexact Hx0
    iexact Hxa0
  iintro ⟨HO, Hxa0, -, Hx0⟩
  iapply (runs_bind c)
  iapply (runs_waitSent (partOf I.pv) K Ks c d 1 29 (by decide) (above_zero _)) $$ [HO Hx1 Hxa1]
  · isplitr; · iexact HK
    isplitl [HO]; · iexact HO
    isplitl [Hx1]; · iexact Hx1
    iexact Hxa1
  iintro ⟨HO, Hxa1, -, Hx1⟩
  iapply (runs_bind c)
  iapply (runs_waitSent (partOf I.pv) K Ks c d 0 30 (by decide) (above_zero _)) $$ [HO Hy0 Hya0]
  · isplitr; · iexact HK
    isplitl [HO]; · iexact HO
    isplitl [Hy0]; · iexact Hy0
    iexact Hya0
  iintro ⟨HO, Hya0, -, Hy0⟩
  iapply (runs_waitSent (partOf I.pv) K Ks c d 1 30 (by decide) (above_zero _)) $$ [HO Hy1 Hya1]
  · isplitr; · iexact HK
    isplitl [HO]; · iexact HO
    isplitl [Hy1]; · iexact Hy1
    iexact Hya1
  iintro ⟨HO, Hya1, -, Hy1⟩
  iapply Hk
  isplitl [HO]; · iexact HO
  unfold LaneEnd Flits FlitEnd Got
  icases Hg0 with ⟨Hg0, -⟩
  icases Hg1 with ⟨Hg1, -⟩
  icases Hr0 with ⟨Hr0, -⟩
  icases Hr1 with ⟨Hr1, -⟩
  isplitl [Hx0 Hx1 Hy0 Hy1]
  · isplitl [Hy0 Hy1]
    · isplitl [Hy0]
      · iexists _; iexact Hy0
      iexists _; iexact Hy1
    isplitl [Hx0]
    · iexists _; iexact Hx0
    iexists _; iexact Hx1
  isplitl [Hg0 Hg1 Hr0 Hr1]
  · isplitl [Hg0 Hg1]
    · isplitl [Hg0]; · iexact Hg0
      iexact Hg1
    isplitl [Hr0]; · iexact Hr0
    iexact Hr1
  isplitl [Hxa0 Hya0 Hz0 Hw0]
  · isplitl [Hxa0 Hya0]
    · isplitl [Hya0]; · iexact Hya0
      iexact Hxa0
    isplitl [Hw0]; · iexact Hw0
    iexact Hz0
  isplitl [Hxa1 Hya1 Hz1 Hw1]
  · isplitl [Hxa1 Hya1]
    · isplitl [Hya1]; · iexact Hya1
      iexact Hxa1
    isplitl [Hw1]; · iexact Hw1
    iexact Hz1
  iapply hcr; iexact HP

end Cert.KernelIdeal.Ring
-- ==== Proof.Split.lean ====
/-
  A whole two-slot buffer as its four flits, and the whole result as its four blocks.
-/
module

public import proofs.«01_k».proof.Proof.Finish

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.ValueIdx
open Cert.KernelIdeal.Gen

variable {F : FTy → Type}

local notation "𝕄" => MT nD τ sig ℕ (Elt F) ℕ UU ℕ

/-- Four pieces, two by two. -/
theorem four_pieces (Φ : Fin 2 × Fin 2 → sProp 𝕄) :
    bigSep (Finset.univ : Finset (Fin 2 × Fin 2)) Φ
      = iprop((Φ (0, 0) ∗ Φ (0, 1)) ∗ (Φ (1, 0) ∗ Φ (1, 1))) := by
  rw [bigSep_univ_prod, bigSep_fin_two, bigSep_fin_two, bigSep_fin_two]
  rfl

/-! ## A buffer's flits -/

/-- The contents of a buffer whose flits hold `v`. -/
def ofFlits (v : Fin 2 × Fin 2 → FlitVec F) : Vec F S2x128x1024 .i32 := fun i =>
  v ((⟨(i 0).val, (i 0).isLt⟩ : Fin 2),
      (⟨(i 2).val / 512, by have h : (i 2).val < 1024 := (i 2).isLt; omega⟩ : Fin 2))
    (ix3 (0 : Fin 1) (⟨(i 1).val, (i 1).isLt⟩ : Fin 128) (⟨(i 2).val % 512, Nat.mod_lt _ (by decide)⟩ : Fin 512))

theorem ofFlits_emb (v : Fin 2 × Fin 2 → FlitVec F) (t : Fin 2 × Fin 2) (j : S1x128x512.Idx) :
    ofFlits v ((flitRect t.1 t.2).emb j) = v t j := by
  have h0 : (j 0).val < 1 := (j 0).isLt
  have h2 : (j 2).val < 512 := (j 2).isLt
  have e0 : ((flitRect t.1 t.2).emb j 0).val = t.1.val + 1 * (j 0).val := rfl
  have e1 : ((flitRect t.1 t.2).emb j 1).val = 0 + 1 * (j 1).val := rfl
  have e2 : ((flitRect t.1 t.2).emb j 2).val = 512 * t.2.val + 1 * (j 2).val := rfl
  have k0 : (⟨((flitRect t.1 t.2).emb j 0).val, ((flitRect t.1 t.2).emb j 0).isLt⟩ : Fin 2) = t.1 :=
    Fin.ext (by show ((flitRect t.1 t.2).emb j 0).val = t.1.val; omega)
  have k2 (h) : (⟨((flitRect t.1 t.2).emb j 2).val / 512, h⟩ : Fin 2) = t.2 :=
    Fin.ext (by show ((flitRect t.1 t.2).emb j 2).val / 512 = t.2.val; omega)
  unfold ofFlits
  rw [k0, k2]
  refine congrArg (v t) ?_
  funext a
  refine Fin.ext ?_
  match a with
  | ⟨0, _⟩ => show 0 = (j 0).val; omega
  | ⟨1, _⟩ => show ((flitRect t.1 t.2).emb j 1).val = (j 1).val; omega
  | ⟨2, _⟩ => show ((flitRect t.1 t.2).emb j 2).val % 512 = (j 2).val; omega

theorem flitRects_disjoint (t t' : Fin 2 × Fin 2) (h : t ≠ t') :
    Disjoint (flitRect t.1 t.2).set (flitRect t'.1 t'.2).set := by
  refine Finset.disjoint_left.mpr fun i h0 h1 => h ?_
  obtain ⟨x, rfl⟩ := mem_rect.mp h0
  obtain ⟨y, hy⟩ := mem_rect.mp h1
  have a0 := congrArg (fun z : S2x128x1024.Idx => (z 0).val) hy
  have a2 := congrArg (fun z : S2x128x1024.Idx => (z 2).val) hy
  have e0 : t'.1.val + 1 * (y 0).val = t.1.val + 1 * (x 0).val := a0
  have e2 : 512 * t'.2.val + 1 * (y 2).val = 512 * t.2.val + 1 * (x 2).val := a2
  have x0 : (x 0).val < 1 := (x 0).isLt
  have y0 : (y 0).val < 1 := (y 0).isLt
  have x2 : (x 2).val < 512 := (x 2).isLt
  have y2 : (y 2).val < 512 := (y 2).isLt
  exact Prod.ext (Fin.ext (by omega)) (Fin.ext (by omega))

theorem flitRects_cover :
    (Finset.univ : Finset (Fin 2 × Fin 2)).biUnion (fun t => (flitRect t.1 t.2).set) = Finset.univ := by
  refine Finset.eq_univ_iff_forall.mpr fun i => ?_
  have h0 : (i 0).val < 2 := (i 0).isLt
  have h1 : (i 1).val < 128 := (i 1).isLt
  have h2 : (i 2).val < 1024 := (i 2).isLt
  refine Finset.mem_biUnion.mpr ⟨(⟨(i 0).val, h0⟩, ⟨(i 2).val / 512, by omega⟩), Finset.mem_univ _, ?_⟩
  refine mem_rect.mpr ⟨ix3 (0 : Fin 1) (⟨(i 1).val, h1⟩ : Fin 128) (⟨(i 2).val % 512, by omega⟩ : Fin 512), ?_⟩
  funext a
  refine Fin.ext ?_
  match a with
  | ⟨0, _⟩ => show (i 0).val + 1 * 0 = (i 0).val; omega
  | ⟨1, _⟩ => show 0 + 1 * (i 1).val = (i 1).val; omega
  | ⟨2, _⟩ => show 512 * ((i 2).val / 512) + 1 * ((i 2).val % 512) = (i 2).val; omega

variable [FloatOps F]

/-- A buffer's flits are held when the buffer is, -/
theorem flits_of_whole (c : Dev nD) (m : Memref sig .tc .vmem S2x128x1024 .i32) (X : Vec F S2x128x1024 .i32) :
    owns (c : Thread nD τ) m fullShare X ⊢ (Flits c m : sProp 𝕄) := by
  have h : owns (c : Thread nD τ) m fullShare X
      ⊢ (bigSep (Finset.univ : Finset (Fin 2 × Fin 2)) fun t => owns (c : Thread nD τ) (m.slice (flitRect t.1 t.2) (fun _ => rfl)) fullShare
          (fun j => X ((flitRect t.1 t.2).emb j)) : sProp 𝕄) :=
    owns_rects (c : Thread nD τ) m fullShare (fun t : Fin 2 × Fin 2 => flitRect t.1 t.2) (fun _ _ => rfl) flitRects_disjoint flitRects_cover X
  rw [four_pieces] at h
  unfold Flits Held
  iintro H
  ihave H' := h $$ H
  icases H' with ⟨⟨H0, H1⟩, H2, H3⟩
  isplitl [H0 H1]
  · isplitl [H0]
    · iexists _; iexact H0
    · iexists _; iexact H1
  · isplitl [H2]
    · iexists _; iexact H2
    · iexists _; iexact H3

/-- and the buffer when its flits are. -/
theorem whole_of_flits [∀ e, Nonempty (Elt F e)] (c : Dev nD) (m : Memref sig .tc .vmem S2x128x1024 .i32) :
    Flits c m ⊢ (iprop(∃ X : Vec F S2x128x1024 .i32, owns (c : Thread nD τ) m fullShare X) : sProp 𝕄) := by
  unfold Flits Held
  iintro ⟨⟨⟨%v0, H0⟩, %v1, H1⟩, ⟨%v2, H2⟩, %v3, H3⟩
  have h (v : Fin 2 × Fin 2 → FlitVec F) : (bigSep (Finset.univ : Finset (Fin 2 × Fin 2)) fun t =>
        owns (c : Thread nD τ) (m.slice (flitRect t.1 t.2) (fun _ => rfl)) fullShare
          (fun j => ofFlits v ((flitRect t.1 t.2).emb j)))
      ⊢ (owns (c : Thread nD τ) m fullShare (ofFlits v) : sProp 𝕄) :=
    owns_of_rects (c : Thread nD τ) m fullShare (fun t : Fin 2 × Fin 2 => flitRect t.1 t.2) (fun _ _ => rfl) flitRects_disjoint flitRects_cover _
  simp only [ofFlits_emb] at h
  iexists (ofFlits fun t => if t.1 = 0 then (if t.2 = 0 then v0 else v1) else (if t.2 = 0 then v2 else v3))
  have h' := h (fun t => if t.1 = 0 then (if t.2 = 0 then v0 else v1) else (if t.2 = 0 then v2 else v3))
  rw [four_pieces] at h'
  iapply h'
  isplitl [H0 H1]
  · isplitl [H0]
    · iexact H0
    · iexact H1
  · isplitl [H2]
    · iexact H2
    · iexact H3

/-! ## The result's blocks -/

/-- The result whose blocks are `v`. -/
def ofBlocks (v : Fin 2 → Fin 2 → Vec F S128x512 .f32) : Vec F S128x2048 .f32 := fun i =>
  v (⟨(i 1).val / 1024, by have h : (i 1).val < 2048 := (i 1).isLt; omega⟩ : Fin 2)
    (⟨(i 1).val / 512 % 2, Nat.mod_lt _ (by decide)⟩ : Fin 2)
    (ix2 (⟨(i 0).val, (i 0).isLt⟩ : Fin 128) (⟨(i 1).val % 512, Nat.mod_lt _ (by decide)⟩ : Fin 512))

omit [FloatOps F] in
theorem ofBlocks_emb (v : Fin 2 → Fin 2 → Vec F S128x512 .f32) (t : Fin 2 × Fin 2) (j : S128x512.Idx) :
    ofBlocks v ((outRect t.1 t.2).emb j) = v t.1 t.2 j := by
  have h1 : (j 1).val < 512 := (j 1).isLt
  have e0 : ((outRect t.1 t.2).emb j 0).val = 0 + 1 * (j 0).val := rfl
  have e1 : ((outRect t.1 t.2).emb j 1).val = 1024 * t.1.val + 512 * t.2.val + 1 * (j 1).val := rfl
  have t2 := t.2.isLt
  have k1 (h) : (⟨((outRect t.1 t.2).emb j 1).val / 1024, h⟩ : Fin 2) = t.1 :=
    Fin.ext (by show ((outRect t.1 t.2).emb j 1).val / 1024 = t.1.val; omega)
  have k2 (h) : (⟨((outRect t.1 t.2).emb j 1).val / 512 % 2, h⟩ : Fin 2) = t.2 :=
    Fin.ext (by show ((outRect t.1 t.2).emb j 1).val / 512 % 2 = t.2.val; omega)
  unfold ofBlocks
  rw [k1, k2]
  refine congrArg (v t.1 t.2) ?_
  funext a
  refine Fin.ext ?_
  match a with
  | ⟨0, _⟩ => show ((outRect t.1 t.2).emb j 0).val = (j 0).val; omega
  | ⟨1, _⟩ => show ((outRect t.1 t.2).emb j 1).val % 512 = (j 1).val; omega

theorem outRects_disjoint (t t' : Fin 2 × Fin 2) (h : t ≠ t') :
    Disjoint (outRect t.1 t.2).set (outRect t'.1 t'.2).set := by
  refine Finset.disjoint_left.mpr fun i h0 h1 => h ?_
  obtain ⟨x, rfl⟩ := mem_rect.mp h0
  obtain ⟨y, hy⟩ := mem_rect.mp h1
  have a1 := congrArg (fun z : S128x2048.Idx => (z 1).val) hy
  have e1 : 1024 * t'.1.val + 512 * t'.2.val + 1 * (y 1).val = 1024 * t.1.val + 512 * t.2.val + 1 * (x 1).val := a1
  have x1 : (x 1).val < 512 := (x 1).isLt
  have y1 : (y 1).val < 512 := (y 1).isLt
  have t1 := t.2.isLt
  have t1' := t'.2.isLt
  exact Prod.ext (Fin.ext (by omega)) (Fin.ext (by omega))

theorem outRects_cover :
    (Finset.univ : Finset (Fin 2 × Fin 2)).biUnion (fun t => (outRect t.1 t.2).set) = Finset.univ := by
  refine Finset.eq_univ_iff_forall.mpr fun i => ?_
  have h0 : (i 0).val < 128 := (i 0).isLt
  have h1 : (i 1).val < 2048 := (i 1).isLt
  refine Finset.mem_biUnion.mpr ⟨(⟨(i 1).val / 1024, by omega⟩, ⟨(i 1).val / 512 % 2, by omega⟩), Finset.mem_univ _, ?_⟩
  refine mem_rect.mpr ⟨ix2 (⟨(i 0).val, h0⟩ : Fin 128) (⟨(i 1).val % 512, by omega⟩ : Fin 512), ?_⟩
  funext a
  refine Fin.ext ?_
  match a with
  | ⟨0, _⟩ => show 0 + 1 * (i 0).val = (i 0).val; omega
  | ⟨1, _⟩ =>
    show 1024 * ((i 1).val / 1024) + 512 * ((i 1).val / 512 % 2) + 1 * ((i 1).val % 512) = (i 1).val
    omega

/-- The blocks of the result are held when it is, -/
theorem blocks_of_out (c : Dev nD) (X : Vec F S128x2048 .f32) :
    owns (c : Thread nD τ) outM fullShare X ⊢ (Outs4 c : sProp 𝕄) := by
  have h : owns (c : Thread nD τ) outM fullShare X
      ⊢ (bigSep (Finset.univ : Finset (Fin 2 × Fin 2)) fun t => owns (c : Thread nD τ) (outM.slice (outRect t.1 t.2) (fun _ => rfl)) fullShare
          (fun j => X ((outRect t.1 t.2).emb j)) : sProp 𝕄) :=
    owns_rects (c : Thread nD τ) outM fullShare (fun t : Fin 2 × Fin 2 => outRect t.1 t.2) (fun _ _ => rfl) outRects_disjoint outRects_cover X
  rw [four_pieces] at h
  unfold Outs4
  iintro H
  ihave H' := h $$ H
  icases H' with ⟨⟨H0, H1⟩, H2, H3⟩
  isplitl [H0]; · iexists _; iexact H0
  isplitl [H1]; · iexists _; iexact H1
  isplitl [H2]; · iexists _; iexact H2
  iexists _; iexact H3

/-- What device `c` leaves in its result. -/
def outVec (I : Ins F) (c : Dev nD) : Vec F S128x2048 .f32 := ofBlocks (lastVal I c)

/-- and the result when its blocks are. -/
theorem out_of_totals [∀ e, Nonempty (Elt F e)] (I : Ins F) (c : Dev nD) :
    Totals I c ⊢ (owns (c : Thread nD τ) outM fullShare (outVec I c) : sProp 𝕄) := by
  have h : (bigSep (Finset.univ : Finset (Fin 2 × Fin 2)) fun t =>
        owns (c : Thread nD τ) (outM.slice (outRect t.1 t.2) (fun _ => rfl)) fullShare
          (fun j => ofBlocks (lastVal I c) ((outRect t.1 t.2).emb j)))
      ⊢ (owns (c : Thread nD τ) outM fullShare (ofBlocks (lastVal I c)) : sProp 𝕄) :=
    owns_of_rects (c : Thread nD τ) outM fullShare (fun t : Fin 2 × Fin 2 => outRect t.1 t.2) (fun _ _ => rfl) outRects_disjoint outRects_cover _
  simp only [ofBlocks_emb] at h
  rw [four_pieces] at h
  unfold Totals outVec
  iintro ⟨H0, H1, H2, H3⟩
  iapply h
  isplitl [H0 H1]
  · isplitl [H0]
    · iexact H0
    · iexact H1
  · isplitl [H2]
    · iexact H2
    · iexact H3

end Cert.KernelIdeal.Ring
-- ==== Proof.Ring.lean ====
/-
  The whole body of one device, from the meeting to the last copy's return.
-/
module

public import proofs.«01_k».proof.Proof.Split

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.ValueIdx
open Cert.KernelIdeal.Gen

variable {F : FTy → Type}

local notation "𝕄" => MT nD τ sig ℕ (Elt F) ℕ UU ℕ

/-- Where a lane stands on its landing slots, both released. -/
abbrev Readers (c : Dev nD) (d : Fin 2) : sProp 𝕄 :=
  iprop(readerAt ES (c, d, par 0) 1 ∗ readerAt ES (c, d, par 1) 1)

/-- The rights to pay the credits of a lane's feeder. -/
abbrev PayToks (c : Dev nD) (d : Fin 2) : sProp 𝕄 :=
  bigSep (Finset.Ico 0 29) (fun j => Tok (src d c) (.credit d) 0 j)

/-- What a lane holds before the neighbours are met. -/
def Unmet (c : Dev nD) (d : Fin 2) : sProp 𝕄 :=
  iprop(Flits c (lane d).acc ∗ Fresh c d 0 ∗ Fresh c d 1 ∗ Takes c d 0 ∗ Credits c d 0
    ∗ Readers c d ∗ PayToks c d)

/-- What a device brings to the meeting for its feeder in lane `d`. -/
abbrev Meets (c : Dev nD) (d : Fin 2) : sProp 𝕄 :=
  iprop(Tok (src d c) .bar 0 d.val ∗ Begun (src d c) .bar 0 ∗ Ready c d)

/-- The neighbours met, a lane is ready for its first product. -/
theorem met_of_unmet (c : Dev nD) (d : Fin 2) :
    iprop(Unmet c d ∗ Avail (dst d c) d 0 ∗ Begun (src d c) (.credit d) 0 ∗ Avail c d 0) ⊢ (Met c d : sProp 𝕄) := by
  have hav : Avail c d 0 ⊢ (MaySend c d (0 + 1) : sProp 𝕄) := by
    unfold Avail; iintro ⟨-, H⟩; iexact H
  unfold Unmet Met Pays
  iintro ⟨⟨Hf, H0, H1, HT, HC, ⟨Hr0, Hr1⟩, HP⟩, HA, HB, HO⟩
  isplitl [Hf]; · iexact Hf
  isplitl [H0]; · iexact H0
  isplitl [H1]; · iexact H1
  isplitl [HT]; · iexact HT
  isplitl [HC]; · iexact HC
  isplitl [HA]; · iexact HA
  isplitl [Hr0]; · iexact Hr0
  isplitl [Hr1]; · iexact Hr1
  isplitl [HO]; · iapply hav; iexact HO
  isplitl [HP]; · iexact HP
  iexact HB

variable (K : GSem nD τ sig → ℕ) (Ks : Dev nD × Fin 2 × Fin 2 → ℕ)
variable [FloatOps F]

/-- The scales' memrefs. -/
abbrev sxM : Memref sig .tc .smem S1 .f32 := Memref.whole cc0_stg5_0
abbrev swM : Memref sig .tc .smem S1 .f32 := Memref.whole cc0_stg6_0
/-- The neighbours' table. -/
abbrev nbM : Memref sig .tc .smem S2 .i32 := Memref.whole cc0_stg0_0

/-- What a device holds of its scales. -/
def Scales (c : Dev nD) (a b : Vec F S1 .f32) : sProp 𝕄 :=
  iprop(owns (c : Thread nD τ) sxM fullShare a ∗ owns (c : Thread nD τ) swM fullShare b)

/-- The scales' product. -/
def scaleOf (a b : Vec F S1 .f32) : F .f32 := Scalar.mulf (F := F) (a (ix1 (0 : Fin 1))) (b (ix1 (0 : Fin 1)))

/-- What follows the scales. -/
def rest (c : Dev nD) (a b : Elt F .f32) : Prog (TpuEff nD τ sig (Elt F) Λ₀ .tc) PUnit := do
  start (F := F) (lane 0) xM wM
  start (F := F) (lane 1) xM wM
  send (lane 0) (dst 0 c) 0 0
  send (lane 1) (dst 1 c) 0 0
  send (lane 0) (dst 0 c) 0 1
  send (lane 1) (dst 1 c) 0 1
  hop (F := F) (lane 0) (lane 1) (dst 1 c) (dst 0 c) xM wM true 0 (by decide)
  credit (F := F) (lane 0) (lane 1) (dst 1 c) (dst 0 c)
  hops (F := F) (lane 0) (lane 1) (dst 1 c) (dst 0 c) xM wM 28 1 (by decide)
  hop (F := F) (lane 0) (lane 1) (dst 1 c) (dst 0 c) xM wM false 29 (by decide)
  lastHop (F := F) (lane 0) (lane 1) xM wM outM (Scalar.mulf (F := F) a b)
  drain (F := F) (lane 0)
  drain (F := F) (lane 1)

/-- The hops and what follows them. -/
def tailOf (c : Dev nD) (s : F .f32) : Prog (TpuEff nD τ sig (Elt F) Λ₀ .tc) PUnit := do
  (do hop (F := F) (lane 0) (lane 1) (dst 1 c) (dst 0 c) xM wM true 0 (by decide)
      credit (F := F) (lane 0) (lane 1) (dst 1 c) (dst 0 c))
  hops (F := F) (lane 0) (lane 1) (dst 1 c) (dst 0 c) xM wM 28 1 (by decide)
  hop (F := F) (lane 0) (lane 1) (dst 1 c) (dst 0 c) xM wM false 29 (by decide)
  lastHop (F := F) (lane 0) (lane 1) xM wM outM s
  drain (F := F) (lane 0)
  drain (F := F) (lane 1)

theorem rest_eq (c : Dev nD) (a b : Elt F .f32) : rest c a b = (do
    start (F := F) (lane 0) xM wM
    start (F := F) (lane 1) xM wM
    send (lane 0) (dst 0 c) 0 0
    send (lane 1) (dst 1 c) 0 0
    send (lane 0) (dst 0 c) 0 1
    send (lane 1) (dst 1 c) 0 1
    tailOf c (Scalar.mulf (F := F) a b)) := by
  unfold tailOf
  rw [bind_assoc]
  rfl

theorem ring_eq (c : Dev nD) : ring (F := F) (lane 0) (lane 1) (dst 1 c) (dst 0 c) xM wM sxM swM outM = (do
    meet (F := F) (dst 1 c) (dst 0 c)
    let a : Elt F .f32 ← smemLoad sxM (Rect.unit (s := S1) ![0] S1.size inb_S1_S1_0) numel1_S1 rfl
    let b : Elt F .f32 ← smemLoad swM (Rect.unit (s := S1) ![0] S1.size inb_S1_S1_0) numel1_S1 rfl
    rest c a b) := rfl

/-- The hops, the totals and the last returns. -/
theorem runs_tail (I : Ins F) (c : Dev nD) (Q : PUnit → sProp 𝕄) :
    iprop(KnownOf K Ks I ∗ Owes c (dueFrom c 0) ∗ Held4 I c ∗ LaneAt c 0 0 ∗ LaneAt c 1 0 ∗ Outs4 c)
      ⊢ iprop((Owes c 0 ∗ Held4 I c ∗ LaneEnd c 0 ∗ LaneEnd c 1 ∗ Totals I c -∗ Q ⟨⟩)
          -∗ Runs c (tailOf c (I.sc c)) Q) := by
  have hstep := runs_step K Ks I c 0 (by decide)
  rw [decide_eq_true (rfl : (0 : ℕ) = 0)] at hstep
  have hhops := runs_hops K Ks I c 28 1 29 (by decide) rfl (le_refl _) Nat.one_pos
  have hlast := runs_hop K Ks I c 29 (by decide) 0 (above_zero _)
  rw [decide_eq_false (by decide : ¬ (29 : ℕ) = 0), zero_add] at hlast
  unfold tailOf
  iintro ⟨#HK, HO, HI, Ha, Hb, Hout⟩ Hk
  iapply (runs_bind c)
  iapply (hstep _) $$ [HO HI Ha Hb]
  · isplitr; · iexact HK
    isplitl [HO]; · iexact HO
    isplitl [HI]; · iexact HI
    isplitl [Ha]; · iexact Ha
    iexact Hb
  iintro ⟨HO, HI, Ha, Hb⟩
  iapply (runs_bind c)
  iapply (hhops _) $$ [HO HI Ha Hb]
  · isplitr; · iexact HK
    isplitl [HO]; · iexact HO
    isplitl [HI]; · iexact HI
    isplitl [Ha]; · iexact Ha
    iexact Hb
  iintro ⟨HO, HI, Ha, Hb⟩
  rw [dueFrom_last]
  unfold LaneAt
  icases Ha with ⟨Ha, -⟩
  icases Hb with ⟨Hb, -⟩
  iapply (runs_bind c)
  iapply (hlast _) $$ [HO HI Ha Hb]
  · isplitr; · iexact HK
    isplitl [HO]; · iexact HO
    isplitl [HI]; · iexact HI
    isplitl [Ha]; · iexact Ha
    iexact Hb
  iintro ⟨HO, HI, ⟨Ha, HaR⟩, ⟨Hb, HbR⟩⟩
  unfold Copies
  icases Ha with ⟨Ha0, Ha1, HaP, -⟩
  icases Hb with ⟨Hb0, Hb1, HbP, -⟩
  iapply (runs_bind c)
  iapply (runs_lastHop K Ks I c) $$ [HO HI Ha0 Ha1 Hb0 Hb1 Hout]
  · isplitr; · iexact HK
    isplitl [HO]; · iexact HO
    isplitl [HI]; · iexact HI
    isplitl [Ha0 Ha1]
    · isplitl [Ha0]; · iexact Ha0
      iexact Ha1
    isplitl [Hb0 Hb1]
    · isplitl [Hb0]; · iexact Hb0
      iexact Hb1
    iexact Hout
  iintro ⟨HO, HI, Ha, Hb, Hout⟩
  iapply (runs_bind c)
  iapply (runs_drain K Ks I c 0) $$ [HO Ha HaR HaP]
  · isplitr; · iexact HK
    isplitl [HO]; · iexact HO
    isplitl [Ha]; · iexact Ha
    isplitl [HaR]; · iexact HaR
    iexact HaP
  iintro ⟨HO, Ha⟩
  iapply (runs_drain K Ks I c 1) $$ [HO Hb HbR HbP]
  · isplitr; · iexact HK
    isplitl [HO]; · iexact HO
    isplitl [Hb]; · iexact Hb
    isplitl [HbR]; · iexact HbR
    iexact HbP
  iintro ⟨HO, Hb⟩
  iapply Hk
  isplitl [HO]; · iexact HO
  isplitl [HI]; · iexact HI
  isplitl [Ha]; · iexact Ha
  isplitl [Hb]; · iexact Hb
  iexact Hout

theorem above_start (c : Dev nD) : Above 1 (dueFrom c 0 + dueSends c 0) :=
  above_add (above_mono (by omega) (above_from c 0)) (above_sends c (by decide) (by decide))

/-- What a device holds as it comes to the meeting. -/
def RingPre (I : Ins F) (c : Dev nD) (a b : Vec F S1 .f32) : sProp 𝕄 :=
  iprop(Owes c (dueAll c) ∗ Held4 I c ∗ Scales c a b ∗ Outs4 c
    ∗ (Unmet c 0 ∗ Meets c 0) ∗ (Unmet c 1 ∗ Meets c 1) ∗ Due c .bar 0 2 ∗ At c .bar 0)

/-- What it holds at the end. -/
def RingPost (I : Ins F) (c : Dev nD) (a b : Vec F S1 .f32) : sProp 𝕄 :=
  iprop(Owes c 0 ∗ Held4 I c ∗ Scales c a b ∗ LaneEnd c 0 ∗ LaneEnd c 1 ∗ Totals I c ∗ At c .bar 1)

/-- The ring. -/
theorem runs_ring (I : Ins F) (c : Dev nD) (a b : Vec F S1 .f32) (hs : I.sc c = scaleOf a b) (Q : PUnit → sProp 𝕄) :
    iprop(KnownOf K Ks I ∗ RingPre I c a b)
      ⊢ iprop((RingPost I c a b -∗ Q ⟨⟩)
          -∗ Runs c (ring (F := F) (lane 0) (lane 1) (dst 1 c) (dst 0 c) xM wM sxM swM outM) Q) := by
  have hr0 : Ready c 0 ⊢ (Avail c 0 0 : sProp 𝕄) := by iintro ⟨H, -⟩; iexact H
  have hr1 : Ready c 1 ⊢ (Avail c 1 0 : sProp 𝕄) := by iintro ⟨H, -⟩; iexact H
  have hat (x : Vec F S1 .f32) (h1) : x ((Rect.unit (s := S1) ![0] S1.size inb_S1_S1_0).emb (Shape.Idx.first h1)) = x (ix1 (0 : Fin 1)) :=
    congrArg x (funext fun i => match i with | ⟨0, _⟩ => Subsingleton.elim (α := Fin 1) _ _)
  have hm : Scalar.mulf (F := F) (a (ix1 (0 : Fin 1))) (b (ix1 (0 : Fin 1))) = I.sc c := hs.symm
  rw [ring_eq]
  unfold RingPre RingPost Scales dueAll
  iintro ⟨#HK, HO, HI, ⟨Hsx, Hsw⟩, Hout, ⟨Hu0, Hm0, Hg0, #Hr0⟩, ⟨Hu1, Hm1, Hg1, #Hr1⟩, Hdue, Hat⟩ Hk
  iapply (runs_bind c)
  iapply (runs_meet K Ks I c (above_start c)) $$ [HO Hm0 Hg0 Hm1 Hg1 Hdue Hat]
  · isplitr; · iexact HK
    isplitl [HO]; · iexact HO
    isplitl [Hm0 Hg0]
    · isplitl [Hm0]; · iexact Hm0
      isplitl [Hg0]; · iexact Hg0
      iexact Hr0
    isplitl [Hm1 Hg1]
    · isplitl [Hm1]; · iexact Hm1
      isplitl [Hg1]; · iexact Hg1
      iexact Hr1
    isplitl [Hdue]; · iexact Hdue
    iexact Hat
  iintro ⟨HO, Hat, ⟨HA0, HB1⟩, ⟨HA1, HB0⟩⟩
  ihave HM0 := (met_of_unmet (F := F) c 0) $$ [Hu0 HA0 HB0]
  · isplitl [Hu0]; · iexact Hu0
    isplitl [HA0]; · iexact HA0
    isplitl [HB0]; · iexact HB0
    iapply hr0; iexact Hr0
  ihave HM1 := (met_of_unmet (F := F) c 1) $$ [Hu1 HA1 HB1]
  · isplitl [Hu1]; · iexact Hu1
    isplitl [HA1]; · iexact HA1
    isplitl [HB1]; · iexact HB1
    iapply hr1; iexact Hr1
  iapply (runs_bind c)
  iapply (runs_number c sxM (Rect.unit (s := S1) ![0] S1.size inb_S1_S1_0) numel1_S1 rfl a) $$ Hsx
  iintro Hsx
  iapply (runs_bind c)
  iapply (runs_number c swM (Rect.unit (s := S1) ![0] S1.size inb_S1_S1_0) numel1_S1 rfl b) $$ Hsw
  iintro Hsw
  rw [hat a, hat b, rest_eq, hm]
  iapply (runs_begin K Ks I c (tailOf c (I.sc c))) $$ [HO HI HM0 HM1]
  · isplitr; · iexact HK
    isplitl [HO]; · iexact HO
    isplitl [HI]; · iexact HI
    isplitl [HM0]; · iexact HM0
    iexact HM1
  iintro ⟨HO, HI, Ha, Hb⟩
  iapply (runs_tail K Ks I c) $$ [HO HI Ha Hb Hout]
  · isplitr; · iexact HK
    isplitl [HO]; · iexact HO
    isplitl [HI]; · iexact HI
    isplitl [Ha]; · iexact Ha
    isplitl [Hb]; · iexact Hb
    iexact Hout
  iintro ⟨HO, HI, Ha, Hb, Hout⟩
  iapply Hk
  isplitl [HO]; · iexact HO
  isplitl [HI]; · iexact HI
  isplitl [Hsx Hsw]
  · isplitl [Hsx]; · iexact Hsx
    iexact Hsw
  isplitl [Ha]; · iexact Ha
  isplitl [Hb]; · iexact Hb
  isplitl [Hout]; · iexact Hout
  iexact Hat

/-! ## The neighbours' table -/

/-- The neighbours' table of device `c`. -/
def nbOf (c : Dev nD) : Vec F S2 .i32 := fun i => word (F := F) (if (i 0).val = 0 then dst 1 c else dst 0 c)

theorem dev1_word (r : Fin 32) : k0_dev1 (BitVec.ofNat 32 r.val) = r.val := by revert r; decide
theorem dev2_word (r : Fin 32) : k0_dev2 (BitVec.ofNat 32 r.val) = r.val := by revert r; decide
theorem chk1_word (r : Fin 32) : k0_chk1 (BitVec.ofNat 32 r.val) := by
  have h : k0_dev1 (BitVec.ofNat 32 r.val) < nD := by rw [dev1_word]; exact r.isLt
  unfold k0_chk1 k0_chk1_0 k0_chk1_1 k0_chk1_2
  repeat' apply And.intro
  all_goals exact h
theorem chk2_word (r : Fin 32) : k0_chk2 (BitVec.ofNat 32 r.val) := by
  have h : k0_dev2 (BitVec.ofNat 32 r.val) < nD := by rw [dev2_word]; exact r.isLt
  unfold k0_chk2 k0_chk2_0 k0_chk2_1 k0_chk2_2
  repeat' apply And.intro
  all_goals exact h

/-- What follows the neighbours' numbers. -/
def bodyLast (v0 v1 : Elt F .i32) (h0 : k0_chk1 v0) (h1 : k0_chk2 v1) : Prog (TpuEff nD τ sig (Elt F) Λ₀ .tc) PUnit :=
  ring (F := F) (lane 0) (lane 1) ⟨k0_dev1 v0, k0_dev1_lt v0 h0⟩ ⟨k0_dev2 v1, k0_dev2_lt v1 h1⟩ xM wM sxM swM outM

/-- What follows the first of them. -/
def bodyRest (v0 : Elt F .i32) (h0 : k0_chk1 v0) : Prog (TpuEff nD τ sig (Elt F) Λ₀ .tc) PUnit := do
  let v1 : Elt F .i32 ← smemLoad nbM (Rect.unit (s := S2) ![1] S1.size inb_S2_S1_1) numel1_S1 rfl
  let h1 ← Prog.lift (TpuEff.assume (k0_chk2 v1) (k0_chk2.dec v1))
  bodyLast v0 v1 h0 h1.down

theorem body_eq : body (F := F) nbM (lane 0) (lane 1) xM wM sxM swM outM = (do
    let v0 : Elt F .i32 ← smemLoad nbM (Rect.unit (s := S2) ![0] S1.size inb_S2_S1_0) numel1_S1 rfl
    let h0 ← Prog.lift (TpuEff.assume (k0_chk1 v0) (k0_chk1.dec v0))
    bodyRest v0 h0.down) := rfl

theorem bodyLast_word (r s : Fin 32) (h0 : k0_chk1 (BitVec.ofNat 32 r.val)) (h1 : k0_chk2 (BitVec.ofNat 32 s.val)) :
    bodyLast (F := F) (BitVec.ofNat 32 r.val) (BitVec.ofNat 32 s.val) h0 h1
      = ring (F := F) (lane 0) (lane 1) r s xM wM sxM swM outM := by
  unfold bodyLast
  congr 1
  · exact Fin.ext (dev1_word r)
  · exact Fin.ext (dev2_word s)

/-- The whole body. -/
theorem runs_body (I : Ins F) (c : Dev nD) (a b : Vec F S1 .f32) (hs : I.sc c = scaleOf a b) (Q : PUnit → sProp 𝕄) :
    iprop(KnownOf K Ks I ∗ owns (c : Thread nD τ) nbM fullShare (nbOf c) ∗ RingPre I c a b)
      ⊢ iprop((owns (c : Thread nD τ) nbM fullShare (nbOf c) ∗ RingPost I c a b -∗ Q ⟨⟩)
          -∗ Runs c (body (F := F) nbM (lane 0) (lane 1) xM wM sxM swM outM) Q) := by
  have hr0 (h1) : (nbOf c : Vec F S2 .i32) ((Rect.unit (s := S2) ![0] S1.size inb_S2_S1_0).emb (Shape.Idx.first h1))
      = BitVec.ofNat 32 (dst 1 c).val := rfl
  have hr1 (h1) : (nbOf c : Vec F S2 .i32) ((Rect.unit (s := S2) ![1] S1.size inb_S2_S1_1).emb (Shape.Idx.first h1))
      = BitVec.ofNat 32 (dst 0 c).val := rfl
  have ha0 (Q : PLift (k0_chk1 (BitVec.ofNat 32 (dst 1 c).val)) → sProp 𝕄) :=
    runs_assume (F := F) c (dec := k0_chk1.dec (BitVec.ofNat 32 (dst 1 c).val)) (chk1_word (dst 1 c)) Q
  have ha1 (Q : PLift (k0_chk2 (BitVec.ofNat 32 (dst 0 c).val)) → sProp 𝕄) :=
    runs_assume (F := F) c (dec := k0_chk2.dec (BitVec.ofNat 32 (dst 0 c).val)) (chk2_word (dst 0 c)) Q
  rw [body_eq]
  iintro ⟨#HK, Hn, HR⟩ Hk
  iapply (runs_bind c)
  iapply (runs_number c nbM (Rect.unit (s := S2) ![0] S1.size inb_S2_S1_0) numel1_S1 rfl (nbOf c)) $$ Hn
  iintro Hn
  rw [hr0]
  iapply (runs_bind c)
  iapply (ha0 _)
  unfold bodyRest
  iapply (runs_bind c)
  iapply (runs_number c nbM (Rect.unit (s := S2) ![1] S1.size inb_S2_S1_1) numel1_S1 rfl (nbOf c)) $$ Hn
  iintro Hn
  rw [hr1]
  iapply (runs_bind c)
  iapply (ha1 _)
  rw [bodyLast_word]
  iapply (runs_ring K Ks I c a b hs) $$ [HR]
  · isplitr; · iexact HK
    iexact HR
  iintro HR
  iapply Hk
  isplitl [Hn]; · iexact Hn
  iexact HR

end Cert.KernelIdeal.Ring
-- ==== Proof.Cells.lean ====
/-
  A kernel's own semaphores: opened as it begins, closed as it ends.
-/
module

public import proofs.«01_k».proof.Proof.Ring

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.ValueIdx
open Cert.KernelIdeal.Gen

variable {F : FTy → Type}

local notation "𝕄" => MT nD τ sig ℕ (Elt F) ℕ UU ℕ

/-- A name for each of the kernel's own semaphores: its lane, and whether it counts credits or which
    flit's copies, sent (0) or landed (1), of which slot. -/
abbrev Own : Type := Fin 2 × (Unit ⊕ (Fin 2 × Fin 2 × Fin 2))

/-- The role so named. -/
def roleOwn : Own → Role
  | (d, .inl _) => .credit d
  | (d, .inr (f, b, s)) => if b = 0 then .sent d s f else .landed d s f

/-- The kernel's own semaphores. -/
def ownSem (k : Own) : SemLoc sig := (roleOwn k).sem

theorem roleOwn_inj {k k' : Own} (h : roleOwn k = roleOwn k') : k = k' := by
  revert k k'; decide

theorem roleOwn_ne_bar (k : Own) : roleOwn k ≠ .bar := by revert k; decide

/-- Every role but the barrier's is named. -/
theorem roleOwn_surj (x : Role) : x = .bar ∨ ∃ k, roleOwn k = x := by
  cases x with
  | bar => exact .inl rfl
  | credit d => exact .inr ⟨(d, .inl ()), rfl⟩
  | sent d s f => exact .inr ⟨(d, .inr (f, 0, s)), rfl⟩
  | landed d s f => exact .inr ⟨(d, .inr (f, 1, s)), rfl⟩

/-- One thing for each semaphore of a flit. -/
def perFlit (Φ : Role → sProp 𝕄) (d f : Fin 2) : sProp 𝕄 :=
  iprop((Φ (.sent d (par 0) f) ∗ Φ (.sent d (par 1) f)) ∗ (Φ (.landed d (par 0) f) ∗ Φ (.landed d (par 1) f)))

/-- One thing for each semaphore of a lane. -/
def perLane (Φ : Role → sProp 𝕄) (d : Fin 2) : sProp 𝕄 :=
  iprop(Φ (.credit d) ∗ (perFlit Φ d 0 ∗ perFlit Φ d 1))

/-- The semaphores, lane by lane. -/
theorem own_lanes (Φ : Role → sProp 𝕄) :
    bigSep (Finset.univ : Finset Own) (fun k => Φ (roleOwn k)) = iprop(perLane Φ 0 ∗ perLane Φ 1) := by
  rw [bigSep_univ_prod, bigSep_fin_two, bigSep_univ_sum, bigSep_univ_sum, bigSep_univ_prod, bigSep_univ_prod,
    bigSep_fin_two, bigSep_fin_two, bigSep_univ_prod, bigSep_univ_prod, bigSep_univ_prod, bigSep_univ_prod,
    bigSep_univ_of_subsingleton (), bigSep_univ_of_subsingleton ()]
  simp only [bigSep_fin_two]
  rfl

variable (part : Fin 2 → Dev nD → Fin 2 → ℕ → FlitVec F) (K : GSem nD τ sig → ℕ) (Ks : Dev nD × Fin 2 × Fin 2 → ℕ)

/-- Opening the kernel's own semaphores. -/
theorem open_own (c : Dev nD) :
    iprop(Known part K Ks ∗ bigSep (Finset.univ : Finset Own) (fun k => openTok ER (cell c (roleOwn k)))
        ∗ Pipeline.ownSems0 ownSem c)
      ⊢ (|={Set.univ}=> bigSep (Finset.univ : Finset Own) (fun k => iprop(At c (roleOwn k) 0 ∗ Begun c (roleOwn k) 0)) : sProp 𝕄) := by
  have h (k : Own) : iprop(Known part K Ks ∗ (openTok ER (cell c (roleOwn k)) ∗ semVal ((c.tc : Thread nD τ), ownSem k) 0))
      ⊢ (|={Set.univ}=> (At c (roleOwn k) 0 ∗ Begun c (roleOwn k) 0) : sProp 𝕄) := by
    iintro ⟨#HK, Ho, Hv⟩
    iapply (Rounds.cell_open ER (sched part) (g := cell c (roleOwn k)) (Set.mem_univ (K (cell c (roleOwn k)))))
    isplitr; · iapply (known_cell part K Ks c (roleOwn k)); iexact HK
    isplitl [Ho]; · iexact Ho
    iexact Hv
  have hall : iprop(Known part K Ks ∗ bigSep (Finset.univ : Finset Own)
        (fun k => iprop(openTok ER (cell c (roleOwn k)) ∗ semVal ((c.tc : Thread nD τ), ownSem k) 0)))
      ⊢ bigSep (Finset.univ : Finset Own) (fun k => iprop(|={Set.univ}=> (At c (roleOwn k) 0 ∗ Begun c (roleOwn k) 0) : sProp 𝕄)) :=
    bigSep_with_persistent fun k _ => h k
  have hf := hall.trans (bigSep_fupd _ _)
  rw [bigSep_sep'] at hf
  unfold Pipeline.ownSems0
  exact hf

/-- How many rounds each of the kernel's own semaphores has. -/
def rounds : Role → ℕ
  | .bar => 1
  | .credit _ => 1
  | .sent _ s _ => 16 - s.val
  | .landed _ s _ => 16 - s.val

theorem closing (c : Dev nD) (x : Role) :
    iprop(Known part K Ks ∗ At c x (rounds x)) ⊢ (|={Set.univ}=> semVal (cell c x) 0 : sProp 𝕄) := by
  iintro ⟨#HK, Ha⟩
  iapply (Rounds.cell_close ER (sched part) (g := cell c x) (Set.mem_univ (K (cell c x))) id
    (duties_after part (c := c) (x := x) (R := rounds x) (by
      cases x with
      | bar => exact le_refl _
      | credit d => exact le_refl _
      | sent d s f => show 31 ≤ 2 * (16 - s.val) + s.val; omega
      | landed d s f => show 31 ≤ 2 * (16 - s.val) + s.val; omega)))
  isplitr; · iapply (known_cell part K Ks c x); iexact HK
  iexact Ha

/-- Closing them. -/
theorem close_own (c : Dev nD) :
    iprop(Known part K Ks ∗ perLane (fun x => At c x (rounds x)) 0 ∗ perLane (fun x => At c x (rounds x)) 1)
      ⊢ (|={Set.univ}=> Pipeline.ownSems0 ownSem c : sProp 𝕄) := by
  have hall : iprop(Known part K Ks ∗ bigSep (Finset.univ : Finset Own) (fun k => At c (roleOwn k) (rounds (roleOwn k))))
      ⊢ bigSep (Finset.univ : Finset Own) (fun k => iprop(|={Set.univ}=> semVal (cell c (roleOwn k)) 0 : sProp 𝕄)) :=
    bigSep_with_persistent fun k _ => closing part K Ks c (roleOwn k)
  have hf := hall.trans (bigSep_fupd _ _)
  rw [own_lanes (fun x => At c x (rounds x))] at hf
  unfold Pipeline.ownSems0
  exact hf

end Cert.KernelIdeal.Ring
-- ==== Proof.Whole.lean ====
/-
  The body between what a launch gives it and what it gives back.
-/
module

public import proofs.«01_k».proof.Proof.Cells

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.ValueIdx
open Cert.KernelIdeal.Gen

variable {F : FTy → Type}

local notation "𝕄" => MT nD τ sig ℕ (Elt F) ℕ UU ℕ

/-- What the launch's ghost state gives a lane. -/
def GhostLane (c : Dev nD) (d : Fin 2) : sProp 𝕄 :=
  iprop(Tok (src d c) .bar 0 d.val ∗ Begun (src d c) .bar 0 ∗ (Rights c d 0 0 ∗ Rights c d 1 0) ∗ Takes c d 0 ∗ PayToks c d
    ∗ (readerAt ES (c, d, par 0) 0 ∗ readerAt ES (c, d, par 1) 0))

/-- What is to come for a lane. -/
def CredLane (c : Dev nD) (d : Fin 2) : sProp 𝕄 :=
  iprop((Coming c d 0 0 ∗ Coming c d 1 0) ∗ bigSep (Finset.Ico 0 29) (fun j => Due c (.credit d) j 1))

/-- A lane's two buffers, whole, at any contents. -/
def Bufs (c : Dev nD) (d : Fin 2) : sProp 𝕄 :=
  iprop((∃ X : Vec F S2x128x1024 .i32, owns (c : Thread nD τ) (lane d).acc fullShare X)
    ∗ ∃ X : Vec F S2x128x1024 .i32, owns (c : Thread nD τ) (lane d).rcv fullShare X)

variable (K : GSem nD τ sig → ℕ) (Ks : Dev nD × Fin 2 × Fin 2 → ℕ)
variable [FloatOps F]

/-- A lane's start: its landing slots released, its cells at their beginnings. -/
theorem begin_lane (I : Ins F) (c : Dev nD) (d : Fin 2) :
    iprop(KnownOf K Ks I ∗ GhostLane c d ∗ CredLane c d ∗ Bufs c d
        ∗ perLane (fun x => iprop(At c x 0 ∗ Begun c x 0)) d ∗ Begun c (.credit (1 - d)) 0)
      ⊢ (|={Set.univ}=> (Unmet c d ∗ Meets c d) : sProp 𝕄) := by
  unfold GhostLane CredLane Bufs perLane perFlit
  iintro ⟨#HK, ⟨Htb, Hbb, ⟨Hr0, Hr1⟩, HT, HP, HR0, HR1⟩, ⟨⟨Hc0, Hc1⟩, Hcr⟩, ⟨⟨%X, HX⟩, ⟨%Y, HY⟩⟩,
    ⟨⟨Hca, -⟩, ⟨⟨⟨⟨Hs00, Hb00⟩, Hs01, Hb01⟩, ⟨Hl00, #Hn00⟩, Hl01, #Hn01⟩, ⟨⟨Hs10, Hb10⟩, Hs11, Hb11⟩, ⟨Hl10, #Hn10⟩, Hl11, #Hn11⟩⟩, Hoc⟩
  ihave HF := (flits_of_whole (F := F) c (lane d).acc X) $$ HX
  ihave HG := (flits_of_whole (F := F) c (lane d).rcv Y) $$ HY
  unfold Flits
  icases HG with ⟨HG0, HG1⟩
  imod (release_first K Ks (partOf I.pv) c d) $$ [HR0 HR1 HG0 HG1] with ⟨HR0, HR1, HA⟩
  · isplitr; · iexact HK
    isplitl [HR0 HG0]
    · isplitl [HR0]; · iexact HR0
      unfold Slot; iexact HG0
    isplitl [HR1 HG1]
    · isplitl [HR1]; · iexact HR1
      unfold Slot; iexact HG1
    isplitr
    · isplitr; · iexact Hn00
      iexact Hn10
    · isplitr; · iexact Hn01
      iexact Hn11
  imodintro
  isplitr [Htb Hbb HA Hoc]
  · unfold Unmet Fresh Flits
    isplitl [HF]; · iexact HF
    isplitl [Hs00 Hb00 Hs01 Hb01 Hl00 Hl01 Hc0 Hr0]
    · isplitl [Hs00 Hb00]
      · isplitl [Hs00]; · iexact Hs00
        iexact Hb00
      isplitl [Hs01 Hb01]
      · isplitl [Hs01]; · iexact Hs01
        iexact Hb01
      isplitl [Hl00 Hl01]
      · isplitl [Hl00]; · iexact Hl00
        iexact Hl01
      isplitl [Hc0]; · iexact Hc0
      iexact Hr0
    isplitl [Hs10 Hb10 Hs11 Hb11 Hl10 Hl11 Hc1 Hr1]
    · isplitl [Hs10 Hb10]
      · isplitl [Hs10]; · iexact Hs10
        iexact Hb10
      isplitl [Hs11 Hb11]
      · isplitl [Hs11]; · iexact Hs11
        iexact Hb11
      isplitl [Hl10 Hl11]
      · isplitl [Hl10]; · iexact Hl10
        iexact Hl11
      isplitl [Hc1]; · iexact Hc1
      iexact Hr1
    isplitl [HT]; · iexact HT
    isplitl [Hcr Hca]
    · iapply (credits_zero (F := F) c d)
      isplitl [Hcr]; · iexact Hcr
      iexact Hca
    isplitl [HR0 HR1]
    · isplitl [HR0]; · iexact HR0
      iexact HR1
    iexact HP
  · isplitl [Htb]; · iexact Htb
    isplitl [Hbb]; · iexact Hbb
    isplitl [HA]; · iexact HA
    iexact Hoc

/-- A lane's end: its cells as they close. -/
theorem end_lane [∀ e, Nonempty (Elt F e)] (c : Dev nD) (d : Fin 2) :
    LaneEnd c d ⊢ (iprop(Bufs c d ∗ perLane (fun x => At c x (rounds x)) d) : sProp 𝕄) := by
  unfold LaneEnd FlitEnd Bufs perLane perFlit
  iintro ⟨Ha, Hr, ⟨⟨Hs00, Hs01⟩, Hl00, Hl01⟩, ⟨⟨Hs10, Hs11⟩, Hl10, Hl11⟩, Hc⟩
  isplitl [Ha Hr]
  · isplitl [Ha]
    · iapply (whole_of_flits (F := F) c (lane d).acc); iexact Ha
    · iapply (whole_of_flits (F := F) c (lane d).rcv); iexact Hr
  isplitl [Hc]; · iexact Hc
  isplitl [Hs00 Hs01 Hl00 Hl01]
  · isplitl [Hs00 Hs01]
    · isplitl [Hs00]; · iexact Hs00
      iexact Hs01
    · isplitl [Hl00]; · iexact Hl00
      iexact Hl01
  · isplitl [Hs10 Hs11]
    · isplitl [Hs10]; · iexact Hs10
      iexact Hs11
    · isplitl [Hl10]; · iexact Hl10
      iexact Hl11

/-- What the launch and the opening of its semaphores give a device's body. -/
def Opened (I : Ins F) (c : Dev nD) : sProp 𝕄 :=
  iprop((∃ K Ks, KnownOf K Ks I ∗ At c .bar 0
      ∗ bigSep (Finset.univ : Finset Own) (fun k => iprop(At c (roleOwn k) 0 ∗ Begun c (roleOwn k) 0))
      ∗ GhostLane c 0 ∗ GhostLane c 1)
    ∗ CredLane c 0 ∗ CredLane c 1 ∗ Due c .bar 0 2)

/-- What the body reads and writes, at result `Z`. -/
def Operands (I : Ins F) (c : Dev nD) (a b : Vec F S1 .f32) (Z : Vec F S128x2048 .f32) : sProp 𝕄 :=
  iprop(owns (c : Thread nD τ) nbM fullShare (nbOf c) ∗ Held4 I c ∗ Scales c a b ∗ owns (c : Thread nD τ) outM fullShare Z)

/-- The body of a device. -/
theorem runs_whole [∀ e, Nonempty (Elt F e)] (I : Ins F) (c : Dev nD) (a b : Vec F S1 .f32) (hs : I.sc c = scaleOf a b)
    (Z : Vec F S128x2048 .f32) (Q : PUnit → sProp 𝕄) :
    iprop(Opened I c ∗ Owes c (dueAll c) ∗ Operands I c a b Z ∗ Bufs c 0 ∗ Bufs c 1)
      ⊢ iprop((Owes c 0 ∗ Operands I c a b (outVec I c) ∗ Bufs c 0 ∗ Bufs c 1
            ∗ semVal (cell c .bar) 0 ∗ Pipeline.ownSems0 ownSem c -∗ Q ⟨⟩)
          -∗ Runs c (body (F := F) nbM (lane 0) (lane 1) xM wM sxM swM outM) Q) := by
  have hcr0 : (perLane (fun x => iprop(At c x 0 ∗ Begun c x 0)) 0 : sProp 𝕄)
      ⊢ iprop(perLane (fun x => iprop(At c x 0 ∗ Begun c x 0)) 0 ∗ Begun c (.credit 0) 0) := by
    unfold perLane
    iintro ⟨⟨Ha, #Hb⟩, H⟩
    isplitl [Ha H]
    · isplitl [Ha]
      · isplitl [Ha]; · iexact Ha
        iexact Hb
      iexact H
    iexact Hb
  have hcr1 : (perLane (fun x => iprop(At c x 0 ∗ Begun c x 0)) 1 : sProp 𝕄)
      ⊢ iprop(perLane (fun x => iprop(At c x 0 ∗ Begun c x 0)) 1 ∗ Begun c (.credit 1) 0) := by
    unfold perLane
    iintro ⟨⟨Ha, #Hb⟩, H⟩
    isplitl [Ha H]
    · isplitl [Ha]
      · isplitl [Ha]; · iexact Ha
        iexact Hb
      iexact H
    iexact Hb
  unfold Opened Operands
  rw [own_lanes (fun x => iprop(At c x 0 ∗ Begun c x 0))]
  iintro ⟨⟨⟨%K, %Ks, #HK, Hbar, ⟨Hl0, Hl1⟩, Hg0, Hg1⟩, Hd0, Hd1, Hdue⟩, HO, ⟨Hn, HI, HS, HZ⟩, HB0, HB1⟩ Hk
  ihave Hl0' := hcr0 $$ Hl0
  icases Hl0' with ⟨Hl0, Hc0⟩
  ihave Hl1' := hcr1 $$ Hl1
  icases Hl1' with ⟨Hl1, Hc1⟩
  imod (begin_lane K Ks I c 0) $$ [Hg0 Hd0 HB0 Hl0 Hc1] with ⟨Hu0, Hm0⟩
  · isplitr; · iexact HK
    isplitl [Hg0]; · iexact Hg0
    isplitl [Hd0]; · iexact Hd0
    isplitl [HB0]; · iexact HB0
    isplitl [Hl0]; · iexact Hl0
    iexact Hc1
  imod (begin_lane K Ks I c 1) $$ [Hg1 Hd1 HB1 Hl1 Hc0] with ⟨Hu1, Hm1⟩
  · isplitr; · iexact HK
    isplitl [Hg1]; · iexact Hg1
    isplitl [Hd1]; · iexact Hd1
    isplitl [HB1]; · iexact HB1
    isplitl [Hl1]; · iexact Hl1
    iexact Hc0
  iapply (runs_fupd c)
  iapply (runs_body K Ks I c a b hs) $$ [Hn HO HI HS HZ Hu0 Hm0 Hu1 Hm1 Hdue Hbar]
  · isplitr; · iexact HK
    isplitl [Hn]; · iexact Hn
    unfold RingPre
    isplitl [HO]; · iexact HO
    isplitl [HI]; · iexact HI
    isplitl [HS]; · iexact HS
    isplitl [HZ]; · iapply (blocks_of_out c Z); iexact HZ
    isplitl [Hu0 Hm0]
    · isplitl [Hu0]; · iexact Hu0
      iexact Hm0
    isplitl [Hu1 Hm1]
    · isplitl [Hu1]; · iexact Hu1
      iexact Hm1
    isplitl [Hdue]; · iexact Hdue
    iexact Hbar
  unfold RingPost
  iintro ⟨Hn, HO, HI, HS, He0, He1, HT, Hbar⟩
  ihave He0' := (end_lane (F := F) c 0) $$ He0
  icases He0' with ⟨HB0, Hp0⟩
  ihave He1' := (end_lane (F := F) c 1) $$ He1
  icases He1' with ⟨HB1, Hp1⟩
  imod (close_own (partOf I.pv) K Ks c) $$ [Hp0 Hp1] with Hown
  · isplitr; · iexact HK
    isplitl [Hp0]; · iexact Hp0
    iexact Hp1
  imod (closing (partOf I.pv) K Ks c .bar) $$ [Hbar] with Hv
  · isplitr; · iexact HK
    iexact Hbar
  imodintro
  iapply Hk
  isplitl [HO]; · iexact HO
  isplitl [Hn HI HS HT]
  · isplitl [Hn]; · iexact Hn
    isplitl [HI]; · iexact HI
    isplitl [HS]; · iexact HS
    iapply (out_of_totals I c); iexact HT
  isplitl [HB0]; · iexact HB0
  isplitl [HB1]; · iexact HB1
  isplitl [Hv]; · iexact Hv
  iexact Hown

end Cert.KernelIdeal.Ring
-- ==== Proof.BodyEq.lean ====
/-
  The printed body of the kernel, straight-line text, is the ring of `Body.lean`.
-/
module

public import proofs.«01_k».proof.Proof.Body

@[expose] public section

noncomputable section

namespace Cert.KernelIdeal.Ring

open Idealize.ShloMosaic Idealize.SL.Sem Cert.KernelIdeal.Gen

variable {F : FTy → Type} [FloatOps F]

set_option maxRecDepth 1000000 in
set_option maxHeartbeats 0 in
/-- The printed body is the ring: both unfold to the same sequence of operations. -/
theorem cc0_body_eq (arg0 : Memref sig .tc .smem S2 .i32) (harg0 : arg0.IsWhole) (arg1 : Memref sig .tc .smem S32 .i32) (harg1 : arg1.IsWhole) (arg2 : Memref sig .tc .smem S32 .i32) (harg2 : arg2.IsWhole) (arg3 : Memref sig .tc .vmem S4096x128 .i8) (harg3 : arg3.IsWhole) (arg4 : Memref sig .tc .vmem S128x2048 .i8) (harg4 : arg4.IsWhole) (arg5 : Memref sig .tc .smem S1 .f32) (harg5 : arg5.IsWhole) (arg6 : Memref sig .tc .smem S1 .f32) (harg6 : arg6.IsWhole) (arg7 : Memref sig .tc .vmem S128x2048 .f32) (harg7 : arg7.IsWhole) (arg8 : Memref sig .tc .vmem S2x128x1024 .i32) (harg8 : arg8.IsWhole) (arg9 : Memref sig .tc .vmem S2x128x1024 .i32) (harg9 : arg9.IsWhole) (arg10 : Memref sig .tc .vmem S2x128x1024 .i32) (harg10 : arg10.IsWhole) (arg11 : Memref sig .tc .vmem S2x128x1024 .i32) (harg11 : arg11.IsWhole) (arg12 : DmaSems sig S2x2) (arg13 : DmaSems sig S2x2) (arg14 : DmaSems sig S2x2) (arg15 : DmaSems sig S2x2) (arg16 : Sems sig S_) (arg17 : Sems sig S_) :
    cc0_body (F := F) arg0 harg0 arg1 harg1 arg2 harg2 arg3 harg3 arg4 harg4 arg5 harg5 arg6 harg6 arg7 harg7 arg8 harg8 arg9 harg9 arg10 harg10 arg11 harg11 arg12 arg13 arg14 arg15 arg16 arg17
      = body arg0 ⟨arg8, arg9, arg12, arg13, arg16, arg1, 0⟩ ⟨arg10, arg11, arg14, arg15, arg17, arg2, 1⟩
          arg3 arg4 arg5 arg6 arg7 := by
  dsimp only [cc0_body, k0_part1, k0_part2, k0_part3, k0_part4, k0_part5, k0_part6, k0_part7, k0_part8,
    k0_part9, k0_part10, k0_part11, k0_part12, k0_part13, k0_part14, k0_part15, k0_part16, k0_part17,
    k0_part18, k0_part19, k0_part20, k0_part21, k0_part22, k0_part23, k0_part24, k0_part25, k0_part26,
    k0_part27, k0_part28, k0_part29, k0_part30, k0_part31, k0_part32, k0_part33, k0_part34, k0_part35,
    k0_part36, k0_part37, k0_part38, k0_part39, k0_part40, k0_part41, k0_part42, k0_part43, k0_part44,
    k0_part45, k0_part46, k0_part47, k0_part48, k0_part49, k0_part50, k0_part51, k0_part52, k0_part53,
    k0_part54, k0_part55, k0_part56, k0_part57, k0_part58, k0_part59, k0_part60, k0_part61, k0_part62,
    k0_part63, k0_part64, k0_part65, k0_part66, k0_part67, k0_part68, k0_part69, k0_part70, k0_part71,
    k0_part72, k0_part73, k0_part74, k0_part75, k0_part76, k0_part77, k0_part78, k0_part79, k0_part80,
    k0_part81, k0_part82, k0_part83, k0_part84, k0_part85, k0_part86, k0_part87, k0_part88, k0_part89,
    k0_part90, k0_part91, k0_part92, k0_part93, k0_part94, k0_part95, k0_part96, k0_part97, k0_part98,
    k0_part99, k0_part100, k0_part101, k0_part102, k0_part103, k0_part104, k0_part105, k0_part106,
    k0_part107, k0_part108, k0_part109, k0_part110, k0_part111, k0_part112, k0_part113, k0_part114,
    k0_part115, k0_part116, k0_part117, k0_part118, k0_part119, k0_part120, k0_part121, k0_part122,
    k0_part123, k0_part124, k0_part125, k0_part126, k0_part127, k0_part128, k0_part129, k0_part130,
    k0_part131, k0_part132, k0_part133, k0_part134, k0_part135, k0_part136, k0_part137, k0_part138,
    k0_part139, k0_part140, k0_part141, k0_part142, k0_part143, k0_part144, k0_part145, k0_part146,
    k0_part147, k0_part148, k0_part149, k0_part150, k0_part151, k0_part152, k0_part153, k0_part154,
    k0_part155, k0_part156, k0_part157, k0_part158, k0_part159, k0_part160, k0_part161, k0_part162,
    k0_part163, k0_part164, k0_part165, k0_part166, k0_part167, k0_part168, k0_part169, k0_part170,
    k0_part171, k0_part172, k0_part173, k0_part174, k0_part175, k0_part176, k0_part177, k0_part178,
    k0_part179, k0_part180, k0_part181, k0_part182, k0_part183, k0_part184, k0_part185, Prog.bind_ret,
    Prog.bind_op, Prog.bind_lift, Prog.pure_eq_ret, Prog.lift, smemLoad, smemLoadElt, semWaitWord,
    semSignalWord]
  dsimp only [body, ring, meet, start, product, hop, hops, credit, flit, lastHop, lastFlit, drain, send,
    waitLanded, waitSent, loadFlit, smemLoad, smemLoadElt, semWaitWord, semSignalWord, Prog.bind_ret,
    Prog.bind_op, Prog.bind_lift, Prog.pure_eq_ret, Prog.lift]
  rfl

end Cert.KernelIdeal.Ring
-- ==== Proof.Region.lean ====
/-
  The kernel region: what its windows hold before and after, and its body as the pipeline calls it.
-/
module

public import proofs.«01_k».proof.Proof.Whole
public import proofs.«01_k».proof.Proof.BodyEq
public import proofs.«01_k».proof.Proof.Gen.KernelIdeal.Points
public import proofs.«01_k».proof.Proof.Gen.KernelIdeal.Launch
public import Idealize.ShloMosaic.Lib.Pipeline.TalkSched
public import Idealize.ShloMosaic.Lib.Pipeline.RegionTalk

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.ValueIdx
open Idealize.ShloMosaic.Pipeline (Dat BodyObligation)
open Cert.KernelIdeal.Gen

variable {F : FTy → Type}

local notation "𝕄" => MT nD τ sig ℕ (Elt F) ℕ UU ℕ

variable [FloatOps F]

/-- A device's contents at the region's entry. -/
abbrev Vals (F : FTy → Type) : Type := Dev nD → Valuation τ sig (Elt F)

/-- The kernel's inputs, read off the contents at the region's entry. -/
def insOf (V : Vals F) : Ins F where
  x c := V c main_arg0
  w c := V c main_arg1
  sc c := scaleOf (F := F) (V c main_arg2) (V c main_arg3)

/-- The three tables of numbers hold what the host operations are to leave there. -/
structure Tables (V : Vals F) : Prop where
  nb : ∀ c, V c main_v49 = (nbOf c : Vec F S2 .i32)
  cw : ∀ c, V c main_v21 = (tabOf 0 c : Vec F S32 .i32)
  ccw : ∀ c, V c main_v32 = (tabOf 1 c : Vec F S32 .i32)

/-- What a device's body is entered with. -/
def Entry (V : Vals F) (c : Dev nD) : sProp 𝕄 :=
  iprop(Bufs c 0 ∗ Bufs c 1 ∗ (∃ r, prngReg c r) ∗ Opened (insOf V) c)
/-- What it leaves. -/
def Exit (c : Dev nD) : sProp 𝕄 :=
  iprop(Bufs c 0 ∗ Bufs c 1 ∗ (∃ r, prngReg c r) ∗ semVal (cell c .bar) 0 ∗ Pipeline.ownSems0 ownSem c)

/-- The region's data: the windows' contents, the body's invariant and what is owed. -/
def dats (V : Vals F) (_ : Fin 1) (c : Dev nD) : Dat τ (Elt F) ℕ ℕ UU ℕ cfg0 c where
  A w := V c (Proc.devRef .tc (Pipeline.arrRef spec0 w))
  after w _ := match w with
    | ⟨0, _⟩ => (nbOf c : Vec F S2 .i32)
    | ⟨1, _⟩ => (tabOf 0 c : Vec F S32 .i32)
    | ⟨2, _⟩ => (tabOf 1 c : Vec F S32 .i32)
    | ⟨3, _⟩ => (insOf V).x c
    | ⟨4, _⟩ => (insOf V).w c
    | ⟨5, _⟩ => V c main_arg2
    | ⟨6, _⟩ => V c main_arg3
    | ⟨7, _⟩ => outVec (insOf V) c
  Φ t := match t with
    | ⟨0, _⟩ => Entry V c
    | ⟨_ + 1, _⟩ => Exit c
  q _ := fullShare
  owed t := match t with
    | ⟨0, _⟩ => dueAll c
    | ⟨_ + 1, _⟩ => 0

variable (V : Vals F) (c : Dev nD)

/-- A block that is the whole array sits in it place by place. -/
theorem at_same {n k : ℕ} : 0 * n + 1 * k = k := by omega

theorem fetched_nb (d) : (dats V 0 c).fetched (0 : Fin 8) t0_0 d = V c main_v49 := by
  funext j
  exact congrArg (V c main_v49) (show (((cfg0.win 0).blk t0_0).view.emb j) = j from funext fun a => Fin.ext at_same)
theorem fetched_cw (d) : (dats V 0 c).fetched (1 : Fin 8) t0_0 d = V c main_v21 := by
  funext j
  exact congrArg (V c main_v21) (show (((cfg0.win 1).blk t0_0).view.emb j) = j from funext fun a => Fin.ext at_same)
theorem fetched_ccw (d) : (dats V 0 c).fetched (2 : Fin 8) t0_0 d = V c main_v32 := by
  funext j
  exact congrArg (V c main_v32) (show (((cfg0.win 2).blk t0_0).view.emb j) = j from funext fun a => Fin.ext at_same)
theorem fetched_x (d) : (dats V 0 c).fetched (3 : Fin 8) t0_0 d = V c main_arg0 := by
  funext j
  exact congrArg (V c main_arg0) (show (((cfg0.win 3).blk t0_0).view.emb j) = j from funext fun a => Fin.ext at_same)
theorem fetched_w (d) : (dats V 0 c).fetched (4 : Fin 8) t0_0 d = V c main_arg1 := by
  funext j
  exact congrArg (V c main_arg1) (show (((cfg0.win 4).blk t0_0).view.emb j) = j from funext fun a => Fin.ext at_same)
theorem fetched_sx (d) : (dats V 0 c).fetched (5 : Fin 8) t0_0 d = V c main_arg2 := by
  funext j
  exact congrArg (V c main_arg2) (show (((cfg0.win 5).blk t0_0).view.emb j) = j from funext fun a => Fin.ext at_same)
theorem fetched_sw (d) : (dats V 0 c).fetched (6 : Fin 8) t0_0 d = V c main_arg3 := by
  funext j
  exact congrArg (V c main_arg3) (show (((cfg0.win 6).blk t0_0).view.emb j) = j from funext fun a => Fin.ext at_same)
/-- The result's array after the region. -/
theorem arr_out : (dats V 0 c).arrAt (7 : Fin 8) cfg0.N = outVec (insOf V) c := by
  rw [show cfg0.N = 0 + 1 from N_0]
  show (if h : 0 < cfg0.N then
      if (cfg0.win 7).flush ⟨0, h⟩ then ((cfg0.win 7).blk ⟨0, h⟩).view.write (Elt F) ((dats V 0 c).arrAt (7 : Fin 8) 0)
        ((dats V 0 c).flushed (7 : Fin 8) ⟨0, h⟩) Finset.univ else (dats V 0 c).arrAt (7 : Fin 8) 0
      else (dats V 0 c).arrAt (7 : Fin 8) 0) = outVec (insOf V) c
  rw [dif_pos (show 0 < cfg0.N from by rw [show cfg0.N = 1 from N_0]; exact Nat.one_pos), if_pos (flush0_7 _)]
  funext j
  have he : (((cfg0.win 7).blk t0_0).view.emb j) = j := funext fun a => Fin.ext at_same
  refine (congrArg _ he.symm).trans ?_
  refine (View.write_emb_of_mem _ _ (Finset.mem_univ _)).trans ?_
  rfl

/-- What the body is run from: the windows as the pipeline leaves them. -/
def Before : sProp 𝕄 :=
  iprop(Entry V c ∗ (dats V 0 c).owesAt 0 t0_0.castSucc
    ∗ ((∃ d, owns (c : Thread nD τ) nbM fullShare ((dats V 0 c).before (0 : Fin 8) t0_0 d))
      ∗ (∃ d, owns (c : Thread nD τ) (lane 0).tab fullShare ((dats V 0 c).before (1 : Fin 8) t0_0 d))
      ∗ (∃ d, owns (c : Thread nD τ) (lane 1).tab fullShare ((dats V 0 c).before (2 : Fin 8) t0_0 d))
      ∗ (∃ d, owns (c : Thread nD τ) xM fullShare ((dats V 0 c).before (3 : Fin 8) t0_0 d))
      ∗ (∃ d, owns (c : Thread nD τ) wM fullShare ((dats V 0 c).before (4 : Fin 8) t0_0 d))
      ∗ (∃ d, owns (c : Thread nD τ) sxM fullShare ((dats V 0 c).before (5 : Fin 8) t0_0 d))
      ∗ (∃ d, owns (c : Thread nD τ) swM fullShare ((dats V 0 c).before (6 : Fin 8) t0_0 d))
      ∗ (∃ d, owns (c : Thread nD τ) outM fullShare ((dats V 0 c).before (7 : Fin 8) t0_0 d))))

/-- What it leaves the pipeline. -/
def After : sProp 𝕄 :=
  iprop(Exit c ∗ (dats V 0 c).owesAt 0 t0_0.succ
    ∗ (owns (c : Thread nD τ) nbM fullShare (nbOf c : Vec F S2 .i32)
      ∗ owns (c : Thread nD τ) (lane 0).tab fullShare (tabOf 0 c : Vec F S32 .i32)
      ∗ owns (c : Thread nD τ) (lane 1).tab fullShare (tabOf 1 c : Vec F S32 .i32)
      ∗ owns (c : Thread nD τ) xM fullShare ((insOf V).x c)
      ∗ owns (c : Thread nD τ) wM fullShare ((insOf V).w c)
      ∗ owns (c : Thread nD τ) sxM fullShare (V c main_arg2 : Vec F S1 .f32)
      ∗ owns (c : Thread nD τ) swM fullShare (V c main_arg3 : Vec F S1 .f32)
      ∗ owns (c : Thread nD τ) outM fullShare (outVec (insOf V) c)))

variable [∀ e, Nonempty (Elt F e)]

theorem sound_body (hV : Tables V) :
    Before V c ⊢ Runs c (body nbM (lane 0) (lane 1) xM wM sxM swM outM) (fun _ => After V c) := by
  unfold Before Entry
  simp only [Dat.before_fetched _ _ _ (fetch0_0 t0_0), Dat.before_fetched _ _ _ (fetch0_1 t0_0),
    Dat.before_fetched _ _ _ (fetch0_2 t0_0), Dat.before_fetched _ _ _ (fetch0_3 t0_0),
    Dat.before_fetched _ _ _ (fetch0_4 t0_0), Dat.before_fetched _ _ _ (fetch0_5 t0_0),
    Dat.before_fetched _ _ _ (fetch0_6 t0_0), fetched_nb, fetched_cw, fetched_ccw, fetched_x, fetched_w, fetched_sx,
    fetched_sw, hV.nb, hV.cw, hV.ccw]
  iintro ⟨⟨HB0, HB1, Hp, HO⟩, Ho, ⟨%d0, H0⟩, ⟨%d1, H1⟩, ⟨%d2, H2⟩, ⟨%d3, H3⟩, ⟨%d4, H4⟩, ⟨%d5, H5⟩, ⟨%d6, H6⟩, ⟨%d7, H7⟩⟩
  ihave Ho := (TalkSites.owesAt_elim (dats V 0 c) 0 t0_0.castSucc (dueAll c) rfl) $$ Ho
  iapply (runs_whole (insOf V) c (V c main_arg2) (V c main_arg3) rfl ((dats V 0 c).before (7 : Fin 8) t0_0 d7)
    (fun _ => After V c)) $$ [HB0 HB1 HO Ho H0 H1 H2 H3 H4 H5 H6 H7]
  · unfold Operands Held4 Scales Owes
    isplitl [HO]; · iexact HO
    isplitl [Ho]; · iexact Ho
    isplitr [HB0 HB1]
    · isplitl [H0]; · iexact H0
      isplitl [H1 H2 H3 H4]
      · isplitl [H1]; · iexact H1
        isplitl [H2]; · iexact H2
        isplitl [H3]; · iexact H3
        iexact H4
      isplitl [H5 H6]
      · isplitl [H5]; · iexact H5
        iexact H6
      iexact H7
    isplitl [HB0]; · iexact HB0
    iexact HB1
  · unfold Operands Held4 Scales Owes After Exit
    iintro ⟨⟨%W, Ho⟩, ⟨H0, ⟨H1, H2, H3, H4⟩, ⟨H5, H6⟩, H7⟩, HB0, HB1, Hb, Hs⟩
    isplitl [HB0 HB1 Hp Hb Hs]
    · isplitl [HB0]; · iexact HB0
      isplitl [HB1]; · iexact HB1
      isplitl [Hp]; · iexact Hp
      isplitl [Hb]; · iexact Hb
      iexact Hs
    isplitl [Ho]
    · iapply (TalkSites.owesAt_intro (dats V 0 c) 0 t0_0.succ 0 rfl rfl W); iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

omit [∀ e, Nonempty (Elt F e)] in
/-- The body the pipeline calls. -/
theorem body_at : bodyAt0 (F := F) t0_0 = body nbM (lane 0) (lane 1) xM wM sxM swM outM :=
  cc0_body_eq nbM (Memref.isWhole_whole _) (Memref.whole cc0_stg1_0) (Memref.isWhole_whole _) (Memref.whole cc0_stg2_0)
    (Memref.isWhole_whole _) xM (Memref.isWhole_whole _) wM (Memref.isWhole_whole _) sxM (Memref.isWhole_whole _)
    swM (Memref.isWhole_whole _) outM (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) cc0_scratch4 cc0_scratch5 cc0_scratch6 cc0_scratch7
    cc0_scratch8 cc0_scratch9

set_option maxRecDepth 100000 in
/-- The body obligation of the region. -/
theorem body_obligation (hV : Tables V) : BodyObligation (dats V 0 c) (defs₀ (F := F)) 𝒱₀ 0 Set.univ := fun t => by
  obtain rfl := fin_N0 t
  rw [bigSep_W0, bigSep_W0]
  show Before V c ⊢ wp frame (wpE (defs₀ (F := F)) 𝒱₀ (c : Thread nD τ) none) Set.univ (bodyAt0 t0_0) (fun _ => After V c)
  rw [body_at]
  exact sound_body V c hV

end Cert.KernelIdeal.Ring
-- ==== Proof.Segment.lean ====
/-
  The kernel region as an item of the program: entered with what the launch dealt, left with the result
  in its array and the meeting semaphore at zero.
-/
module

public import proofs.«01_k».proof.Proof.Region
public import proofs.«01_k».proof.Proof.Gen.KernelIdeal.Regions

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.ValueIdx
open Idealize.ShloMosaic.Pipeline (Dat BodyObligation RegionSeg)
open Cert.KernelIdeal.Gen

variable {F : FTy → Type}

local notation "𝕄" => MT nD τ sig ℕ (Elt F) ℕ UU ℕ

variable [FloatOps F]

/-- What the launch deals a device, at inputs `I`. -/
def Dealt (I : Ins F) (c : Dev nD) : sProp 𝕄 :=
  iprop((∃ K Ks, KnownOf K Ks I ∗ At c .bar 0
      ∗ bigSep (Finset.univ : Finset Own) (fun k => openTok ER (cell c (roleOwn k)))
      ∗ GhostLane c 0 ∗ GhostLane c 1)
    ∗ CredLane c 0 ∗ CredLane c 1 ∗ Due c .bar 0 2)

/-- The kernel's own semaphores opened. -/
theorem open_dealt (I : Ins F) (c : Dev nD) :
    iprop(Dealt I c ∗ Pipeline.ownSems0 ownSem c ∗ levAts L lv) ⊢ (|={Set.univ}=> Opened I c : sProp 𝕄) := by
  unfold Dealt Opened
  iintro ⟨⟨⟨%K, %Ks, #HK, Hb, Ho, H0, H1⟩, C0, C1, Cb⟩, Hs, -⟩
  imod (open_own (partOf I.pv) K Ks c) $$ [Ho Hs] with HA
  · isplitr; · iexact HK
    isplitl [Ho]; · iexact Ho
    iexact Hs
  imodintro
  isplitr [C0 C1 Cb]
  · iexists K, Ks
    isplitr; · iexact HK
    isplitl [Hb]; · iexact Hb
    isplitl [HA]; · iexact HA
    isplitl [H0]; · iexact H0
    iexact H1
  isplitl [C0]; · iexact C0
  isplitl [C1]; · iexact C1
  iexact Cb

theorem ownSemFacts : Pipeline.OwnSemFacts spec0 ownSem := by decide

/-- The four buffers no window stages are the lanes'. -/
theorem bufs_of_rest (c : Dev nD) :
    (Pipeline.scopedRest (Ix := ℕ) (Name := ℕ) (U := UU) (Lvl := ℕ) (Val := Elt F) spec0 c : sProp 𝕄)
      ⊢ iprop(Bufs c 0 ∗ Bufs c 1) := by
  rw [scopedRest0_eq]
  unfold Bufs
  iintro ⟨⟨%f0, H0⟩, ⟨%f1, H1⟩, ⟨%f2, H2⟩, ⟨%f3, H3⟩⟩
  isplitl [H0 H1]
  · isplitl [H0]
    · iexists f0; iapply (Entails.of_eq (owns_whole (c : Thread nD τ) cc0_scratch0 fullShare f0).symm); iexact H0
    · iexists f1; iapply (Entails.of_eq (owns_whole (c : Thread nD τ) cc0_scratch1 fullShare f1).symm); iexact H1
  · isplitl [H2]
    · iexists f2; iapply (Entails.of_eq (owns_whole (c : Thread nD τ) cc0_scratch2 fullShare f2).symm); iexact H2
    · iexists f3; iapply (Entails.of_eq (owns_whole (c : Thread nD τ) cc0_scratch3 fullShare f3).symm); iexact H3

theorem rest_of_bufs (c : Dev nD) :
    iprop(Bufs c 0 ∗ Bufs c 1)
      ⊢ (Pipeline.scopedRest (Ix := ℕ) (Name := ℕ) (U := UU) (Lvl := ℕ) (Val := Elt F) spec0 c : sProp 𝕄) := by
  rw [scopedRest0_eq]
  unfold Bufs
  iintro ⟨⟨⟨%f0, H0⟩, ⟨%f1, H1⟩⟩, ⟨%f2, H2⟩, ⟨%f3, H3⟩⟩
  isplitl [H0]
  · iexists f0; iapply (Entails.of_eq (owns_whole (c : Thread nD τ) cc0_scratch0 fullShare f0)); iexact H0
  isplitl [H1]
  · iexists f1; iapply (Entails.of_eq (owns_whole (c : Thread nD τ) cc0_scratch1 fullShare f1)); iexact H1
  isplitl [H2]
  · iexists f2; iapply (Entails.of_eq (owns_whole (c : Thread nD τ) cc0_scratch2 fullShare f2)); iexact H2
  · iexists f3; iapply (Entails.of_eq (owns_whole (c : Thread nD τ) cc0_scratch3 fullShare f3)); iexact H3

variable (V : Vals F)

/-- The contents the region leaves. -/
def left (c : Dev nD) : Valuation τ sig (Elt F) :=
  Function.update (V c) (Proc.devRef .tc main_v50) (outVec (insOf V) c)

theorem enter (c : Dev nD) (W : Valuation τ sig (Elt F)) :
    iprop(Pipeline.scopedRest spec0 c ∗ (∃ r, prngReg c r) ∗ StableHlo.held (c.tc : Thread nD τ) ∅ W ∗ Opened (insOf V) c)
      ⊢ (Entry V c : sProp 𝕄) := by
  unfold Entry
  iintro ⟨Hr, Hp, -, HO⟩
  ihave HB := (bufs_of_rest (F := F) c) $$ Hr
  icases HB with ⟨H0, H1⟩
  isplitl [H0]; · iexact H0
  isplitl [H1]; · iexact H1
  isplitl [Hp]; · iexact Hp
  iexact HO

theorem leave (c : Dev nD) (W : Valuation τ sig (Elt F)) :
    Exit c ⊢ (iprop(Pipeline.scopedRest spec0 c ∗ (∃ r, prngReg c r) ∗ StableHlo.held (c.tc : Thread nD τ) ∅ W
      ∗ Pipeline.ownSems0 ownSem c ∗ semVal (cell c .bar) 0) : sProp 𝕄) := by
  unfold Exit
  rw [show (StableHlo.held (c.tc : Thread nD τ) ∅ W : sProp 𝕄) = BI.emp from BI.bigSep_empty]
  iintro ⟨H0, H1, Hp, Hb, Hs⟩
  isplitl [H0 H1]
  · iapply (rest_of_bufs (F := F) c)
    isplitl [H0]; · iexact H0
    iexact H1
  isplitl [Hp]; · iexact Hp
  isplitr; · iempintro
  isplitl [Hs]; · iexact Hs
  iexact Hb

/-- The arrays as the region finds them. -/
theorem arr_before (c : Dev nD) (w : Fin 8) :
    (dats V 0 c).arrAt w 0 = V c (Proc.devRef .tc (Pipeline.arrRef spec0 w)) := rfl

theorem arr_ne (w : Fin 8) (h : w ≠ 7) : (Proc.devRef .tc (Pipeline.arrRef spec0 w) : DevRef τ sig) ≠ Proc.devRef .tc main_v50 := by
  have : Pipeline.arrRef spec0 w ≠ main_v50 := by
    revert w; decide
  exact fun e => this (Proc.devRef_injective _ e)

/-- The arrays as it leaves them. -/
theorem arr_after (c : Dev nD) (w : Fin 8) :
    (dats V 0 c).arrAt w cfg0.N = left V c (Proc.devRef .tc (Pipeline.arrRef spec0 w)) := by
  unfold left
  by_cases h : w = 7
  · subst h
    refine (arr_out V c).trans ?_
    exact (Function.update_self (f := V c) (Proc.devRef .tc main_v50 : DevRef τ sig) (outVec (insOf V) c)).symm
  · rw [Function.update_of_ne (arr_ne w h)]
    have hi : ∀ w : Fin 8, w ≠ 7 → (cfg0.win w).isOut = false := by decide
    exact (Dat.arrAt_in (dats V 0 c) (w := w) (hi w h) _).trans rfl

/-- The device-local buffers the region does not touch. -/
abbrev others : Finset (DevRef τ sig) := Pipeline.ucRefs τ sig \ Pipeline.arrRefs (τ := τ) spec0

theorem main_v50_arr : (Proc.devRef .tc main_v50 : DevRef τ sig) ∈ Pipeline.arrRefs (τ := τ) spec0 :=
  Finset.mem_map.mpr ⟨main_v50, Finset.mem_image.mpr ⟨7, Finset.mem_univ _, rfl⟩, rfl⟩

theorem left_others (c : Dev nD) (b : DevRef τ sig) (hb : b ∈ (others \ ∅ : Finset (DevRef τ sig))) : left V c b = V c b := by
  rw [Finset.sdiff_empty] at hb
  refine Function.update_of_ne (fun e => (Finset.mem_sdiff.mp hb).2 ?_) _ _
  rw [e]; exact main_v50_arr

/-- What is owed ranks above the windows' transfers. -/
theorem above_all (c : Dev nD) : Above 0 (dueAll c) :=
  above_add (above_add (above_add (above_mono (Nat.zero_le _) (above_from c 0)) (above_sends c (by omega) (by omega)))
    (above_tally _ _ (by omega) (by decide))) (above_tally _ _ (by omega) (by decide))

theorem above_owed (c : Dev nD) (t : Fin (cfg0.N + 1)) : Above 0 ((dats V 0 c).owed t) := by
  obtain ⟨t, ht⟩ := t
  match t with
  | 0 => exact above_all c
  | _ + 1 => exact above_zero 0

theorem rank_stage : ∀ (w : Fin 8) (s : Fin (cfg0.win w).nbuf), roleOf (.dma ((cfg0.win w).sem s)) = none := by decide

set_option backward.isDefEq.respectTransparency.types false in
/-- The region. -/
def region [∀ e, Nonempty (Elt F e)] (hV : Tables V) : RegionSeg (pcfgs (F := F)) adm (dats V) 0 defs₀ 𝒱₀ L lv 0 :=
  RegionSeg.ofTalk (pcfgs (F := F)) adm (dats V) 0 defs₀ 𝒱₀ L lv 0 ownSem ownSemFacts
    ∅ others (Finset.empty_subset _) launch0.toP rfl (fun c => (body_obligation V c hV).loose)
    (fun _ => 0) dueAll (fun c => (zero_add _).symm) (fun _ => rfl) (fun _ => rfl)
    (fun c w => by unfold Dat.share; split <;> rfl)
    V (left V) (left_others V) (Dealt (insOf V)) (fun c => semVal (cell c .bar) 0) (Opened (insOf V)) (fun c => semVal (cell c .bar) 0)
    (open_dealt (insOf V)) (fun c => enter V c _) (fun c => leave c _) (fun c => by iintro H; imodintro; iexact H)
    (fun _ => 0)
    ⟨fun c w s => by rw [L_tc]; exact Finset.mem_range.mpr (by omega),
      fun c w s => le_of_eq (by unfold lv; rw [show roleOf (.dma ((cfg0.win w).sem s)) = none from rank_stage w s]; rfl),
      fun c t g i h => above_owed V c t g i h⟩
    (fun _ => iprop(emp)) (arr_before V) (arr_after V)

end Cert.KernelIdeal.Ring
-- ==== Proof.Credits.lean ====
/-
  What the launch lets each device wait for: the dues of all devices, sorted by who collects them.
-/
module

public import proofs.«01_k».proof.Proof.Whole
public import Idealize.ShloMosaic.Lib.Pipeline.Launch

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (launchCred launchCred_add launchCred_sum launchCred_tallyAt)
open Cert.KernelIdeal.Gen

variable {F : FTy → Type}

local notation "𝕄" => MT nD τ sig ℕ (Elt F) ℕ UU ℕ

theorem cred_send (d f : Fin 2) (k : ℕ) (c : Dev nD) :
    launchCred (fun e => dueSend e d f k) c ⊢ (Due c (.landed d (par k) f) k N : sProp 𝕄) :=
  launchCred_tallyAt (Role.sem (.landed d (par k) f)) (dst d) (src d) (dst_src d) (src_dst d) k N c

theorem cred_credit (d : Fin 2) (j : ℕ) (c : Dev nD) :
    launchCred (fun e => dueCredit e d j) c ⊢ (Due c (.credit d) j 1 : sProp 𝕄) :=
  launchCred_tallyAt (Role.sem (.credit d)) (src d) (dst d) (src_dst d) (dst_src d) j 1 c

theorem cred_bar (d : Fin 2) (c : Dev nD) :
    launchCred (fun e => dueBar e d) c ⊢ (Due c .bar 0 1 : sProp 𝕄) :=
  launchCred_tallyAt (Role.sem .bar) (src d) (dst d) (src_dst d) (dst_src d) 0 1 c

/-- The dues of one copy. -/
theorem cred_sends (k : ℕ) (c : Dev nD) :
    launchCred (fun e => dueSends e k) c
      ⊢ (iprop(((Due c (.landed 1 (par k) 1) k N ∗ Due c (.landed 0 (par k) 1) k N) ∗ Due c (.landed 1 (par k) 0) k N)
          ∗ Due c (.landed 0 (par k) 0) k N) : sProp 𝕄) := by
  have e : (launchCred (fun e => dueSends e k) c : sProp 𝕄)
      = iprop(((launchCred (fun e => dueSend e 1 1 k) c ∗ launchCred (fun e => dueSend e 0 1 k) c) ∗ launchCred (fun e => dueSend e 1 0 k) c)
          ∗ launchCred (fun e => dueSend e 0 0 k) c) := by
    rw [← launchCred_add (fun e => dueSend e 1 1 k) (fun e => dueSend e 0 1 k),
      ← launchCred_add (fun e => dueSend e 1 1 k + dueSend e 0 1 k) (fun e => dueSend e 1 0 k),
      ← launchCred_add (fun e => dueSend e 1 1 k + dueSend e 0 1 k + dueSend e 1 0 k) (fun e => dueSend e 0 0 k)]
    rfl
  rw [e]
  exact BIClass.sep_mono (BIClass.sep_mono (BIClass.sep_mono (cred_send 1 1 k c) (cred_send 0 1 k c)) (cred_send 1 0 k c)) (cred_send 0 0 k c)

/-- The dues of one hop's credits. -/
theorem cred_credits (j : ℕ) (c : Dev nD) :
    launchCred (fun e => dueCredits e j) c ⊢ (iprop(Due c (.credit 1) j 1 ∗ Due c (.credit 0) j 1) : sProp 𝕄) := by
  have e : (launchCred (fun e => dueCredits e j) c : sProp 𝕄)
      = iprop(launchCred (fun e => dueCredit e 1 j) c ∗ launchCred (fun e => dueCredit e 0 j) c) :=
    (launchCred_add (fun e => dueCredit e 1 j) (fun e => dueCredit e 0 j) c)
  rw [e]
  exact BIClass.sep_mono (cred_credit 1 j c) (cred_credit 0 j c)

theorem dueAll_eq (c : Dev nD) :
    dueAll c = (∑ k ∈ Finset.Ico 0 31, dueSends c k) + (∑ j ∈ Finset.Ico 0 29, dueCredits c j) + (dueBar c 1 + dueBar c 0) := by
  unfold dueAll dueFrom
  rw [Finset.sum_eq_sum_Ico_succ_bot (by omega : 0 < 31)]
  abel

/-- What a device may wait for. -/
theorem creds (c : Dev nD) :
    launchCred dueAll c ⊢ (iprop(CredLane c 0 ∗ CredLane c 1 ∗ Due c .bar 0 2) : sProp 𝕄) := by
  have e : (launchCred dueAll c : sProp 𝕄)
      = iprop((bigSep (Finset.Ico 0 31) (fun k => launchCred (fun e => dueSends e k) c)
          ∗ bigSep (Finset.Ico 0 29) (fun j => launchCred (fun e => dueCredits e j) c))
          ∗ (launchCred (fun e => dueBar e 1) c ∗ launchCred (fun e => dueBar e 0) c)) := by
    rw [← launchCred_add (fun e => dueBar e 1) (fun e => dueBar e 0), ← launchCred_sum, ← launchCred_sum,
      ← launchCred_add (fun e => ∑ k ∈ Finset.Ico 0 31, dueSends e k) (fun e => ∑ j ∈ Finset.Ico 0 29, dueCredits e j),
      ← launchCred_add (fun e => (∑ k ∈ Finset.Ico 0 31, dueSends e k) + ∑ j ∈ Finset.Ico 0 29, dueCredits e j)
        (fun e => dueBar e 1 + dueBar e 0)]
    exact congrArg (fun D => launchCred D c) (funext dueAll_eq)
  have hs : bigSep (Finset.Ico 0 31) (fun k => (launchCred (fun e => dueSends e k) c : sProp 𝕄))
      ⊢ iprop(((Coming c 1 1 0 ∗ Coming c 0 1 0) ∗ Coming c 1 0 0) ∗ Coming c 0 0 0) := by
    refine (bigSep_mono fun k _ => cred_sends k c).trans (show _ ⊢ (_ : sProp 𝕄) from Entails.of_eq ?_)
    unfold Coming
    rw [← bigSep_sep', ← bigSep_sep', ← bigSep_sep']
  have hc : bigSep (Finset.Ico 0 29) (fun j => (launchCred (fun e => dueCredits e j) c : sProp 𝕄))
      ⊢ iprop(bigSep (Finset.Ico 0 29) (fun j => Due c (.credit 1) j 1) ∗ bigSep (Finset.Ico 0 29) (fun j => Due c (.credit 0) j 1)) := by
    refine (bigSep_mono fun j _ => cred_credits j c).trans (show _ ⊢ (_ : sProp 𝕄) from Entails.of_eq ?_)
    rw [← bigSep_sep']
  have hb : iprop(launchCred (fun e => dueBar e 1) c ∗ launchCred (fun e => dueBar e 0) c) ⊢ (Due c .bar 0 2 : sProp 𝕄) := by
    have h2 : (tallyAt (cell c .bar) 0 1 + tallyAt (cell c .bar) 0 1 : CellTallies nD τ sig ℕ) = tallyAt (cell c .bar) 0 2 :=
      tallyAt_add (cell c .bar) 0 1 1
    have h3 : (iprop(Due c .bar 0 1 ∗ Due c .bar 0 1) : sProp 𝕄) ⊢ Due c .bar 0 2 := by
      unfold Due
      rw [← h2]
      exact (cred_add _ _).2
    exact (BIClass.sep_mono (cred_bar 1 c) (cred_bar 0 c)).trans h3
  rw [e]
  unfold CredLane
  iintro ⟨⟨Hs, Hc⟩, Hb⟩
  ihave Hs := hs $$ Hs
  ihave Hc := hc $$ Hc
  ihave Hb := hb $$ Hb
  icases Hs with ⟨⟨⟨H11, H01⟩, H10⟩, H00⟩
  icases Hc with ⟨H1, H0⟩
  isplitl [H00 H01 H0]
  · isplitr [H0]
    · isplitl [H00]; · iexact H00
      iexact H01
    iexact H0
  isplitl [H10 H11 H1]
  · isplitr [H1]
    · isplitl [H10]; · iexact H10
      iexact H11
    iexact H1
  iexact Hb

end Cert.KernelIdeal.Ring
-- ==== Proof.Tokens.lean ====
/-
  The rights the launch hands out: one to pay each duty of each semaphore, and one to fill each landing
  slot for each copy; sorted by the device that uses them.
-/
module

public import proofs.«01_k».proof.Proof.Whole
public import Idealize.ShloMosaic.Lib.Pipeline.Launch

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type}

local notation "𝕄" => MT nD τ sig ℕ (Elt F) ℕ UU ℕ

/-- A name for each duty of a lane's cells on one device: meeting; credit `j`; copy `k` of flit `f`
    sent, or landed. -/
abbrev Duty : Type := Unit ⊕ Fin 29 ⊕ (Fin 2 × Fin 31) ⊕ (Fin 2 × Fin 31)

/-- The cell's role, its round, and the duty's number in it. -/
def dutyAt (d : Fin 2) : Duty → Role × ℕ × ℕ
  | .inl _ => (.bar, 0, d.val)
  | .inr (.inl j) => (.credit d, 0, j.val)
  | .inr (.inr (.inl (f, k))) => (.sent d (par k.val) f, k.val / 2, 0)
  | .inr (.inr (.inr (f, k))) => (.landed d (par k.val) f, k.val / 2, 0)

theorem par_half_inj {k k' : Fin 31} (h : par k.val = par k'.val) (h' : k.val / 2 = k'.val / 2) : k = k' := by
  have h : k.val % 2 = k'.val % 2 := congrArg Fin.val h
  exact Fin.ext (by omega)

theorem dutyAt_inj {d d' : Fin 2} {t t' : Duty} (h : dutyAt d t = dutyAt d' t') : d = d' ∧ t = t' := by
  rcases t with _ | j | ⟨f, k⟩ | ⟨f, k⟩ <;> rcases t' with _ | j' | ⟨f', k'⟩ | ⟨f', k'⟩ <;>
    simp only [dutyAt, Prod.mk.injEq, reduceCtorEq, false_and, Role.credit.injEq, Role.sent.injEq, Role.landed.injEq] at h
  · exact ⟨Fin.ext h.2.2, rfl⟩
  · obtain ⟨rfl, -, h⟩ := h
    exact ⟨rfl, by rw [Fin.ext h]⟩
  · obtain ⟨⟨rfl, h1, rfl⟩, h2, -⟩ := h
    exact ⟨rfl, by rw [par_half_inj h1 h2]⟩
  · obtain ⟨⟨rfl, h1, rfl⟩, h2, -⟩ := h
    exact ⟨rfl, by rw [par_half_inj h1 h2]⟩

/-- Every duty of every cell. -/
def dutyEmb : (Fin 2 × Dev nD) × Duty ↪ GSem nD τ sig × ℕ × ℕ :=
  ⟨fun x => (cell x.1.2 (dutyAt x.1.1 x.2).1, (dutyAt x.1.1 x.2).2), fun x y h => by
    obtain ⟨⟨d, c⟩, t⟩ := x
    obtain ⟨⟨d', c'⟩, t'⟩ := y
    have h1 := cell_inj (congrArg Prod.fst h)
    have h2 : dutyAt d t = dutyAt d' t' := Prod.ext h1.2 (congrArg Prod.snd h :)
    obtain ⟨rfl, rfl⟩ := dutyAt_inj h2
    have h3 : c = c' := h1.1
    rw [h3]⟩

def duties : Finset (GSem nD τ sig × ℕ × ℕ) := Finset.univ.map dutyEmb

/-- A lane's neighbours, as a permutation of the devices. -/
def along (d : Fin 2) : Dev nD ≃ Dev nD := ⟨dst d, src d, src_dst d, dst_src d⟩

theorem bigSep_dst (d : Fin 2) (Φ : Dev nD → sProp 𝕄) :
    bigSep Finset.univ Φ = bigSep Finset.univ (fun c => Φ (dst d c)) := bigSep_univ_equiv (along d) Φ
theorem bigSep_src (d : Fin 2) (Φ : Dev nD → sProp 𝕄) :
    bigSep Finset.univ Φ = bigSep Finset.univ (fun c => Φ (src d c)) := bigSep_univ_equiv (along d).symm Φ

theorem bigSep_count (n : ℕ) (Φ : ℕ → sProp 𝕄) :
    bigSep (Finset.univ : Finset (Fin n)) (fun k => Φ k.val) = bigSep (Finset.Ico 0 n) Φ := by
  rw [show Finset.Ico 0 n = (Finset.univ : Finset (Fin n)).map Fin.valEmbedding from by
    ext k
    simp only [Finset.mem_Ico, Finset.mem_map, Finset.mem_univ, true_and, Fin.valEmbedding_apply]
    exact ⟨fun h => ⟨⟨k, h.2⟩, rfl⟩, fun ⟨x, hx⟩ => hx ▸ ⟨Nat.zero_le _, x.isLt⟩⟩, bigSep_map]
  rfl

/-- The rights to pay that a lane of a device uses. -/
def PayLane (c : Dev nD) (d : Fin 2) : sProp 𝕄 :=
  iprop(Tok (src d c) .bar 0 d.val ∗ PayToks c d ∗ (Rights c d 0 0 ∗ Rights c d 1 0))

/-- One lane's duties, cell by cell. -/
theorem duties_lane (d : Fin 2) :
    bigSep (Finset.univ : Finset (Dev nD)) (fun c => bigSep (Finset.univ : Finset Duty)
        (fun t => (dutyTok ER (dutyEmb ((d, c), t)).1 (dutyEmb ((d, c), t)).2.1 (dutyEmb ((d, c), t)).2.2 : sProp 𝕄)))
      = bigSep (Finset.univ : Finset (Dev nD)) (fun c => PayLane c d) := by
  have h1 (c : Dev nD) : bigSep (Finset.univ : Finset Duty)
        (fun t => (dutyTok ER (dutyEmb ((d, c), t)).1 (dutyEmb ((d, c), t)).2.1 (dutyEmb ((d, c), t)).2.2 : sProp 𝕄))
      = iprop(Tok c .bar 0 d.val ∗ bigSep (Finset.Ico 0 29) (fun j => Tok c (.credit d) 0 j)
        ∗ (bigSep (Finset.Ico 0 31) (fun k => Tok c (.sent d (par k) 0) (k / 2) 0)
            ∗ bigSep (Finset.Ico 0 31) (fun k => Tok c (.sent d (par k) 1) (k / 2) 0))
        ∗ (bigSep (Finset.Ico 0 31) (fun k => Tok c (.landed d (par k) 0) (k / 2) 0)
            ∗ bigSep (Finset.Ico 0 31) (fun k => Tok c (.landed d (par k) 1) (k / 2) 0))) := by
    rw [bigSep_univ_sum, bigSep_univ_sum, bigSep_univ_sum, bigSep_univ_of_subsingleton (), bigSep_univ_prod, bigSep_univ_prod,
      bigSep_fin_two, bigSep_fin_two, ← bigSep_count 29, ← bigSep_count 31, ← bigSep_count 31, ← bigSep_count 31, ← bigSep_count 31]
    rfl
  rw [bigSep_congr fun c _ => h1 c]
  simp only [bigSep_sep']
  rw [bigSep_src d (fun c => Tok c .bar 0 d.val),
    bigSep_src d (fun c => bigSep (Finset.Ico 0 29) (fun j => Tok c (.credit d) 0 j)),
    bigSep_dst d (fun c => bigSep (Finset.Ico 0 31) (fun k => Tok c (.landed d (par k) 0) (k / 2) 0)),
    bigSep_dst d (fun c => bigSep (Finset.Ico 0 31) (fun k => Tok c (.landed d (par k) 1) (k / 2) 0))]
  unfold PayLane PayToks Rights
  simp only [bigSep_sep']
  refine BI.Entails.antisymm (show _ ⊢ (_ : sProp 𝕄) from ?_) (show _ ⊢ (_ : sProp 𝕄) from ?_)
  · iintro ⟨H1, H2, ⟨H3, H4⟩, H5, H6⟩
    isplitl [H1]; · iexact H1
    isplitl [H2]; · iexact H2
    isplitl [H3 H5]
    · isplitl [H3]; · iexact H3
      iexact H5
    isplitl [H4]; · iexact H4
    iexact H6
  · iintro ⟨H1, H2, ⟨H3, H5⟩, H4, H6⟩
    isplitl [H1]; · iexact H1
    isplitl [H2]; · iexact H2
    isplitl [H3 H4]
    · isplitl [H3]; · iexact H3
      iexact H4
    isplitl [H5]; · iexact H5
    iexact H6

/-- All the rights to pay, sorted by payer. -/
theorem duties_dealt :
    bigSep duties (fun x => (dutyTok ER x.1 x.2.1 x.2.2 : sProp 𝕄))
      = bigSep (Finset.univ : Finset (Dev nD)) (fun c => iprop(PayLane c 0 ∗ PayLane c 1)) := by
  unfold duties
  rw [bigSep_map, bigSep_univ_prod, bigSep_univ_prod, bigSep_fin_two, duties_lane, duties_lane, bigSep_sep']; rfl

/-! ## The landing slots -/

/-- A copy's write of a landing slot. -/
def takeEmb : (Fin 2 × Dev nD) × Fin 31 ↪ (Dev nD × Fin 2 × Fin 2) × ℕ :=
  ⟨fun x => ((x.1.2, x.1.1, par x.2.val), x.2.val / 2), fun x y h => by
    obtain ⟨⟨d, c⟩, k⟩ := x
    obtain ⟨⟨d', c'⟩, k'⟩ := y
    simp only [Prod.mk.injEq] at h
    obtain ⟨⟨rfl, rfl, h1⟩, h2⟩ := h
    rw [par_half_inj h1 h2]⟩

theorem takes_dealt :
    bigSep ((Finset.univ : Finset (Dev nD × Fin 2 × Fin 2)) ×ˢ Finset.range 16) (fun x => (writeTok ES x.1 (x.2 + 1) : sProp 𝕄))
      ⊢ bigSep (Finset.univ : Finset (Dev nD)) (fun c => iprop(Takes c 0 0 ∗ Takes c 1 0)) := by
  have hsub : Finset.univ.map takeEmb ⊆ (Finset.univ : Finset (Dev nD × Fin 2 × Fin 2)) ×ˢ Finset.range 16 := fun x hx => by
    obtain ⟨y, -, rfl⟩ := Finset.mem_map.mp hx
    exact Finset.mem_product.mpr ⟨Finset.mem_univ _, Finset.mem_range.mpr (show y.2.val / 2 < 16 by omega)⟩
  have hl (d : Fin 2) : bigSep (Finset.univ : Finset (Dev nD)) (fun c => bigSep (Finset.univ : Finset (Fin 31))
        (fun k => (writeTok ES (takeEmb ((d, c), k)).1 ((takeEmb ((d, c), k)).2 + 1) : sProp 𝕄)))
      = bigSep (Finset.univ : Finset (Dev nD)) (fun c => Takes c d 0) := by
    rw [bigSep_dst d]
    exact bigSep_congr fun c _ => by
      unfold Takes
      rw [← bigSep_count 31]
      rfl
  refine (bigSep_subset hsub).trans (show _ ⊢ (_ : sProp 𝕄) from Entails.of_eq ?_)
  rw [bigSep_map, bigSep_univ_prod, bigSep_univ_prod, bigSep_fin_two, hl, hl, bigSep_sep']; rfl

theorem readers_dealt :
    bigSep (Finset.univ : Finset (Dev nD × Fin 2 × Fin 2)) (fun k => (readerAt ES k 0 : sProp 𝕄))
      = bigSep (Finset.univ : Finset (Dev nD)) (fun c => iprop((readerAt ES (c, 0, par 0) 0 ∗ readerAt ES (c, 0, par 1) 0)
          ∗ (readerAt ES (c, 1, par 0) 0 ∗ readerAt ES (c, 1, par 1) 0))) := by
  rw [bigSep_univ_prod]
  exact bigSep_congr fun c _ => by rw [bigSep_univ_prod, bigSep_fin_two, bigSep_fin_two, bigSep_fin_two]; rfl

end Cert.KernelIdeal.Ring
-- ==== Proof.Deal.lean ====
/-
  The launch: what it deals the devices, out of all there is.
-/
module

public import proofs.«01_k».proof.Proof.Segment
public import proofs.«01_k».proof.Proof.Credits
public import proofs.«01_k».proof.Proof.Tokens

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type}

local notation "𝕄" => MT nD τ sig ℕ (Elt F) ℕ UU ℕ

/-- The meeting semaphores. -/
def barEmb : Dev nD ↪ GSem nD τ sig := ⟨fun c => cell c .bar, fun _ _ h => (cell_inj h).1⟩
/-- The kernel's own semaphores. -/
def ownEmb : Dev nD × Own ↪ GSem nD τ sig :=
  ⟨fun p => cell p.1 (roleOwn p.2), fun _ _ h => Prod.ext (cell_inj h).1 (roleOwn_inj (cell_inj h).2)⟩
/-- All of them. -/
def cellEmb : Dev nD × Role ↪ GSem nD τ sig := ⟨fun p => cell p.1 p.2, fun _ _ h => Prod.ext (cell_inj h).1 (cell_inj h).2⟩

def barCells : Finset (GSem nD τ sig) := Finset.univ.map barEmb
def ownCells : Finset (GSem nD τ sig) := Finset.univ.map ownEmb

theorem cells_disjoint : Disjoint barCells ownCells := by
  rw [Finset.disjoint_left]
  rintro g h₁ h₂
  obtain ⟨c, -, rfl⟩ := Finset.mem_map.mp h₁
  obtain ⟨p, -, h⟩ := Finset.mem_map.mp h₂
  exact roleOwn_ne_bar p.2 (cell_inj h).2

theorem cells_eq : barCells ∪ ownCells = Finset.univ.map cellEmb := by
  ext g
  rw [Finset.mem_union]
  constructor
  · rintro (h | h)
    · obtain ⟨c, -, rfl⟩ := Finset.mem_map.mp h
      exact Finset.mem_map.mpr ⟨(c, .bar), Finset.mem_univ _, rfl⟩
    · obtain ⟨p, -, rfl⟩ := Finset.mem_map.mp h
      exact Finset.mem_map.mpr ⟨(p.1, roleOwn p.2), Finset.mem_univ _, rfl⟩
  · intro h
    obtain ⟨⟨c, x⟩, -, rfl⟩ := Finset.mem_map.mp h
    rcases roleOwn_surj x with rfl | ⟨k, rfl⟩
    · exact .inl (Finset.mem_map.mpr ⟨c, Finset.mem_univ _, rfl⟩)
    · exact .inr (Finset.mem_map.mpr ⟨(c, k), Finset.mem_univ _, rfl⟩)

/-- The protocol's ghost state at launch. -/
def rounds₀ : URounds (GSem nD τ sig) ℕ := launchOf barCells ownCells duties
def slots₀ : USlots (Dev nD × Fin 2 × Fin 2) := initSlots Finset.univ 16

/-- All the ghost state at launch. -/
def u₀ : UU :=
  (initOf (Pipeline.cells (Pipeline.pin (pcfgs (F := F)) adm) cellOf_inj) (Pipeline.launchToks (Pipeline.pin (pcfgs (F := F)) adm) cellOf_inj),
    (rounds₀, slots₀))

/-- All of `X` on the first device. -/
def onFirst (X : sProp 𝕄) (c : Dev nD) : sProp 𝕄 := if c = 0 then X else iprop(emp)

theorem bigSep_onFirst (X : sProp 𝕄) : bigSep Finset.univ (onFirst X) = X := by
  have h : ∀ c ∈ (Finset.univ : Finset (Dev nD)).erase 0, onFirst X c = BI.emp := fun c hc => if_neg (Finset.ne_of_mem_erase hc)
  rw [bigSep_univ_at _ (0 : Dev nD), bigSep_congr h, BI.bigSep_emp_const]
  exact (BI.equiv_iff.mp sep_emp).trans (if_pos rfl)

def ghost₀ : Dev nD → sProp 𝕄 := onFirst iprop(BI.own (ER rounds₀) ∗ BI.own (ES slots₀))

theorem ghost_split :
    (ownU (u₀ (F := F)) : sProp 𝕄)
      ⊢ |={Set.univ}=> iprop(BI.own (EP (initOf (Pipeline.cells (Pipeline.pin (pcfgs (F := F)) adm) cellOf_inj)
          (Pipeline.launchToks (Pipeline.pin (pcfgs (F := F)) adm) cellOf_inj))) ∗ bigSep Finset.univ ghost₀) := by
  unfold u₀ ghost₀
  have hsplit : (BI.own ((embR : Emb (URounds (GSem nD τ sig) ℕ × USlots (Dev nD × Fin 2 × Fin 2)) 𝕄) (rounds₀, slots₀)) : sProp 𝕄)
      ⊢ iprop(BI.own (ER rounds₀) ∗ BI.own (ES slots₀)) :=
    BI.own_op_elim (Emb.op_of_mem embR (Prod.mk_mem_op (URA.mem_op_one _) (URA.mem_one_op _)))
  iintro Hu
  ihave H := (ownU_pair _ _) $$ Hu
  icases H with ⟨HP, HX⟩
  ihave HX := hsplit $$ HX
  imodintro
  isplitl [HP]; · iexact HP
  rw [bigSep_onFirst]; iexact HX

variable (part : Fin 2 → Dev nD → Fin 2 → ℕ → FlitVec F)

/-- What every device may consult. -/
def Records (K : GSem nD τ sig → ℕ) (Ks : Dev nD × Fin 2 × Fin 2 → ℕ) : sProp 𝕄 :=
  iprop(Known part K Ks ∗ bigSep (Finset.univ : Finset (Dev nD)) (fun c => Begun c .bar 0))

instance records_persistent (K : GSem nD τ sig → ℕ) (Ks : Dev nD × Fin 2 × Fin 2 → ℕ) : BI.Persistent (Records part K Ks) := by
  unfold Records Known Begun; infer_instance

/-- What is a device's alone. -/
def Linear (c : Dev nD) : sProp 𝕄 :=
  iprop(At c .bar 0 ∗ bigSep (Finset.univ : Finset Own) (fun k => openTok ER (cell c (roleOwn k)))
    ∗ (PayLane c 0 ∗ PayLane c 1) ∗ (Takes c 0 0 ∗ Takes c 1 0)
    ∗ ((readerAt ES (c, 0, par 0) 0 ∗ readerAt ES (c, 0, par 1) 0) ∗ (readerAt ES (c, 1, par 0) 0 ∗ readerAt ES (c, 1, par 1) 0)))

theorem pair {Φ Ψ : Dev nD → sProp 𝕄} :
    iprop(bigSep Finset.univ Φ ∗ bigSep Finset.univ Ψ) ⊢ bigSep Finset.univ (fun c => iprop(Φ c ∗ Ψ c)) :=
  Entails.of_eq (bigSep_sep' Finset.univ Φ Ψ).symm

/-- A device's share of the launch's ghost state. -/
def Share (c : Dev nD) : sProp 𝕄 :=
  iprop(∃ K Ks, Known part K Ks ∗ At c .bar 0
      ∗ bigSep (Finset.univ : Finset Own) (fun k => openTok ER (cell c (roleOwn k)))
      ∗ GhostLane c 0 ∗ GhostLane c 1)

theorem share_of (K : GSem nD τ sig → ℕ) (Ks : Dev nD × Fin 2 × Fin 2 → ℕ) (c : Dev nD) :
    iprop(Records part K Ks ∗ Linear c) ⊢ (Share part c : sProp 𝕄) := by
  have hb (d : Fin 2) : bigSep (Finset.univ : Finset (Dev nD)) (fun c => (Begun c .bar 0 : sProp 𝕄)) ⊢ Begun (src d c) .bar 0 :=
    bigSep_elim (Finset.mem_univ _)
  unfold Records Linear Share PayLane GhostLane
  iintro ⟨⟨#HK, #HB⟩, Ha, Ho, ⟨⟨Hb0, Hp0, Hr0⟩, Hb1, Hp1, Hr1⟩, ⟨Ht0, Ht1⟩, Hd0, Hd1⟩
  iexists K, Ks
  isplitr; · iexact HK
  isplitl [Ha]; · iexact Ha
  isplitl [Ho]; · iexact Ho
  isplitl [Hb0 Hp0 Hr0 Ht0 Hd0]
  · isplitl [Hb0]; · iexact Hb0
    isplitr; · iapply (hb 0); iexact HB
    isplitl [Hr0]; · iexact Hr0
    isplitl [Ht0]; · iexact Ht0
    isplitl [Hp0]; · iexact Hp0
    iexact Hd0
  · isplitl [Hb1]; · iexact Hb1
    isplitr; · iapply (hb 1); iexact HB
    isplitl [Hr1]; · iexact Hr1
    isplitl [Ht1]; · iexact Ht1
    isplitl [Hp1]; · iexact Hp1
    iexact Hd1

/-- All the ghost state, dealt. -/
theorem deal :
    iprop((bigSep (Finset.univ : Finset (Dev nD)) fun c => semVal (cell c .bar) 0) ∗ bigSep Finset.univ ghost₀ ∗ levAts L lv)
      ⊢ (|={Set.univ}=> bigSep Finset.univ (Share part) : sProp 𝕄) := by
  have hv : bigSep Finset.univ (fun c : Dev nD => (semVal (cell c .bar) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (At c .bar 0 : sProp 𝕄)) :=
    Entails.of_eq (bigSep_map (s := Finset.univ) barEmb (Φ := fun g : GSem nD τ sig => (atPos ER g 0 ∅ 0 : sProp 𝕄)))
  have hre : bigSep barCells (fun g => (reached ER g 0 : sProp 𝕄)) ⊢ bigSep Finset.univ (fun c : Dev nD => (Begun c .bar 0 : sProp 𝕄)) :=
    Entails.of_eq (bigSep_map (s := Finset.univ) barEmb (Φ := fun g : GSem nD τ sig => (reached ER g 0 : sProp 𝕄)))
  have hop : bigSep ownCells (fun g => (openTok ER g : sProp 𝕄))
      ⊢ bigSep Finset.univ (fun c : Dev nD => bigSep (Finset.univ : Finset Own) (fun k => (openTok ER (cell c (roleOwn k)) : sProp 𝕄))) :=
    Entails.of_eq (by unfold ownCells; rw [bigSep_map, bigSep_univ_prod]; rfl)
  have hinv (K : GSem nD τ sig → ℕ) : bigSep (barCells ∪ ownCells) (fun g => (cellInv ER (sched part) (K g) g : sProp 𝕄))
      ⊢ bigSep (Finset.univ : Finset (Dev nD × Role)) (fun p => cellInv ER (sched part) (K (cell p.1 p.2)) (cell p.1 p.2)) :=
    Entails.of_eq (by rw [cells_eq, bigSep_map]; rfl)
  have hgh : bigSep Finset.univ (ghost₀ (F := F)) ⊢ iprop(BI.own (ER rounds₀) ∗ BI.own (ES slots₀)) :=
    Entails.of_eq (bigSep_onFirst _)
  have hd : bigSep duties (fun x => (dutyTok ER x.1 x.2.1 x.2.2 : sProp 𝕄))
      ⊢ bigSep (Finset.univ : Finset (Dev nD)) (fun c => iprop(PayLane c 0 ∗ PayLane c 1)) := Entails.of_eq duties_dealt
  have hrd : bigSep (Finset.univ : Finset (Dev nD × Fin 2 × Fin 2)) (fun k => (readerAt ES k 0 : sProp 𝕄))
      ⊢ bigSep (Finset.univ : Finset (Dev nD)) (fun c => iprop((readerAt ES (c, 0, par 0) 0 ∗ readerAt ES (c, 0, par 1) 0)
          ∗ (readerAt ES (c, 1, par 0) 0 ∗ readerAt ES (c, 1, par 1) 0))) := Entails.of_eq readers_dealt
  iintro ⟨Hv, HG, #HL⟩
  ihave HG := hgh $$ HG
  icases HG with ⟨HR, HS⟩
  unfold rounds₀ slots₀
  imod (Rounds.fund_launch ER (sched part) cells_disjoint (fun g _ h => h) duties) $$ [Hv HR] with ⟨%K, -, #Hinv, #Hre, Hat, Hop, Htok⟩
  · isplitl [Hv]
    · iapply hv $$ Hv
    · iexact HR
  imod (slots_init ES (Finset.univ : Finset (Dev nD × Fin 2 × Fin 2)) 16 Slot) $$ HS with ⟨%Ks, -, #Hsl, Hrd, Htk⟩
  imodintro
  iapply (bigSep_with_persistent (R := Records part K Ks) (Φ := Linear) fun c _ => share_of part K Ks c)
  isplitr
  · unfold Records Known
    isplitr
    · isplitr; · unfold Levels; iexact HL
      isplitr; · iapply (hinv K); iexact Hinv
      iexact Hsl
    iapply hre; iexact Hre
  unfold Linear
  iapply pair; isplitl [Hat]; · iapply hat $$ Hat
  iapply pair; isplitl [Hop]; · iapply hop $$ Hop
  iapply pair; isplitl [Htok]; · iapply hd $$ Htok
  iapply pair; isplitl [Htk]; · iapply (takes_dealt (F := F)) $$ Htk
  iapply hrd $$ Hrd

end Cert.KernelIdeal.Ring
-- ==== Proof.Run.lean ====
/-
  The run: every execution of @main ends, the arguments as launched, the result each device's 128 rows,
  and every semaphore at zero; given that the host's tables hold what the kernel reads in them.
-/
module

public import proofs.«01_k».proof.Proof.Deal
public import Idealize.ShloMosaic.Lib.Pipeline.Regions

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat RegionSeg Seg HostSeg)
open Cert.KernelIdeal.Gen

variable {F : FTy → Type}

local notation "𝕄" => MT nD τ sig ℕ (Elt F) ℕ UU ℕ

variable [FloatOps F]
variable (m : (ℓ : Loc nD τ sig) → Buf (Elt F) ℓ)

/-- The arrays as the kernel finds them. -/
abbrev Vm : Vals F := fun c => V9 m c

/-- What the kernel leaves. -/
def outsOf : Outs (F := F) := fun _ r c =>
  if h : r = main_v50 then h ▸ (show Buf (Elt F) ((c : Thread nD τ).loc main_v50) from outVec (insOf (Vm m)) c)
  else m ((c : Thread nD τ).loc r)

theorem outsOf_v50 (c : Dev nD) : outsOf m 10 main_v50 c = outVec (insOf (Vm m)) c := dif_pos rfl

/-- What rides along: before the kernel, what the launch dealt and all that is owed; after it, the
    meeting semaphore at zero and nothing owed. -/
def Along : Fin 2 → Dev nD → sProp 𝕄
  | 0, c => iprop((∃ r, prngReg c r) ∗ Dealt (insOf (Vm m)) c ∗ ∃ W, owes (c : Thread nD τ) (dueAll c) W)
  | 1, c => iprop((∃ r, prngReg c r) ∗ semVal (cell c .bar) 0 ∗ ∃ W, owes (c : Thread nD τ) (0 : CellTallies nD τ sig ℕ) W)

theorem unscopedSems (c : Dev nD) : (unscopedSems0 c : sProp 𝕄) = semVal (cell c .bar) 0 := by
  unfold unscopedSems0
  rw [bigSep_eq_bigSepL_of_eq [SemLoc.reg barS] (by decide) (by decide)]
  rfl

theorem unscoped_eq : ∀ sm : SemLoc sig, sm.isScoped .tc = false → sm = .reg barS := by decide

theorem launched (ρ : Dev nD → PrngReg) :
    iprop((bigSep Finset.univ fun c : Dev nD => iprop(unscopedSems0 c ∗ owes (c : Thread nD τ) (dueAll c) ∅
        ∗ Pipeline.launchCred dueAll c ∗ prngReg c (ρ c) ∗ ghost₀ c)) ∗ levAts L lv)
      ⊢ (|={Set.univ}=> bigSep Finset.univ (Along m 0) : sProp 𝕄) := by
  have hcore (c : Dev nD) : iprop(unscopedSems0 c ∗ owes (c : Thread nD τ) (dueAll c) ∅
        ∗ Pipeline.launchCred dueAll c ∗ prngReg c (ρ c) ∗ ghost₀ c)
      ⊢ (iprop(semVal (cell c .bar) 0 ∗ (ghost₀ c
          ∗ ((CredLane c 0 ∗ CredLane c 1 ∗ Due c .bar 0 2) ∗ prngReg c (ρ c) ∗ owes (c : Thread nD τ) (dueAll c) ∅))) : sProp 𝕄) := by
    rw [unscopedSems]
    iintro ⟨Hs, HO, Hc, Hp, HG⟩
    ihave Hc := (creds (F := F) c) $$ Hc
    isplitl [Hs]; · iexact Hs
    isplitl [HG]; · iexact HG
    isplitl [Hc]; · iexact Hc
    isplitl [Hp]; · iexact Hp
    iexact HO
  have hall : (bigSep Finset.univ fun c : Dev nD => iprop(unscopedSems0 c ∗ owes (c : Thread nD τ) (dueAll c) ∅
        ∗ Pipeline.launchCred dueAll c ∗ prngReg c (ρ c) ∗ ghost₀ c))
      ⊢ (iprop((bigSep Finset.univ fun c : Dev nD => semVal (cell c .bar) 0) ∗ (bigSep Finset.univ ghost₀
          ∗ bigSep Finset.univ fun c : Dev nD => iprop((CredLane c 0 ∗ CredLane c 1 ∗ Due c .bar 0 2) ∗ prngReg c (ρ c) ∗ owes (c : Thread nD τ) (dueAll c) ∅))) : sProp 𝕄) := by
    refine (bigSep_mono fun c _ => hcore c).trans (show _ ⊢ (_ : sProp 𝕄) from Entails.of_eq ?_)
    rw [bigSep_sep', bigSep_sep']
  have hend (c : Dev nD) : iprop(Share (partOf (insOf (Vm m)).pv) c
        ∗ ((CredLane c 0 ∗ CredLane c 1 ∗ Due c .bar 0 2) ∗ prngReg c (ρ c) ∗ owes (c : Thread nD τ) (dueAll c) ∅)) ⊢ (Along m 0 c : sProp 𝕄) := by
    unfold Share
    show _ ⊢ iprop((∃ r, prngReg c r) ∗ Dealt (insOf (Vm m)) c ∗ ∃ W, owes (c : Thread nD τ) (dueAll c) W)
    unfold Dealt
    iintro ⟨HS, HC, Hp, HO⟩
    isplitl [Hp]; · iexists (ρ c); iexact Hp
    isplitr [HO]
    · isplitl [HS]; · iexact HS
      iexact HC
    iexists ∅; iexact HO
  iintro ⟨H, HL⟩
  ihave H := hall $$ H
  icases H with ⟨Hs, HG, HR⟩
  imod (deal (F := F) (partOf (insOf (Vm m)).pv)) $$ [Hs HG HL] with HS
  · isplitl [Hs]; · iexact Hs
    isplitl [HG]; · iexact HG
    iexact HL
  imodintro
  have hfin : iprop(bigSep Finset.univ (Share (partOf (insOf (Vm m)).pv))
        ∗ bigSep Finset.univ fun c : Dev nD => iprop((CredLane c 0 ∗ CredLane c 1 ∗ Due c .bar 0 2) ∗ prngReg c (ρ c) ∗ owes (c : Thread nD τ) (dueAll c) ∅))
      ⊢ (bigSep Finset.univ (Along m 0) : sProp 𝕄) := pair.trans (bigSep_mono fun c _ => hend c)
  iapply hfin
  isplitl [HS]; · iexact HS
  iexact HR

theorem arrs_uc : Pipeline.arrRefs (τ := τ) spec0 ⊆ Pipeline.ucRefs τ sig :=
  Pipeline.arrRefs_sub_ucRefs spec0 (by decide)

variable [∀ e, Nonempty (Elt F e)]

set_option backward.isDefEq.respectTransparency.types false in
theorem region_pre (hV : Tables (Vm m)) (c : Dev nD) :
    iprop(StableHlo.held (c : Thread nD τ) (Pipeline.ucRefs τ sig) (V9 m c) ∗ Along m 0 c) ⊢ (region (Vm m) hV).pre c := by
  rw [StableHlo.held_sub_split (c : Thread nD τ) arrs_uc (V9 m c)]
  show _ ⊢ iprop(StableHlo.held (c : Thread nD τ) (Pipeline.arrRefs spec0) (V9 m c) ∗ (∃ r, prngReg c r)
    ∗ (StableHlo.held (c : Thread nD τ) others (V9 m c) ∗ iprop(emp)) ∗ Dealt (insOf (Vm m)) c
    ∗ ∃ W, owes (c : Thread nD τ) ((0 : CellTallies nD τ sig ℕ) + dueAll c) W)
  rw [zero_add]
  show iprop(_ ∗ (∃ r, prngReg c r) ∗ Dealt (insOf (Vm m)) c ∗ ∃ W, owes (c : Thread nD τ) (dueAll c) W) ⊢ _
  iintro ⟨⟨Ha, Hr⟩, Hp, HD, HO⟩
  isplitl [Ha]; · iexact Ha
  isplitl [Hp]; · iexact Hp
  isplitl [Hr]
  · isplitl [Hr]; · iexact Hr
    iempintro
  isplitl [HD]; · iexact HD
  iexact HO

set_option backward.isDefEq.respectTransparency.types false in
theorem region_post (hV : Tables (Vm m)) (c : Dev nD) :
    (region (Vm m) hV).post c ⊢ iprop(StableHlo.held (c : Thread nD τ) (Pipeline.ucRefs τ sig) (V10 m (outsOf m) c) ∗ Along m 1 c) := by
  have hleft : V10 m (outsOf m) c = left (Vm m) c := by
    unfold left
    rw [← outsOf_v50 m c]
  rw [hleft, StableHlo.held_sub_split (c : Thread nD τ) arrs_uc (left (Vm m) c)]
  show iprop(StableHlo.held (c : Thread nD τ) (Pipeline.arrRefs spec0) (left (Vm m) c) ∗ (∃ r, prngReg c r)
    ∗ (StableHlo.held (c : Thread nD τ) others (left (Vm m) c) ∗ iprop(emp)) ∗ semVal (cell c .bar) 0
    ∗ ∃ W, owes (c : Thread nD τ) (0 : CellTallies nD τ sig ℕ) W) ⊢ _
  show _ ⊢ iprop(_ ∗ (∃ r, prngReg c r) ∗ semVal (cell c .bar) 0 ∗ ∃ W, owes (c : Thread nD τ) (0 : CellTallies nD τ sig ℕ) W)
  iintro ⟨Ha, Hp, ⟨Hr, -⟩, Hb, HO⟩
  isplitl [Ha Hr]
  · isplitl [Ha]; · iexact Ha
    iexact Hr
  isplitl [Hp]; · iexact Hp
  isplitl [Hb]; · iexact Hb
  iexact HO

/-- What a final state holds. -/
def Done (s : MemSt nD τ sig (Elt F)) : Prop :=
  (∀ c : Dev nD, s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_v50) = outVec (insOf (Vm m)) c)
  ∧ s.sem = fun _ => 0

set_option backward.isDefEq.respectTransparency.types false in
set_option maxRecDepth 4000 in
/-- The run. -/
theorem run_main (ρ : Dev nD → PrngReg) (hV : Tables (Vm m)) :
    θ_run defs (onTc (τ := τ) (main (F := F))) ⟨m, fun _ => 0, ρ⟩ (fun r => Done m r.2) := by
  refine Pipeline.θ_run_regions_kit_dev_sems (pcfgs (F := F)) adm (dats (Vm m)) 0 cellOf_inj EP defs₀ 𝒱₀ L lv m ρ main
    (segs m 𝒱₀ L lv (Along m) 0 (dats (Vm m)) (region (Vm m) hV))
    (fun c Q => by
      rewrite [main_chain c, Seg.run_eq_chain,
        show (segs m 𝒱₀ L lv (Along m) 0 (dats (Vm m)) (region (Vm m) hV) c).map Seg.prog = [
          StableHlo.seq (hostOps0 c), StableHlo.seq hostOps0_1, StableHlo.seq hostOps0_2, StableHlo.seq hostOps0_3,
          StableHlo.seq hostOps0_4, StableHlo.seq hostOps0_5, StableHlo.seq hostOps0_6, StableHlo.seq hostOps0_7,
          StableHlo.seq hostOps0_8, Prog.lift (.customCall (Pipeline.entry 0) ()) ] from rfl]
      dsimp (config := { failIfUnchanged := false }) only
      exact .rfl)
    (fun c => by simp only [segs, Seg.pipes_host, Seg.pipes_region, Seg.pipes_nil]; decide) dueAll L_of_ne ghost₀ u₀ ghost_split
    (T₀ := fun c => iprop(StableHlo.held (c : Thread nD τ) (Pipeline.ucRefs τ sig) (V0 m c) ∗ Along m 0 c))
    (Tₙ := fun c => iprop(StableHlo.held (c : Thread nD τ) (Pipeline.ucRefs τ sig) (V10 m (outsOf m) c) ∗ semVal (cell c .bar) 0))
    (hch := fun c => ⟨.rfl, .rfl, .rfl, .rfl, .rfl, .rfl, .rfl, .rfl, .rfl, region_pre m hV c, (region_post m hV c).trans ?_⟩)
    (hinit := ?_)
    (QY := fun c s => (s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_v50) = outVec (insOf (Vm m)) c) ∧ s.sem (cell c .bar) = 0)
    (hfin := fun c s' => ?_)
    (hQ := fun s h hs => ⟨fun c => (h c).1, sem_eq_zero hs fun c sm hsm => by
      obtain rfl := unscoped_eq sm hsm
      exact (h c).2⟩)
  · show iprop(StableHlo.held (c : Thread nD τ) (Pipeline.ucRefs τ sig) (V10 m (outsOf m) c)
        ∗ (∃ r, prngReg c r) ∗ semVal (cell c .bar) 0 ∗ ∃ W, owes (c : Thread nD τ) (0 : CellTallies nD τ sig ℕ) W) ⊢ _
    iintro ⟨Hh, -, Hb, HO⟩
    isplitr [HO]
    · isplitl [Hh]; · iexact Hh
      iexact Hb
    iexact HO
  · have hsplit : (bigSep Finset.univ fun c : Dev nD => iprop(unscopedBufs c (fun b => m ((c.tc : Thread nD τ).loc b)) ∗ unscopedSems0 c
          ∗ owes (c : Thread nD τ) (dueAll c) ∅ ∗ Pipeline.launchCred dueAll c ∗ prngReg c (ρ c) ∗ ghost₀ c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (dueAll c) ∅ ∗ Pipeline.launchCred dueAll c ∗ prngReg c (ρ c) ∗ ghost₀ c))
            : sProp 𝕄) := by
      rw [← bigSep_sep']
      exact bigSep_mono fun c _ => by rw [← Pipeline.unscopedBufs_held (Ix := ℕ) (Name := ℕ) (U := UU) (Lvl := ℕ) c (V0 m c)]; exact BI.Entails.refl _
    iintro ⟨H, Hla⟩
    ihave H' := hsplit $$ H
    icases H' with ⟨Hh, Hr⟩
    imod (launched m ρ) $$ [Hr Hla] with HE
    · isplitl [Hr]; · iexact Hr
      iexact Hla
    imodintro
    rw [bigSep_sep']
    isplitl [Hh]; · iexact Hh
    iexact HE
  · unfold StableHlo.held
    iintro ⟨⟨Hh, Hb⟩, HSI⟩
    icombine HSI Hb gives %hb
    ihave Hr := (pointsTo_read_all (Pipeline.ucRefs τ sig) (fun b => ((c : Thread nD τ).1, b)) (V10 m (outsOf m) c) s') $$ [Hh HSI]
    · isplitl [Hh] <;> iassumption
    icases Hr with ⟨%h, HSI⟩
    imodintro
    isplitr
    · ipureintro
      exact ⟨⟨(h (Proc.devRef .tc main_arg0) (Finset.mem_filter.mpr ⟨StableHlo.devRef_mem_tcRefs main_arg0, by decide⟩)).trans (V10_main_arg0 m (outsOf m) c),
        (h (Proc.devRef .tc main_arg1) (Finset.mem_filter.mpr ⟨StableHlo.devRef_mem_tcRefs main_arg1, by decide⟩)).trans (V10_main_arg1 m (outsOf m) c),
        (h (Proc.devRef .tc main_arg2) (Finset.mem_filter.mpr ⟨StableHlo.devRef_mem_tcRefs main_arg2, by decide⟩)).trans (V10_main_arg2 m (outsOf m) c),
        (h (Proc.devRef .tc main_arg3) (Finset.mem_filter.mpr ⟨StableHlo.devRef_mem_tcRefs main_arg3, by decide⟩)).trans (V10_main_arg3 m (outsOf m) c),
        (h (Proc.devRef .tc main_v50) (Finset.mem_filter.mpr ⟨StableHlo.devRef_mem_tcRefs main_v50, by decide⟩)).trans
          ((Function.update_self (Proc.devRef .tc main_v50 : DevRef τ sig) _ (V9 m c)).trans (outsOf_v50 m c))⟩,
        by simpa using hb⟩
    · iexact HSI

end Cert.KernelIdeal.Ring
-- ==== Proof.Tables.lean ====
module
public import proofs.«01_k».proof.Proof.Run
public import Idealize.ShloMosaic.Lib.StableHlo.RunClose

/-!
# The tables the host works out

Before the region starts, each device looks its own place on the ring up in a literal table, and from
that place it works out, with 32-bit words, three small tables: its two neighbours and the order in
which each lane walks the chunks. Here those words are computed, one stretch of host operations at a
time, and found to be the tables the region's proof asks for.
-/

@[expose] public section
noncomputable section

namespace Cert.KernelIdeal.Ring
open Idealize.ShloMosaic Idealize.ShloMosaic.TcCoe
open Idealize.ShloMosaic.ValueIdx
open Cert.KernelIdeal.Gen

variable {F : FTy → Type} [FloatOps F]

/-! ## The words the host computes with -/

/-- The divisor the host divides by: a zero is replaced by one. -/
def divW (n : BitVec 32) : BitVec 32 := Scalar.select (IntOp.cmpi .eq n 0#32) 1#32 n

/-- The remainder that takes the divisor's sign, as the host spells it. -/
def modW (a n : BitVec 32) : BitVec 32 :=
  Scalar.select (IntOp.andi (IntOp.cmpi .ne (IntOp.cmpi .slt (IntOp.remsi .host a (divW n)) 0#32) (IntOp.cmpi .slt (divW n) 0#32))
      (IntOp.cmpi .ne (IntOp.remsi .host a (divW n)) 0#32))
    (IntOp.addi (IntOp.remsi .host a (divW n)) (divW n)) (IntOp.remsi .host a (divW n))

/-- An index into a table of 32 entries, a negative one counted from the end. -/
def wrapW (a : BitVec 32) : BitVec 32 := Scalar.select (IntOp.cmpi .slt a 0#32) (IntOp.addi a 32#32) a

/-- The entry of a table of 32 words at a word index. -/
def pick (t : S32.Idx → BitVec 32) (w : BitVec 32) : BitVec 32 :=
  shapeCast S_ (Host.dynamicSlice S1 t
    (fun k => ((![fun _ => w] : Fin 1 → S_.Idx → BitVec 32) k (Shape.Idx.first h_S_)).toInt) sliceFits_S32_S1)
    shapeCasts_S1_S_ ix0

/-- The entries of a table of 32 words at 32 word indices. -/
def take (t w : S32.Idx → BitVec 32) : S32.Idx → BitVec 32 :=
  Host.gather gather_S32_S32x1_S32_n_0_n_n_0_1_1 t (broadcastInDim S32x1 ![0] bcast_S32_S32x1_0 fun i => wrapW (w i))

/-- The literal table of the devices in ring order. -/
def ringTab : S32.Idx → BitVec 32 := fun i => lit0 (S32.rowMajor i)
/-- The literal table of each device's place on the ring. -/
def posTab : S32.Idx → BitVec 32 := fun i => lit1 (S32.rowMajor i)

/-- A device's place on the ring, as the host looks it up. -/
def placeW (c : Dev nD) : BitVec 32 :=
  pick posTab (wrapW (IntOp.remui .host (IntOp.divui .host (Dev.word c) 1#32) 32#32))

/-- It is the word of the device's place. -/
theorem placeW_eq : ∀ c : Dev nD, placeW c = BitVec.ofNat 32 (pos c).val := by
  unfold placeW
  decide +kernel

/-! ## What each stretch leaves, over any contents before it -/

section Stretches
variable (m : (ℓ : Loc nD τ sig) → Buf (Elt F) ℓ) (V : Valuation τ sig (Elt F))

theorem first_place (c : Dev nD) : V1 m c main_v9 = fun _ => placeW c := by
  after_results_simp_entrywise
  funext i
  rw [eq_ix0 i]
  rfl

theorem first_ring (c : Dev nD) : V1 m c main_c = ringTab := by
  after_results_simp_entrywise
  rfl

theorem first_iota (c : Dev nD) : V1 m c main_v10 = fun i : S32.Idx => BitVec.ofNat 32 (i 0).val := by
  after_results_simp_entrywise
  rfl

theorem first_back (c : Dev nD) : V1 m c main_v13 = fun i : S32.Idx => placeW c - 1#32 - BitVec.ofNat 32 (i 0).val := by
  after_results_simp_entrywise
  rfl

theorem first_len (c : Dev nD) : V1 m c main_c_6 = fun _ => 32#32 := by
  after_results_simp_entrywise
  rfl

theorem mod_back (w : S32.Idx → BitVec 32) (h : V main_c_6 = fun _ => 32#32) (hw : V main_v13 = w) :
    StableHlo.after hostOps0_1 V main_v14 = fun i => modW (w i) 32#32 := by
  after_results_simp_entrywise
  simp only [h, hw]
  rfl

theorem take_back (t w : S32.Idx → BitVec 32) (h : V main_c = t) (hw : V main_v14 = w) :
    StableHlo.after hostOps0_2 V main_v21 = take t w := by
  after_results_simp_entrywise
  simp only [h, hw]
  rfl

theorem ahead (p : BitVec 32) (hp : V main_v9 = fun _ => p) (hi : V main_v10 = fun i : S32.Idx => BitVec.ofNat 32 (i 0).val) :
    StableHlo.after hostOps0_2 V main_v24 = fun i : S32.Idx => p + 1#32 + BitVec.ofNat 32 (i 0).val := by
  after_results_simp_entrywise
  simp only [hp, hi]
  rfl

theorem len_ahead : StableHlo.after hostOps0_2 V main_c_10 = fun _ => 32#32 := by
  after_results_simp_entrywise
  rfl

theorem mod_ahead (w : S32.Idx → BitVec 32) (h : V main_c_10 = fun _ => 32#32) (hw : V main_v24 = w) :
    StableHlo.after hostOps0_3 V main_v25 = fun i => modW (w i) 32#32 := by
  after_results_simp_entrywise
  simp only [h, hw]
  rfl

theorem take_ahead (t w : S32.Idx → BitVec 32) (h : V main_c = t) (hw : V main_v25 = w) :
    StableHlo.after hostOps0_4 V main_v32 = take t w := by
  after_results_simp_entrywise
  simp only [h, hw]
  rfl

theorem one_back (p : BitVec 32) (hp : V main_v9 = fun _ => p) :
    StableHlo.after hostOps0_4 V main_v33 = fun _ => p - 1#32 := by
  after_results_simp_entrywise
  simp only [hp]
  rfl

theorem len_left : StableHlo.after hostOps0_4 V main_c_14 = fun _ => 32#32 := by
  after_results_simp_entrywise
  rfl

theorem mod_left (w : BitVec 32) (h : V main_c_14 = fun _ => 32#32) (hw : V main_v33 = fun _ => w) :
    StableHlo.after hostOps0_5 V main_v34 = fun _ => modW w 32#32 := by
  after_results_simp_entrywise
  simp only [h, hw]
  rfl

theorem pick_left (t : S32.Idx → BitVec 32) (w : BitVec 32) (h : V main_c = t) (hw : V main_v34 = fun _ => w) :
    StableHlo.after hostOps0_6 V main_v39 = fun _ => pick t (wrapW w) := by
  after_results_simp_entrywise
  simp only [h, hw]
  funext i
  rw [eq_ix0 i]
  rfl

theorem one_ahead (p : BitVec 32) (hp : V main_v9 = fun _ => p) :
    StableHlo.after hostOps0_6 V main_v40 = fun _ => p + 1#32 := by
  after_results_simp_entrywise
  simp only [hp]
  rfl

theorem len_right : StableHlo.after hostOps0_6 V main_c_18 = fun _ => 32#32 := by
  after_results_simp_entrywise
  rfl

theorem mod_right (w : BitVec 32) (h : V main_c_18 = fun _ => 32#32) (hw : V main_v40 = fun _ => w) :
    StableHlo.after hostOps0_7 V main_v41 = fun _ => modW w 32#32 := by
  after_results_simp_entrywise
  simp only [h, hw]
  rfl

theorem both (t : S32.Idx → BitVec 32) (w x : BitVec 32) (h : V main_c = t) (hw : V main_v41 = fun _ => w)
    (hx : V main_v39 = fun _ => x) :
    StableHlo.after hostOps0_8 V main_v49 = fun i : S2.Idx => if (i 0).val = 0 then x else pick t (wrapW w) := by
  after_results_simp_entrywise
  refine (congrArg₂ (fun a b : S1.Idx → BitVec 32 => concatenate S2 0 [⟨S1, a⟩, ⟨S1, b⟩] concatenates_S1_S1_S2_d0)
    (x' := fun _ => x) (y' := fun _ => pick t (wrapW w)) ?_ ?_).trans ?_
  · after_results_simp_entrywise
    simp only [hx]
    rfl
  · after_results_simp_entrywise
    simp only [h, hw]
    funext i
    rw [eq_ix1 i]
    rfl
  funext i
  obtain ⟨k, rfl⟩ : ∃ k, i = ix1 k := ⟨_, eq_ix1 i⟩
  fin_cases k
  · rfl
  · rfl

end Stretches

/-! ## The words are the ring's -/

theorem back_word : ∀ p i : Fin 32,
    take ringTab (fun j => modW (BitVec.ofNat 32 p.val - 1#32 - BitVec.ofNat 32 (j 0).val) 32#32) (ix1 i)
      = BitVec.ofNat 32 (ringAt (p - 1 - i)).val := by
  decide +kernel

theorem ahead_word : ∀ p i : Fin 32,
    take ringTab (fun j => modW (BitVec.ofNat 32 p.val + 1#32 + BitVec.ofNat 32 (j 0).val) 32#32) (ix1 i)
      = BitVec.ofNat 32 (ringAt (p + 1 + i)).val := by
  decide +kernel

theorem left_word : ∀ p : Fin 32,
    pick ringTab (wrapW (modW (BitVec.ofNat 32 p.val - 1#32) 32#32)) = BitVec.ofNat 32 (ringAt (p - 1)).val := by
  decide +kernel

theorem right_word : ∀ p : Fin 32,
    pick ringTab (wrapW (modW (BitVec.ofNat 32 p.val + 1#32) 32#32)) = BitVec.ofNat 32 (ringAt (p + 1)).val := by
  decide +kernel

/-! ## The three tables -/

section Tables
variable (m : (ℓ : Loc nD τ sig) → Buf (Elt F) ℓ) (c : Dev nD)

theorem cw_table : V9 m c main_v21 = tabOf 0 c := by
  rw [V9_of m c main_v21 (by decide), V8_of m c main_v21 (by decide), V7_of m c main_v21 (by decide),
    V6_of m c main_v21 (by decide), V5_of m c main_v21 (by decide), V4_of m c main_v21 (by decide)]
  refine (take_back (V2 m c) _ _ ((V2_of m c main_c (by decide)).trans (first_ring m c))
    (mod_back (V1 m c) _ (first_len m c) (first_back m c))).trans ?_
  funext i
  rw [placeW_eq c, eq_ix1 i]
  exact back_word (pos c) (i 0)

theorem ccw_table : V9 m c main_v32 = tabOf 1 c := by
  rw [V9_of m c main_v32 (by decide), V8_of m c main_v32 (by decide), V7_of m c main_v32 (by decide),
    V6_of m c main_v32 (by decide)]
  refine (take_ahead (V4 m c) _ _ ((V4_of m c main_c (by decide)).trans <| (V3_of m c main_c (by decide)).trans <|
      (V2_of m c main_c (by decide)).trans (first_ring m c))
    (mod_ahead (V3 m c) _ (len_ahead (V2 m c)) (ahead (V2 m c) _ ((V2_of m c main_v9 (by decide)).trans (first_place m c))
      ((V2_of m c main_v10 (by decide)).trans (first_iota m c))))).trans ?_
  funext i
  rw [placeW_eq c, eq_ix1 i]
  exact ahead_word (pos c) (i 0)

/-- The place and the ring table are still there when the neighbours are looked up. -/
theorem place_late : V4 m c main_v9 = fun _ => placeW c :=
  (V4_of m c main_v9 (by decide)).trans <| (V3_of m c main_v9 (by decide)).trans <|
    (V2_of m c main_v9 (by decide)).trans (first_place m c)
theorem ring_late : V6 m c main_c = ringTab :=
  (V6_of m c main_c (by decide)).trans <| (V5_of m c main_c (by decide)).trans <| (V4_of m c main_c (by decide)).trans <|
    (V3_of m c main_c (by decide)).trans <| (V2_of m c main_c (by decide)).trans (first_ring m c)

theorem nb_table : V9 m c main_v49 = nbOf c := by
  refine (both (V8 m c) _ _ _ ((V8_of m c main_c (by decide)).trans <| (V7_of m c main_c (by decide)).trans (ring_late m c))
    (mod_right (V7 m c) _ (len_right (V6 m c)) (one_ahead (V6 m c) _
      ((V6_of m c main_v9 (by decide)).trans <| (V5_of m c main_v9 (by decide)).trans (place_late m c))))
    ((V8_of m c main_v39 (by decide)).trans (pick_left (V6 m c) _ _ (ring_late m c)
      (mod_left (V5 m c) _ (len_left (V4 m c)) (one_back (V4 m c) _ (place_late m c)))))).trans ?_
  funext i
  rw [placeW_eq c, left_word, right_word]
  show _ = word _
  split <;> rfl

end Tables

/-- The region starts with the tables its proof asks for. -/
theorem tables (m : (ℓ : Loc nD τ sig) → Buf (Elt F) ℓ) : Tables (Vm m) where
  nb := nb_table m
  cw := cw_table m
  ccw := ccw_table m

/-- No host operation writes an argument. -/
theorem arg0_late (m : (ℓ : Loc nD τ sig) → Buf (Elt F) ℓ) (c : Dev nD) : Vm m c main_arg0 = m (c.tc.loc main_arg0) :=
  (V10_of m (outsOf m) c main_arg0 (by decide)).symm.trans (V10_main_arg0 m (outsOf m) c)
theorem arg1_late (m : (ℓ : Loc nD τ sig) → Buf (Elt F) ℓ) (c : Dev nD) : Vm m c main_arg1 = m (c.tc.loc main_arg1) :=
  (V10_of m (outsOf m) c main_arg1 (by decide)).symm.trans (V10_main_arg1 m (outsOf m) c)
theorem arg2_late (m : (ℓ : Loc nD τ sig) → Buf (Elt F) ℓ) (c : Dev nD) : Vm m c main_arg2 = m (c.tc.loc main_arg2) :=
  (V10_of m (outsOf m) c main_arg2 (by decide)).symm.trans (V10_main_arg2 m (outsOf m) c)
theorem arg3_late (m : (ℓ : Loc nD τ sig) → Buf (Elt F) ℓ) (c : Dev nD) : Vm m c main_arg3 = m (c.tc.loc main_arg3) :=
  (V10_of m (outsOf m) c main_arg3 (by decide)).symm.trans (V10_main_arg3 m (outsOf m) c)

end Cert.KernelIdeal.Ring
-- ==== Proof.Same.lean ====
/- The printed kernel and the kernel in exact arithmetic are one program when both run over machine
   words: the same storage, the same host operations in the same order, the same kernel body. So
   what is proved of a run of the one, over any float values, is also proved of the other. -/
module

public import proofs.«01_k».proof.Proof.Gen.KernelIdeal.Launch
public import proofs.«01_k».proof.Proof.Gen.Kernel.Launch
public import Idealize.ShloMosaic.PureOps.BitExact

@[expose] public section

noncomputable section

namespace Cert.Same

open Idealize.ShloMosaic Idealize.ShloMosaic.TcCoe

set_option maxRecDepth 1000000 in
theorem ops0 (c : Dev Cert.Kernel.nD) : Cert.Kernel.Gen.hostOps0 (F := Bits) c =
    Cert.KernelIdeal.Gen.hostOps0 (F := Bits) c := by exact rfl

set_option maxRecDepth 1000000 in
theorem ops1 : Cert.Kernel.Gen.hostOps0_1 (F := Bits) = Cert.KernelIdeal.Gen.hostOps0_1 (F := Bits) := by
  exact rfl

set_option maxRecDepth 1000000 in
theorem ops2 : Cert.Kernel.Gen.hostOps0_2 (F := Bits) = Cert.KernelIdeal.Gen.hostOps0_2 (F := Bits) := by
  exact rfl

set_option maxRecDepth 1000000 in
theorem ops3 : Cert.Kernel.Gen.hostOps0_3 (F := Bits) = Cert.KernelIdeal.Gen.hostOps0_3 (F := Bits) := by
  exact rfl

set_option maxRecDepth 1000000 in
theorem ops4 : Cert.Kernel.Gen.hostOps0_4 (F := Bits) = Cert.KernelIdeal.Gen.hostOps0_4 (F := Bits) := by
  exact rfl

set_option maxRecDepth 1000000 in
theorem ops5 : Cert.Kernel.Gen.hostOps0_5 (F := Bits) = Cert.KernelIdeal.Gen.hostOps0_5 (F := Bits) := by
  exact rfl

set_option maxRecDepth 1000000 in
theorem ops6 : Cert.Kernel.Gen.hostOps0_6 (F := Bits) = Cert.KernelIdeal.Gen.hostOps0_6 (F := Bits) := by
  exact rfl

set_option maxRecDepth 1000000 in
theorem ops7 : Cert.Kernel.Gen.hostOps0_7 (F := Bits) = Cert.KernelIdeal.Gen.hostOps0_7 (F := Bits) := by
  exact rfl

set_option maxRecDepth 1000000 in
theorem ops8 : Cert.Kernel.Gen.hostOps0_8 (F := Bits) = Cert.KernelIdeal.Gen.hostOps0_8 (F := Bits) := by
  exact rfl

/-- The program before and around the launch is the same one. -/
theorem main_eq (c : Dev Cert.Kernel.nD) :
    Cert.Kernel.main (F := Bits) c = Cert.KernelIdeal.main (F := Bits) c := by
  refine (Cert.Kernel.Gen.main_chain (F := Bits) c).trans
    (Eq.trans ?_ (Cert.KernelIdeal.Gen.main_chain (F := Bits) c).symm)
  rw [ops0 c, ops1, ops2, ops3, ops4, ops5, ops6, ops7, ops8]

set_option maxRecDepth 1000000 in
set_option maxHeartbeats 0 in
/-- The kernel bodies are the same one. -/
theorem defs₀_eq : Cert.Kernel.defs₀ (F := Bits) = Cert.KernelIdeal.defs₀ (F := Bits) := by
  unfold Cert.Kernel.defs₀ Cert.KernelIdeal.defs₀
  refine congrArg _ (funext fun l => funext fun a => ?_)
  match l, a with
  | 0, (t, s) => exact rfl
  | ⟨_ + 1, h⟩, _ => exact absurd h (Nat.not_lt.2 (Nat.le_add_left _ _))

theorem defs_eq : Cert.Kernel.defs (F := Bits) = Cert.KernelIdeal.defs (F := Bits) := by
  unfold Cert.Kernel.defs Cert.KernelIdeal.defs
  exact congrArg (Pipeline.defs (Cert.KernelIdeal.pcfgs (F := Bits))) defs₀_eq

end Cert.Same

end
-- ==== Proof.Product.lean ====
/-
  The mathematics of one product: an entry of the product of 128 rows of `x` with half of the columns
  of `w` is the word of the integer dot product of a row and a column.
-/
module

public import proofs.«01_k».proof.Proof.Inputs
public import Idealize.ShloMosaic.Lib.IntMxu
public import Idealize.ShloMosaic.Lib.ValueIdxCore
public import Idealize.ShloMosaic.Lib.Pipeline.Value

@[expose] public section

noncomputable section

namespace Cert.KernelIdeal.Ring

open Idealize.ShloMosaic Idealize.ShloMosaic.TcCoe
open Idealize.ShloMosaic.ValueIdx
open Cert.KernelIdeal.Gen

variable {F : FTy → Type} [FloatOps F]

/-- A dot product of bytes, as a sum over the contracted coordinate. -/
theorem dotI8_apply (a : IVec S128x128 8) (b : IVec S128x1024 8) (i : Fin 128) (j : Fin 1024) :
    dotI8 dot_S128x128_S128x1024_S128x1024_1_0_0_1_n_n a b (ix2 i j) = ∑ k : Fin 128, (a (ix2 i k)).toInt * (b (ix2 k j)).toInt := by
  unfold dotI8
  rw [← Equiv.sum_comp (contrEquiv1 dot_S128x128_S128x1024_S128x1024_1_0_0_1_n_n 128 rfl rfl).symm]
  refine Finset.sum_congr rfl fun k _ => ?_
  have hk := contrEquiv1_symm_val dot_S128x128_S128x1024_S128x1024_1_0_0_1_n_n 128 rfl rfl k
  have hl : DotDims.lhsIdx dot_S128x128_S128x1024_S128x1024_1_0_0_1_n_n (ix2 i j)
      ((contrEquiv1 dot_S128x128_S128x1024_S128x1024_1_0_0_1_n_n 128 rfl rfl).symm k) = ix2 i k := by
    funext ax; apply Fin.ext
    match ax with
    | ⟨0, _⟩ => simp [DotDims.lhsIdx, dot_S128x128_S128x1024_S128x1024_1_0_0_1_n_n]; rfl
    | ⟨1, _⟩ => simp [DotDims.lhsIdx, dot_S128x128_S128x1024_S128x1024_1_0_0_1_n_n]; exact hk
  have hr : DotDims.rhsIdx dot_S128x128_S128x1024_S128x1024_1_0_0_1_n_n (ix2 i j)
      ((contrEquiv1 dot_S128x128_S128x1024_S128x1024_1_0_0_1_n_n 128 rfl rfl).symm k) = ix2 k j := by
    funext ax; apply Fin.ext
    match ax with
    | ⟨0, _⟩ => simp [DotDims.rhsIdx, dot_S128x128_S128x1024_S128x1024_1_0_0_1_n_n]; exact hk
    | ⟨1, _⟩ => simp [DotDims.rhsIdx, dot_S128x128_S128x1024_S128x1024_1_0_0_1_n_n]; rfl
  rw [hl, hr]

/-- Row `i` of chunk `r`. -/
def rowOf (r : Fin 32) (i : Fin 128) : Fin 4096 := ⟨128 * r.val + i.val, by omega⟩

/-- Column `j` of half `d`. -/
def colOf (d : Fin 2) (j : Fin 1024) : Fin 2048 := ⟨1024 * d.val + j.val, by omega⟩

theorem chunk_emb (r : Fin 32) (i k : Fin 128) :
    (chunkRect r).emb (ix2 i k : S128x128.Idx) = (ix2 (rowOf r i) k : S4096x128.Idx) := by
  funext ax; apply Fin.ext
  match ax with
  | ⟨0, _⟩ => show 128 * r.val + 1 * i.val = 128 * r.val + i.val; omega
  | ⟨1, _⟩ => show 0 + 1 * k.val = k.val; omega

theorem half_emb (d : Fin 2) (k : Fin 128) (j : Fin 1024) :
    (halfRect d).emb (ix2 k j : S128x1024.Idx) = (ix2 k (colOf d j) : S128x2048.Idx) := by
  funext ax; apply Fin.ext
  match ax with
  | ⟨0, _⟩ => show 0 + 1 * k.val = k.val; omega
  | ⟨1, _⟩ => show 1024 * d.val + 1 * j.val = 1024 * d.val + j.val; omega

/-- The integer dot product of a row of `x` and a column of `w`. -/
def rowDot (x : Vec F S4096x128 .i8) (w : Vec F S128x2048 .i8) (r : Fin 4096) (n : Fin 2048) : ℤ :=
  ∑ k : Fin 128, BitVec.toInt (x (ix2 r k) : BitVec 8) * BitVec.toInt (w (ix2 k n) : BitVec 8)

/-- An entry of a product. -/
theorem prodOf_apply (x : Vec F S4096x128 .i8) (w : Vec F S128x2048 .i8) (d : Fin 2) (r : Fin 32)
    (i : Fin 128) (j : Fin 1024) :
    prodOf (F := F) x w d r (ix2 i j) = BitVec.ofInt 32 (rowDot (F := F) x w (rowOf r i) (colOf d j)) := by
  unfold prodOf k0_pay5
  refine (matmulI8_exact_of_numel _ _ _ _ _ _ rfl (by decide)).trans (congrArg _ ?_)
  rw [shapeCast_self, shapeCast_self, dotI8_apply]
  unfold rowDot
  simp only [chunk_emb, half_emb]

end Cert.KernelIdeal.Ring

end
-- ==== Proof.Sums.lean ====
/-
  What the array holds: the total of a flit, after all hops, is the sum of all devices' products of
  the receiver's own chunk of rows.
-/
module

public import proofs.«01_k».proof.Proof.Product
public import proofs.«01_k».proof.Proof.Split
public import Mathlib.Data.BitVec

@[expose] public section

noncomputable section

namespace Cert.KernelIdeal.Ring

open Idealize.ShloMosaic Idealize.ShloMosaic.TcCoe
open Idealize.ShloMosaic.ValueIdx
open Cert.KernelIdeal.Gen

variable {F : FTy → Type}

/-! ## Reading a flit -/

/-- Column `j` of flit `f`. -/
def flitCol (f : Fin 2) (j : Fin 512) : Fin 1024 := ⟨512 * f.val + j.val, by omega⟩

theorem slice_flit_apply (f : Fin 2) (p : IVec S128x1024 32) (i : Fin 128) (j : Fin 512) :
    extractStridedSlice S128x512 ![0, 512 * f.val] p (slices_flit f) (ix2 i j) = p (ix2 i (flitCol f j)) := by
  refine extractStridedSlice_apply _ _ _ _ _ fun ax => ?_
  match ax with
  | ⟨0, _⟩ => show i.val = 0 + i.val; omega
  | ⟨1, _⟩ => rfl

theorem wide_apply (v : IVec S128x512 32) (i : Fin 128) (j : Fin 512) :
    shapeCast S1x128x512 v shapeCasts_S128x512_S1x128x512 (ix3 (0 : Fin 1) i j) = v (ix2 i j) := by
  refine shapeCast_apply _ _ _ _ ?_
  rw [Shape.rowMajor_val_three, Shape.rowMajor_val_two]
  show i.val * 512 + j.val = (0 * 128 + i.val) * 512 + j.val
  omega

theorem narrow_apply (v : IVec S1x128x512 32) (i : Fin 128) (j : Fin 512) :
    shapeCast S128x512 v shapeCasts_S1x128x512_S128x512 (ix2 i j) = v (ix3 (0 : Fin 1) i j) := by
  refine shapeCast_apply _ _ _ _ ?_
  rw [Shape.rowMajor_val_three, Shape.rowMajor_val_two]
  show (0 * 128 + i.val) * 512 + j.val = i.val * 512 + j.val
  omega

/-- What arrived plus a product, at an entry. -/
theorem added_apply (f : Fin 2) (p : IVec S128x1024 32) (r : FlitVec F) (i : Fin 128) (j : Fin 512) :
    added (F := F) f p r (ix2 i j)
      = (show BitVec 32 from r (ix3 (0 : Fin 1) i j)) + p (ix2 i (flitCol f j)) :=
  congrArg₂ (· + ·) (narrow_apply (r : IVec S1x128x512 32) i j) (slice_flit_apply f p i j)

/-! ## The partial sums -/

/-- A partial sum is the sum of the products of the devices upstream, each at the step it took. -/
theorem partOf_apply (pv : Fin 2 → Dev nD → ℕ → IVec S128x1024 32) (d f : Fin 2) (i : Fin 128) (j : Fin 512)
    (k : ℕ) : ∀ c : Dev nD, (show BitVec 32 from partOf (F := F) pv d c f k (ix3 (0 : Fin 1) i j))
      = ∑ t ∈ Finset.range (k + 1), pv d ((src d)^[t] c) (k - t) (ix2 i (flitCol f j)) := by
  induction k with
  | zero =>
    intro c
    rw [Finset.sum_range_one]
    exact (wide_apply _ i j).trans (slice_flit_apply f _ i j)
  | succ k ih =>
    intro c
    rw [Finset.sum_range_succ']
    refine (wide_apply _ i j).trans ((added_apply f _ _ i j).trans (congrArg₂ (· + ·) ?_ rfl))
    refine (ih (src d c)).trans (Finset.sum_congr rfl fun t _ => ?_)
    rw [Function.iterate_succ_apply, Nat.add_sub_add_right]

/-- The total: what arrives last plus the last product. -/
theorem total_apply (pv : Fin 2 → Dev nD → ℕ → IVec S128x1024 32) (d f : Fin 2) (c : Dev nD) (i : Fin 128)
    (j : Fin 512) : added (F := F) f (pv d c 31) (partOf pv d (src d c) f 30) (ix2 i j)
      = ∑ t ∈ Finset.range 32, pv d ((src d)^[t] c) (31 - t) (ix2 i (flitCol f j)) := by
  rw [added_apply, partOf_apply pv d f i j 30, Finset.sum_range_succ' _ 31]
  refine congrArg₂ (· + ·) (Finset.sum_congr rfl fun t _ => ?_) rfl
  rw [Function.iterate_succ_apply, show 31 - (t + 1) = 30 - t by omega]

/-! ## All the way round -/

/-- The device `t` steps upstream. -/
def back (d : Fin 2) (c : Dev nD) (t : Fin 32) : Dev nD :=
  if d = 0 then ringAt (pos c - t) else ringAt (pos c + t)

theorem place_step : ∀ p t : Fin 32, p - t - 1 = p - (t + 1) ∧ p + t + 1 = p + (t + 1) := by decide

theorem src_back (d : Fin 2) (c : Dev nD) (t : Fin 32) : src d (back d c t) = back d c (t + 1) := by
  unfold src back
  by_cases hd : d = 0
  · simp only [if_pos hd, pos_ringAt, (place_step (pos c) t).1]
  · simp only [if_neg hd, pos_ringAt, (place_step (pos c) t).2]

theorem back_zero (d : Fin 2) (c : Dev nD) : back d c 0 = c := by revert d c; decide

theorem iterate_src (d : Fin 2) (c : Dev nD) (t : ℕ) : (src d)^[t] c = back d c (Fin.ofNat 32 t) := by
  induction t with
  | zero => exact (back_zero d c).symm
  | succ t ih =>
    rw [Function.iterate_succ_apply', ih, src_back]
    congr 1
    apply Fin.ext
    simp [Fin.val_add, Fin.ofNat]

theorem place_back : ∀ p t : Fin 32, p - t - 1 - (31 - t) = p ∧ p + t + 1 + (31 - t) = p := by decide

/-- Whoever it is, the product it adds is of the receiver's chunk. -/
theorem chunk_back (d : Fin 2) (c : Dev nD) (t : Fin 32) : chunk d (back d c t) (31 - t) = c := by
  unfold chunk back
  by_cases hd : d = 0
  · simp only [if_pos hd, pos_ringAt, (place_back (pos c) t).1, ringAt_pos]
  · simp only [if_neg hd, pos_ringAt, (place_back (pos c) t).2, ringAt_pos]

theorem place_inj : ∀ p t u : Fin 32, (p - t = p - u → t = u) ∧ (p + t = p + u → t = u) := by
  intro p t u; constructor <;> intro h <;> omega

/-- Every device is some number of steps upstream, and only one number under 32. -/
theorem back_bijective (d : Fin 2) (c : Dev nD) : Function.Bijective (back d c) := by
  refine Finite.injective_iff_bijective.1 fun t u h => ?_
  have h' := congrArg pos h
  unfold back at h'
  by_cases hd : d = 0
  · simp only [if_pos hd, pos_ringAt] at h'; exact (place_inj _ _ _).1 h'
  · simp only [if_neg hd, pos_ringAt] at h'; exact (place_inj _ _ _).2 h'

variable [FloatOps F]

theorem pv_back (I : Ins F) (d : Fin 2) (c : Dev nD) (t : Fin 32) :
    I.pv d ((src d)^[t.val] c) (31 - t.val) = prodOf (F := F) (I.x (back d c t)) (I.w (back d c t)) d c := by
  have ht : Fin.ofNat 32 t.val = t := Fin.ext (Nat.mod_eq_of_lt t.isLt)
  have hs : Fin.ofNat 32 (31 - t.val) = 31 - t := by revert t; decide
  unfold Ins.pv
  rw [iterate_src, ht, hs, chunk_back]

/-- The total of a flit is the sum of all devices' products of one's own chunk. -/
theorem total_eq (I : Ins F) (d f : Fin 2) (c : Dev nD) (i : Fin 128) (j : Fin 512) :
    added (F := F) f (I.pv d c 31) (partOf I.pv d (src d c) f 30) (ix2 i j)
      = ∑ e : Dev nD, prodOf (F := F) (I.x e) (I.w e) d c (ix2 i (flitCol f j)) := by
  rw [total_apply, Finset.sum_range]
  simp only [pv_back]
  exact Equiv.sum_comp (Equiv.ofBijective _ (back_bijective d c))
    (fun e => prodOf (F := F) (I.x e) (I.w e) d c (ix2 i (flitCol f j)))

end Cert.KernelIdeal.Ring

end
-- ==== Proof.Value.lean ====
/-
  What a device's result holds in exact arithmetic: the integer dot products of the whole arrays'
  rows and columns, none of which overflows a word, times the scales' product.
-/
module

public import proofs.«01_k».proof.Proof.Sums
public import Idealize.ShloMosaic.Lib.ValueIdx

@[expose] public section

noncomputable section

namespace Cert.KernelIdeal.Ring

open Idealize.ShloMosaic Idealize.ShloMosaic.TcCoe
open Idealize.ShloMosaic.ValueIdx
open Cert.KernelIdeal.Gen

variable {F : FTy → Type}

/-! ## Words of integers -/

theorem sum_ofInt {ι : Type} (s : Finset ι) (g : ι → ℤ) :
    ∑ e ∈ s, BitVec.ofInt 32 (g e) = BitVec.ofInt 32 (∑ e ∈ s, g e) := by
  classical
  induction s using Finset.induction_on with
  | empty => rfl
  | insert a s ha ih => rw [Finset.sum_insert ha, Finset.sum_insert ha, ih, BitVec.ofInt_add]

/-- A small integer is read back from its word. -/
theorem toInt_ofInt_small (z : ℤ) (hz : |z| ≤ 2 ^ 26) : (BitVec.ofInt 32 z).toInt = z := by
  have h := abs_le.1 hz
  rw [BitVec.toInt_ofInt]
  exact Int.bmod_eq_of_le (by norm_num; omega) (by norm_num; omega)

theorem abs_byte (b : BitVec 8) : |b.toInt| ≤ 128 := by
  have h1 := BitVec.toInt_lt (x := b)
  have h2 := BitVec.le_toInt (x := b)
  rw [abs_le]; norm_num at h1 h2; omega

/-- A dot product of 128 pairs of bytes is at most 2²¹ either way. -/
theorem abs_rowDot (x : Vec F S4096x128 .i8) (w : Vec F S128x2048 .i8) (r : Fin 4096) (n : Fin 2048) :
    |rowDot (F := F) x w r n| ≤ 2 ^ 21 := by
  unfold rowDot
  refine (Finset.abs_sum_le_sum_abs _ _).trans ?_
  refine (Finset.sum_le_card_nsmul _ _ (128 * 128) fun k _ => ?_).trans (by simp)
  rw [abs_mul]
  exact mul_le_mul (abs_byte _) (abs_byte _) (abs_nonneg _) (by norm_num)

/-- The total of all devices' dot products. -/
def total (x : Dev nD → Vec F S4096x128 .i8) (w : Dev nD → Vec F S128x2048 .i8) (r : Fin 4096) (n : Fin 2048) : ℤ :=
  ∑ e : Dev nD, rowDot (F := F) (x e) (w e) r n

theorem abs_total (x : Dev nD → Vec F S4096x128 .i8) (w : Dev nD → Vec F S128x2048 .i8) (r : Fin 4096) (n : Fin 2048) :
    |total (F := F) x w r n| ≤ 2 ^ 26 := by
  unfold total
  refine (Finset.abs_sum_le_sum_abs _ _).trans ?_
  exact (Finset.sum_le_card_nsmul _ _ (2 ^ 21) fun e _ => abs_rowDot _ _ _ _).trans (by simp)

/-! ## The result -/

/-- A total, read as a signed word, is the integer total: no sum wraps. -/
theorem added_toInt [FloatOps F] (I : Ins F) (d f : Fin 2) (c : Dev nD) (i : Fin 128) (j : Fin 512) :
    (added (F := F) f (I.pv d c 31) (partOf I.pv d (src d c) f 30) (ix2 i j)).toInt
      = total (F := F) I.x I.w (rowOf c i) (colOf d (flitCol f j)) := by
  rw [total_eq]
  simp only [prodOf_apply]
  rw [sum_ofInt]
  exact toInt_ofInt_small _ (abs_total _ _ _ _)

/-- An entry of a flit of the result. -/
theorem lastVal_apply (I : Ins Ideal) (c : Dev nD) (d f : Fin 2) (i : Fin 128) (j : Fin 512) :
    lastVal I c d f (ix2 i j)
      = ((total (F := Ideal) I.x I.w (rowOf c i) (colOf d (flitCol f j)) : ℝ) : EReal) * I.sc c := by
  rw [← added_toInt I d f c i j]
  rfl

/-- The halves and flits tile the columns. -/
theorem col_split (n : Fin 2048) (hd : n.val / 1024 < 2) (hf : n.val / 512 % 2 < 2) (hj : n.val % 512 < 512) :
    colOf ⟨n.val / 1024, hd⟩ (flitCol ⟨n.val / 512 % 2, hf⟩ ⟨n.val % 512, hj⟩) = n := by
  apply Fin.ext
  show 1024 * (n.val / 1024) + (512 * (n.val / 512 % 2) + n.val % 512) = n.val
  omega

/-- An entry of a device's result. -/
theorem outVec_apply (I : Ins Ideal) (c : Dev nD) (i : Fin 128) (n : Fin 2048) :
    outVec I c (ix2 i n) = ((total (F := Ideal) I.x I.w (rowOf c i) n : ℝ) : EReal) * I.sc c := by
  refine (lastVal_apply I c _ _ i _).trans ?_
  rw [col_split]

end Cert.KernelIdeal.Ring

end
-- ==== Proof.Reference.lean ====
/-
  What the reference computes: each entry is the integer dot product of a row of `x` and a column of
  `w`, times the product of the scales.
-/
module

public import proofs.«01_k».proof.Proof.Gen.ReferenceIdeal.Run
public import Idealize.ShloMosaic.Lib.StackMember
public import Idealize.ShloMosaic.Lib.ValueIdx
public import Idealize.ShloMosaic.Lib.Pipeline.Value

@[expose] public section

noncomputable section

namespace Cert.ReferenceIdeal.Product

open Idealize.ShloMosaic Idealize.ShloMosaic.TcCoe
open Idealize.ShloMosaic.ValueIdx
open Cert.ReferenceIdeal Cert.ReferenceIdeal.Gen

/-- The integer dot product of row `r` of `x` and column `n` of `w`. -/
def wholeDot (x : IVec S4096x4096 8) (w : IVec S4096x2048 8) (r : Fin 4096) (n : Fin 2048) : ℤ :=
  ∑ q : Fin 4096, (x (ix2 r q)).toInt * (w (ix2 q n)).toInt

/-- The reference's value, of its arguments. -/
def refOf (x : IVec S4096x4096 8) (w : IVec S4096x2048 8) (a b : FVec Ideal S1 .f32) : FVec Ideal S4096x2048 .f32 :=
  mulf (Host.dotGeneral dot_S4096x4096_S4096x2048_S4096x2048_1_0_0_1_n_n none (sitofp .f32 (extsi 32 x natLt_8_32))
      (sitofp .f32 (extsi 32 w natLt_8_32)))
    (broadcastInDim S4096x2048 ![0, 1] bcast_S1x1_S4096x2048_0_1 (broadcastInDim S1x1 ![1] bcast_S1_S1x1_1 (mulf a b)))

/-- A widened byte, as a real number. -/
theorem widened {s : Shape} (v : IVec s 8) (k : s.Idx) :
    (sitofp .f32 (extsi 32 v natLt_8_32) : FVec Ideal s .f32) k = (((v k).toInt : ℝ) : EReal) := by
  show (((BitVec.signExtend 32 (v k)).toInt : ℝ) : EReal) = _
  rw [BitVec.toInt_signExtend_of_le (by decide)]

/-- A sum of products of integers is the same in the extended reals. -/
theorem coe_sum_mul {ι : Type} (s : Finset ι) (g h : ι → ℤ) :
    ∑ q ∈ s, ((g q : ℝ) : EReal) * ((h q : ℝ) : EReal) = (((∑ q ∈ s, g q * h q : ℤ) : ℝ) : EReal) := by
  classical
  induction s using Finset.induction_on with
  | empty => simp
  | insert a s ha ih =>
    rw [Finset.sum_insert ha, Finset.sum_insert ha, ih]
    push_cast
    rfl

/-- The scales' product, wherever it is read. -/
theorem scales_apply (v : FVec Ideal S1 .f32) (r : Fin 4096) (n : Fin 2048) :
    broadcastInDim S4096x2048 ![0, 1] bcast_S1x1_S4096x2048_0_1 (broadcastInDim S1x1 ![1] bcast_S1_S1x1_1 v) (ix2 r n)
      = v (ix1 (0 : Fin 1)) := by
  refine (broadcastInDim_apply _ _ _ _ (ix2 (0 : Fin 1) (0 : Fin 1)) fun ax => ?_).trans
    (broadcastInDim_apply _ _ _ _ (ix1 (0 : Fin 1)) fun ax => ?_)
  · match ax with
    | ⟨0, _⟩ => rfl
    | ⟨1, _⟩ => rfl
  · match ax with
    | ⟨0, _⟩ => rfl

/-- An entry of the reference's result. -/
theorem refOf_apply (x : IVec S4096x4096 8) (w : IVec S4096x2048 8) (a b : FVec Ideal S1 .f32) (r : Fin 4096)
    (n : Fin 2048) : refOf x w a b (ix2 r n)
      = ((wholeDot x w r n : ℝ) : EReal) * (a (ix1 (0 : Fin 1)) * b (ix1 (0 : Fin 1))) := by
  have hd : Host.dotGeneral dot_S4096x4096_S4096x2048_S4096x2048_1_0_0_1_n_n none
      (sitofp .f32 (extsi 32 x natLt_8_32) : FVec Ideal S4096x4096 .f32)
      (sitofp .f32 (extsi 32 w natLt_8_32) : FVec Ideal S4096x2048 .f32) (ix2 r n)
      = ((wholeDot x w r n : ℝ) : EReal) := by
    refine (StackMember.dotGeneral_plain_apply (m := 4096) (n := 2048) (k := 4096) none _ _ r n).trans ?_
    simp only [widened]
    exact coe_sum_mul _ _ _
  unfold refOf
  rw [ValueIdx.mulf_apply, scales_apply, ValueIdx.mulf_apply, hd]

end Cert.ReferenceIdeal.Product

end
-- ==== Proof.Equation.lean ====
/-
  The equation: when every device holds its blocks of the reference's arguments, what it leaves is
  its block of the reference's result.
-/
module

public import proofs.«01_k».proof.Proof.Value
public import proofs.«01_k».proof.Proof.Ring
public import proofs.«01_k».proof.Proof.Reference
public import Idealize.ShloMosaic.Lib.Layout
public import Mathlib.Logic.Equiv.Fin.Basic

@[expose] public section

noncomputable section

namespace Cert.Equation

open Idealize.ShloMosaic Idealize.ShloMosaic.TcCoe
open Idealize.ShloMosaic.ValueIdx
open Cert.KernelIdeal (nD S4096x128 S128x2048)
open Cert.KernelIdeal.Ring (Ins outVec outVec_apply rowOf rowDot total scaleOf)
open Cert.ReferenceIdeal (S4096x4096 S4096x2048 S1)
open Cert.ReferenceIdeal.Product (wholeDot refOf refOf_apply)

/-- Coordinate `k` of device `e`'s part of the contracted axis, in the whole axis. -/
def along (e : Fin 32) (k : Fin 128) : Fin 4096 := finProdFinEquiv (m := 32) (n := 128) (e, k)

theorem along_val (e : Fin 32) (k : Fin 128) : (along e k).val = k.val + 128 * e.val := rfl

/-- A sum along the whole axis is the sum over the devices of the sums along their parts. -/
theorem sum_along (g : Fin 4096 → ℤ) : ∑ q : Fin 4096, g q = ∑ e : Fin 32, ∑ k : Fin 128, g (along e k) := by
  rw [← Equiv.sum_comp (finProdFinEquiv (m := 32) (n := 128)) g, Fintype.sum_prod_type]
  rfl

variable (x : IVec S4096x4096 8) (w : IVec S4096x2048 8)

/-- A device's part of `x`: its columns. -/
theorem block_x (e : Fin 32) (r : Fin 4096) (k : Fin 128) :
    Layout.block ⟨2, ![4096, 128]⟩ ⟨2, ![4096, 4096]⟩ 1 32 e x (by decide) (ix2 r k) = x (ix2 r (along e k)) := by
  rw [Layout.block_apply]
  refine congrArg x (funext fun ax => Fin.ext ?_)
  match ax with
  | ⟨0, _⟩ => exact (Layout.idx_cols_val _ e (ix2 r k)).1
  | ⟨1, _⟩ =>
    refine (Layout.idx_cols_val _ e (ix2 r k)).2.trans ?_
    show e.val * 128 + k.val = k.val + 128 * e.val
    omega

/-- A device's part of `w`: its rows. -/
theorem block_w (e : Fin 32) (k : Fin 128) (n : Fin 2048) :
    Layout.block ⟨2, ![128, 2048]⟩ ⟨2, ![4096, 2048]⟩ 0 32 e w (by decide) (ix2 k n) = w (ix2 (along e k) n) := by
  rw [Layout.block_apply]
  refine congrArg w (funext fun ax => Fin.ext ?_)
  match ax with
  | ⟨0, _⟩ =>
    refine (Layout.idx_rows_val _ e (ix2 k n)).1.trans ?_
    show e.val * 128 + k.val = k.val + 128 * e.val
    omega
  | ⟨1, _⟩ => exact (Layout.idx_rows_val _ e (ix2 k n)).2

/-- A device's part of a result: its rows. -/
theorem block_out {α : Type} (v : S4096x2048.Idx → α) (c : Fin 32) (i : Fin 128) (n : Fin 2048) :
    Layout.block ⟨2, ![128, 2048]⟩ ⟨2, ![4096, 2048]⟩ 0 32 c v (by decide) (ix2 i n) = v (ix2 (rowOf c i) n) := by
  rw [Layout.block_apply]
  refine congrArg v (funext fun ax => Fin.ext ?_)
  match ax with
  | ⟨0, _⟩ =>
    refine (Layout.idx_rows_val _ c (ix2 i n)).1.trans ?_
    show c.val * 128 + i.val = 128 * c.val + i.val
    omega
  | ⟨1, _⟩ => exact (Layout.idx_rows_val _ c (ix2 i n)).2

/-- The devices' dot products add up to the whole one. -/
theorem total_eq_wholeDot (r : Fin 4096) (n : Fin 2048) :
    total (F := Ideal) (fun e => Layout.block ⟨2, ![4096, 128]⟩ ⟨2, ![4096, 4096]⟩ 1 32 e x (by decide))
        (fun e => Layout.block ⟨2, ![128, 2048]⟩ ⟨2, ![4096, 2048]⟩ 0 32 e w (by decide)) r n
      = wholeDot x w r n := by
  unfold total rowDot wholeDot
  rw [sum_along]
  refine Finset.sum_congr rfl fun e _ => Finset.sum_congr rfl fun k _ => ?_
  exact congrArg₂ (fun a b : BitVec 8 => a.toInt * b.toInt) (block_x x e r k) (block_w w e k n)

/-- Each device's result is its block of the reference's. -/
theorem outVec_eq_block (a b : FVec Ideal S1 .f32) (I : Ins Ideal)
    (hx : I.x = fun e => Layout.block ⟨2, ![4096, 128]⟩ ⟨2, ![4096, 4096]⟩ 1 32 e x (by decide))
    (hw : I.w = fun e => Layout.block ⟨2, ![128, 2048]⟩ ⟨2, ![4096, 2048]⟩ 0 32 e w (by decide))
    (c : Fin 32) (hs : I.sc c = scaleOf (F := Ideal) a b) :
    outVec I c = Layout.block ⟨2, ![128, 2048]⟩ ⟨2, ![4096, 2048]⟩ 0 32 c (refOf x w a b) (by decide) := by
  funext q
  obtain ⟨i, n, rfl⟩ : ∃ (i : Fin 128) (n : Fin 2048), q = ix2 i n := ⟨q 0, q 1, eq_ix2 q⟩
  refine (outVec_apply I c i n).trans (Eq.trans ?_ (block_out (refOf x w a b) c i n).symm)
  rw [refOf_apply, hs, hx, hw, total_eq_wholeDot]
  rfl

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Tables
public import proofs.«01_k».proof.Proof.Same
public import proofs.«01_k».proof.Proof.Equation
public import Idealize.ShloMosaic.Adequacy
public import Idealize.ShloMosaic.Init

@[expose] public section

noncomputable section

namespace Cert.Proof

open Idealize.ShloMosaic Idealize.SL.Sem

/-- Every run of the printed kernel ends, with the arguments as launched and every counter at zero. -/
theorem frame_kernel : Cert.quiescent_Kernel := fun m ρ _ => by
  have hm : Cert.Kernel.main (F := Bits) = Cert.KernelIdeal.main (F := Bits) := funext Cert.Same.main_eq
  rw [Cert.Same.defs_eq, hm]
  exact (θ_run Cert.KernelIdeal.defs _ _).mono
    (fun _ h => ⟨fun c => ⟨(h.1 c).1, (h.1 c).2.1, (h.1 c).2.2.1, (h.1 c).2.2.2.1⟩, h.2⟩)
    (Cert.KernelIdeal.Ring.run_main (F := Bits) m ρ (Cert.KernelIdeal.Ring.tables m))

/-- The same of the kernel in exact arithmetic. -/
theorem frame_kernelIdeal : Cert.quiescent_KernelIdeal := fun m ρ _ =>
  (θ_run Cert.KernelIdeal.defs _ _).mono
    (fun _ h => ⟨fun c => ⟨(h.1 c).1, (h.1 c).2.1, (h.1 c).2.2.1, (h.1 c).2.2.2.1⟩, h.2⟩)
    (Cert.KernelIdeal.Ring.run_main (F := Ideal) m ρ (Cert.KernelIdeal.Ring.tables m))

/-- The reference is a straight line of host operations and declares no semaphore. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel in exact arithmetic is the kernel's own text. -/
theorem preserves : Cert.preserves_Kernel_KernelIdeal := trivial

/-- Every device's result is its block of the reference's. -/
theorem algebraic : Cert.algebraic_KernelIdeal_ReferenceIdeal := fun m ρ m' ρ' _ hm => by
  refine ⟨Cert.ReferenceIdeal.Product.refOf
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)),
    ?_, ?_⟩
  · refine (θ_run Cert.KernelIdeal.defs _ _).mono (fun _ h c => ⟨(h.1 c).2.2.2.2.trans ?_,
        (h.1 c).1, (h.1 c).2.1, (h.1 c).2.2.1, (h.1 c).2.2.2.1⟩)
      (Cert.KernelIdeal.Ring.run_main (F := Ideal) m ρ (Cert.KernelIdeal.Ring.tables m))
    refine Cert.Equation.outVec_eq_block _ _ _ _ (Cert.KernelIdeal.Ring.insOf (Cert.KernelIdeal.Ring.Vm m))
      (funext fun e => (Cert.KernelIdeal.Ring.arg0_late m e).trans (hm e).1)
      (funext fun e => (Cert.KernelIdeal.Ring.arg1_late m e).trans (hm e).2.1) c ?_
    exact congrArg₂ (Cert.KernelIdeal.Ring.scaleOf (F := Ideal))
      ((Cert.KernelIdeal.Ring.arg2_late m c).trans (hm c).2.2.1)
      ((Cert.KernelIdeal.Ring.arg3_late m c).trans (hm c).2.2.2)
  · exact (θ_run Cert.ReferenceIdeal.defs _ _).mono (fun _ h => h 0)
      (Cert.ReferenceIdeal.Value.run (F := Ideal) m' ρ')

theorem claim : Cert.Claim := ⟨Cert.Kernel.Gen.facts, Cert.KernelIdeal.Gen.facts, Cert.ReferenceIdeal.Gen.facts,
  frame_kernel, frame_kernelIdeal, frame_referenceIdeal, preserves, algebraic⟩

end Cert.Proof

end
